-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg_factors [hPre_nonneg_factors : Cert.Pre_nonneg_factors.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg_factors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg_factors [hPre_nonneg_factors : Cert.Pre_nonneg_factors.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg_factors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_nonneg_factors [hKernelIdeal : Cert.KernelIdeal.Facts] [hPre_nonneg_factors : Cert.Pre_nonneg_factors.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg_factors m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_nonneg_factors [hReferenceIdeal : Cert.ReferenceIdeal.Facts] [hPre_nonneg_factors : Cert.Pre_nonneg_factors.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg_factors m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_nonneg_factors [hKernelIdeal : Cert.KernelIdeal.Facts] [hReferenceIdeal : Cert.ReferenceIdeal.Facts] [hPre_nonneg_factors : Cert.Pre_nonneg_factors.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg_factors m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_nonneg_factors : Cert.Pre_nonneg_factors.Facts),
    quiescent_Kernel (hKernel := hKernel)
    ∧ quiescent_KernelIdeal (hKernelIdeal := hKernelIdeal)
    ∧ quiescent_KernelIdeal_pre_nonneg_factors (hKernelIdeal := hKernelIdeal) (hPre_nonneg_factors := hPre_nonneg_factors)
    ∧ quiescent_ReferenceIdeal (hReferenceIdeal := hReferenceIdeal)
    ∧ quiescent_ReferenceIdeal_pre_nonneg_factors (hReferenceIdeal := hReferenceIdeal) (hPre_nonneg_factors := hPre_nonneg_factors)
    ∧ preserves_Kernel_KernelIdeal
    ∧ algebraic_KernelIdeal_ReferenceIdeal_pre_nonneg_factors (hKernelIdeal := hKernelIdeal) (hReferenceIdeal := hReferenceIdeal) (hPre_nonneg_factors := hPre_nonneg_factors)
-- ==== Pre_nonneg_factors.lean ====
abbrev S2x1024x32x128 : Shape := ⟨4, ![2, 1024, 32, 128]⟩
abbrev S2x32 : Shape := ⟨2, ![2, 32]⟩
abbrev S2x1024x8x128 : Shape := ⟨4, ![2, 1024, 8, 128]⟩
abbrev S2x8 : Shape := ⟨2, ![2, 8]⟩
abbrev S2x32x1024 : Shape := ⟨3, ![2, 32, 1024]⟩
abbrev S2x8x4 : Shape := ⟨3, ![2, 8, 4]⟩
abbrev S2x8x1 : Shape := ⟨3, ![2, 8, 1]⟩
abbrev S_ : Shape := ⟨0, ![]⟩

class Facts : Prop where
  shapeCasts_S2x32_S2x8x4 : S2x32.ShapeCasts S2x8x4
  bcast_S2x8_S2x8x1_0_1 : S2x8.BroadcastsInDim S2x8x1 (![0, 1] : Fin 2 → Fin S2x8x1.rank)
  bcast_S2x8x1_S2x8x4_0_1_2 : S2x8x1.BroadcastsInDim S2x8x4 (![0, 1, 2] : Fin 3 → Fin S2x8x4.rank)
  bcast_S_S2x8x4 : S_.BroadcastsInDim S2x8x4 (![] : Fin 0 → Fin S2x8x4.rank)

variable [Facts]

def fn {F : FTy → Type} [FloatOps F] (main_arg0 : FVec F S2x1024x32x128 .fp8e4m3) (main_arg1 : FVec F S2x32 .f32) (main_arg2 : FVec F S2x1024x8x128 .fp8e4m3) (main_arg3 : FVec F S2x8 .f32) (main_arg4 : FVec F S2x1024x8x128 .fp8e4m3) (main_arg5 : FVec F S2x8 .f32) (main_arg6 : FVec F S2x1024x32x128 .f32) (main_arg7 : FVec F S2x32x1024 .f32) (main_arg8 : FVec F S2x32x1024 .f32) : IVec S2x8x4 1 :=
  let main_v0 : FVec F S2x8x4 .f32 := shapeCast S2x8x4 main_arg1 shapeCasts_S2x32_S2x8x4
  let main_v1 : FVec F S2x8x1 .f32 := broadcastInDim S2x8x1 ![0, 1] bcast_S2x8_S2x8x1_0_1 main_arg3
  let main_v2 : FVec F S2x8x4 .f32 := broadcastInDim S2x8x4 ![0, 1, 2] bcast_S2x8x1_S2x8x4_0_1_2 main_v1
  let main_v3 : FVec F S2x8x4 .f32 := mulf main_v0 main_v2
  let main_cst : FVec F S_ .f32 := constant S_ .f32 0x00000000#32
  let main_v4 : FVec F S2x8x4 .f32 := broadcastInDim S2x8x4 ![] bcast_S_S2x8x4 main_cst
  let main_v5 : IVec S2x8x4 1 := cmpf .oge main_v3 main_v4
  main_v5
-- ==== Kernel.lean ====
abbrev S2x1024x32x128 : Shape := ⟨4, ![2, 1024, 32, 128]⟩
abbrev S2x32 : Shape := ⟨2, ![2, 32]⟩
abbrev S2x1024x8x128 : Shape := ⟨4, ![2, 1024, 8, 128]⟩
abbrev S2x8 : Shape := ⟨2, ![2, 8]⟩
abbrev S2x32x1024 : Shape := ⟨3, ![2, 32, 1024]⟩
abbrev S2x1024x8x4x128 : Shape := ⟨5, ![2, 1024, 8, 4, 128]⟩
abbrev S1x1024x32x128 : Shape := ⟨4, ![1, 1024, 32, 128]⟩
abbrev S1x1024x8x128 : Shape := ⟨4, ![1, 1024, 8, 128]⟩
abbrev S1x1024x1x4x128 : Shape := ⟨5, ![1, 1024, 1, 4, 128]⟩
abbrev S1x32x1024 : Shape := ⟨3, ![1, 32, 1024]⟩
abbrev S8x1024x128 : Shape := ⟨3, ![8, 1024, 128]⟩
abbrev S8x128x1024 : Shape := ⟨3, ![8, 128, 1024]⟩
abbrev S2x1024x256 : Shape := ⟨3, ![2, 1024, 256]⟩
abbrev S1x128x1x128 : Shape := ⟨4, ![1, 128, 1, 128]⟩
abbrev S128x128 : Shape := ⟨2, ![128, 128]⟩
abbrev S1x128x128 : Shape := ⟨3, ![1, 128, 128]⟩
abbrev S8x128 : Shape := ⟨2, ![8, 128]⟩
abbrev S1x1 : Shape := ⟨2, ![1, 1]⟩
abbrev S256x128 : Shape := ⟨2, ![256, 128]⟩
abbrev S8x1024 : Shape := ⟨2, ![8, 1024]⟩
abbrev S1x8x1024 : Shape := ⟨3, ![1, 8, 1024]⟩
abbrev S1x64x4x128 : Shape := ⟨4, ![1, 64, 4, 128]⟩
abbrev S64x4x128 : Shape := ⟨3, ![64, 4, 128]⟩
abbrev S1x64x128 : Shape := ⟨3, ![1, 64, 128]⟩
abbrev S64x128 : Shape := ⟨2, ![64, 128]⟩
abbrev S64x256 : Shape := ⟨2, ![64, 256]⟩
abbrev S1x64x256 : Shape := ⟨3, ![1, 64, 256]⟩
abbrev S128x256 : Shape := ⟨2, ![128, 256]⟩
abbrev S1x128x256 : Shape := ⟨3, ![1, 128, 256]⟩
abbrev S1x8x128 : Shape := ⟨3, ![1, 8, 128]⟩
abbrev S8x128x1 : Shape := ⟨3, ![8, 128, 1]⟩
abbrev S32x128 : Shape := ⟨2, ![32, 128]⟩
abbrev S1x32x128 : Shape := ⟨3, ![1, 32, 128]⟩
abbrev S1x128x64 : Shape := ⟨3, ![1, 128, 64]⟩
abbrev S128x64 : Shape := ⟨2, ![128, 64]⟩
abbrev S1x128 : Shape := ⟨2, ![1, 128]⟩
abbrev S4096x128 : Shape := ⟨2, ![4096, 128]⟩
abbrev S1x192x128 : Shape := ⟨3, ![1, 192, 128]⟩
abbrev S192x128 : Shape := ⟨2, ![192, 128]⟩
abbrev S192x256 : Shape := ⟨2, ![192, 256]⟩
abbrev S1x192x256 : Shape := ⟨3, ![1, 192, 256]⟩
abbrev S1x256x128 : Shape := ⟨3, ![1, 256, 128]⟩
abbrev S256x256 : Shape := ⟨2, ![256, 256]⟩
abbrev S1x256x256 : Shape := ⟨3, ![1, 256, 256]⟩
abbrev S1x128x192 : Shape := ⟨3, ![1, 128, 192]⟩
abbrev S128x192 : Shape := ⟨2, ![128, 192]⟩
abbrev S1x320x128 : Shape := ⟨3, ![1, 320, 128]⟩
abbrev S320x128 : Shape := ⟨2, ![320, 128]⟩
abbrev S320x256 : Shape := ⟨2, ![320, 256]⟩
abbrev S1x320x256 : Shape := ⟨3, ![1, 320, 256]⟩
abbrev S1x384x128 : Shape := ⟨3, ![1, 384, 128]⟩
abbrev S384x128 : Shape := ⟨2, ![384, 128]⟩
abbrev S384x256 : Shape := ⟨2, ![384, 256]⟩
abbrev S1x384x256 : Shape := ⟨3, ![1, 384, 256]⟩
abbrev S1x128x320 : Shape := ⟨3, ![1, 128, 320]⟩
abbrev S128x320 : Shape := ⟨2, ![128, 320]⟩
abbrev S1x448x128 : Shape := ⟨3, ![1, 448, 128]⟩
abbrev S448x128 : Shape := ⟨2, ![448, 128]⟩
abbrev S448x256 : Shape := ⟨2, ![448, 256]⟩
abbrev S1x448x256 : Shape := ⟨3, ![1, 448, 256]⟩
abbrev S1x128x384 : Shape := ⟨3, ![1, 128, 384]⟩
abbrev S128x384 : Shape := ⟨2, ![128, 384]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S1x128x448 : Shape := ⟨3, ![1, 128, 448]⟩
abbrev S128x448 : Shape := ⟨2, ![128, 448]⟩
abbrev S1x576x128 : Shape := ⟨3, ![1, 576, 128]⟩
abbrev S576x128 : Shape := ⟨2, ![576, 128]⟩
abbrev S576x256 : Shape := ⟨2, ![576, 256]⟩
abbrev S1x576x256 : Shape := ⟨3, ![1, 576, 256]⟩
abbrev S1x128x512 : Shape := ⟨3, ![1, 128, 512]⟩
abbrev S128x512 : Shape := ⟨2, ![128, 512]⟩
abbrev S1x640x128 : Shape := ⟨3, ![1, 640, 128]⟩
abbrev S640x128 : Shape := ⟨2, ![640, 128]⟩
abbrev S640x256 : Shape := ⟨2, ![640, 256]⟩
abbrev S1x640x256 : Shape := ⟨3, ![1, 640, 256]⟩
abbrev S1x128x576 : Shape := ⟨3, ![1, 128, 576]⟩
abbrev S128x576 : Shape := ⟨2, ![128, 576]⟩
abbrev S1x704x128 : Shape := ⟨3, ![1, 704, 128]⟩
abbrev S704x128 : Shape := ⟨2, ![704, 128]⟩
abbrev S704x256 : Shape := ⟨2, ![704, 256]⟩
abbrev S1x704x256 : Shape := ⟨3, ![1, 704, 256]⟩
abbrev S1x128x640 : Shape := ⟨3, ![1, 128, 640]⟩
abbrev S128x640 : Shape := ⟨2, ![128, 640]⟩
abbrev S1x768x128 : Shape := ⟨3, ![1, 768, 128]⟩
abbrev S768x128 : Shape := ⟨2, ![768, 128]⟩
abbrev S768x256 : Shape := ⟨2, ![768, 256]⟩
abbrev S1x768x256 : Shape := ⟨3, ![1, 768, 256]⟩
abbrev S1x128x704 : Shape := ⟨3, ![1, 128, 704]⟩
abbrev S128x704 : Shape := ⟨2, ![128, 704]⟩
abbrev S1x832x128 : Shape := ⟨3, ![1, 832, 128]⟩
abbrev S832x128 : Shape := ⟨2, ![832, 128]⟩
abbrev S832x256 : Shape := ⟨2, ![832, 256]⟩
abbrev S1x832x256 : Shape := ⟨3, ![1, 832, 256]⟩
abbrev S1x128x768 : Shape := ⟨3, ![1, 128, 768]⟩
abbrev S128x768 : Shape := ⟨2, ![128, 768]⟩
abbrev S1x896x128 : Shape := ⟨3, ![1, 896, 128]⟩
abbrev S896x128 : Shape := ⟨2, ![896, 128]⟩
abbrev S896x256 : Shape := ⟨2, ![896, 256]⟩
abbrev S1x896x256 : Shape := ⟨3, ![1, 896, 256]⟩
abbrev S1x128x832 : Shape := ⟨3, ![1, 128, 832]⟩
abbrev S128x832 : Shape := ⟨2, ![128, 832]⟩
abbrev S1x960x128 : Shape := ⟨3, ![1, 960, 128]⟩
abbrev S960x128 : Shape := ⟨2, ![960, 128]⟩
abbrev S960x256 : Shape := ⟨2, ![960, 256]⟩
abbrev S1x960x256 : Shape := ⟨3, ![1, 960, 256]⟩
abbrev S1x128x896 : Shape := ⟨3, ![1, 128, 896]⟩
abbrev S128x896 : Shape := ⟨2, ![128, 896]⟩
abbrev S1x1024x128 : Shape := ⟨3, ![1, 1024, 128]⟩
abbrev S1024x128 : Shape := ⟨2, ![1024, 128]⟩
abbrev S1024x256 : Shape := ⟨2, ![1024, 256]⟩
abbrev S1x1024x256 : Shape := ⟨3, ![1, 1024, 256]⟩
abbrev S1x128x960 : Shape := ⟨3, ![1, 128, 960]⟩
abbrev S128x960 : Shape := ⟨2, ![128, 960]⟩
abbrev S1x128x1024 : Shape := ⟨3, ![1, 128, 1024]⟩
abbrev S128x1024 : Shape := ⟨2, ![128, 1024]⟩

abbrev nBuf : Space → Nat
  | .hbm => 13
  | .vmem => 22
  | .smem => 3
  | _ => 0

abbrev bufTy : (tb : Table) → Fin (tcTables nBuf tb) → BufTy
  | .hbm, ⟨0, _⟩ => ⟨S2x1024x32x128, .fp8e4m3⟩
  | .hbm, ⟨1, _⟩ => ⟨S2x32, .f32⟩
  | .hbm, ⟨2, _⟩ => ⟨S2x1024x8x128, .fp8e4m3⟩
  | .hbm, ⟨3, _⟩ => ⟨S2x8, .f32⟩
  | .hbm, ⟨4, _⟩ => ⟨S2x1024x8x128, .fp8e4m3⟩
  | .hbm, ⟨5, _⟩ => ⟨S2x8, .f32⟩
  | .hbm, ⟨6, _⟩ => ⟨S2x1024x32x128, .f32⟩
  | .hbm, ⟨7, _⟩ => ⟨S2x32x1024, .f32⟩
  | .hbm, ⟨8, _⟩ => ⟨S2x32x1024, .f32⟩
  | .hbm, ⟨9, _⟩ => ⟨S2x1024x8x4x128, .f32⟩
  | .hbm, ⟨10, _⟩ => ⟨S2x1024x8x4x128, .f32⟩
  | .hbm, ⟨11, _⟩ => ⟨S2x32x1024, .f32⟩
  | .hbm, ⟨12, _⟩ => ⟨S2x32x1024, .f32⟩
  | .local _ .vmem, ⟨0, _⟩ => ⟨S1x1024x32x128, .fp8e4m3⟩
  | .local _ .vmem, ⟨1, _⟩ => ⟨S1x1024x32x128, .fp8e4m3⟩
  | .local _ .vmem, ⟨2, _⟩ => ⟨S1x1024x8x128, .fp8e4m3⟩
  | .local _ .vmem, ⟨3, _⟩ => ⟨S1x1024x8x128, .fp8e4m3⟩
  | .local _ .vmem, ⟨4, _⟩ => ⟨S1x1024x8x128, .fp8e4m3⟩
  | .local _ .vmem, ⟨5, _⟩ => ⟨S1x1024x8x128, .fp8e4m3⟩
  | .local _ .vmem, ⟨6, _⟩ => ⟨S1x1024x1x4x128, .f32⟩
  | .local _ .vmem, ⟨7, _⟩ => ⟨S1x1024x1x4x128, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x1024x1x4x128, .f32⟩
  | .local _ .vmem, ⟨13, _⟩ => ⟨S1x1024x1x4x128, .f32⟩
  | .local _ .vmem, ⟨14, _⟩ => ⟨S1x32x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x32x1024, .f32⟩
  | .local _ .vmem, ⟨18, _⟩ => ⟨S8x1024x128, .fp8e4m3⟩
  | .local _ .vmem, ⟨19, _⟩ => ⟨S8x128x1024, .fp8e4m3⟩
  | .local _ .vmem, ⟨20, _⟩ => ⟨S2x1024x256, .f32⟩
  | .local _ .vmem, ⟨21, _⟩ => ⟨S2x1024x256, .fp8e4m3⟩
  | .local _ .smem, ⟨0, _⟩ => ⟨S2x32, .f32⟩
  | .local _ .smem, ⟨1, _⟩ => ⟨S2x8, .f32⟩
  | .local _ .smem, ⟨2, _⟩ => ⟨S2x8, .f32⟩
  | _, _ => ⟨S2x1024x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9580 : BitVec 32 := 0#32
  let c8_i32_9581 : BitVec 32 := 8#32
  let v24278 : BitVec 32 := Scalar.addi c0_i32_9580 c8_i32_9581
  let c1_i32_9582 : BitVec 32 := 1#32
  ⟨c0_i32_9580, v24278, c1_i32_9582⟩
def k0_mult1 (k0_t1 : Fin k0_t1_loop.trips) : BitVec 32 :=
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  v24281
def k0_off1 (k0_t1 : Fin k0_t1_loop.trips) : Fin 4 → Nat :=
  let c0_9587 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24283 : Index := Scalar.indexCast v24282
  let c0_9588 : Index := 0#32
  let c0_9589 : Index := 0#32
  ![0, v24283.toNat, 0, 0]
def k0_off2 (k0_t1 : Fin k0_t1_loop.trips) : Fin 4 → Nat :=
  let c0_9590 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24286 : Index := Scalar.indexCast v24282
  let c1_9591 : Index := 1#32
  let c0_9592 : Index := 0#32
  ![0, v24286.toNat, 1, 0]
def k0_off3 (k0_t1 : Fin k0_t1_loop.trips) : Fin 4 → Nat :=
  let c0_9593 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24289 : Index := Scalar.indexCast v24282
  let c2 : Index := 2#32
  let c0_9594 : Index := 0#32
  ![0, v24289.toNat, 2, 0]
def k0_off4 (k0_t1 : Fin k0_t1_loop.trips) : Fin 4 → Nat :=
  let c0_9595 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24292 : Index := Scalar.indexCast v24282
  let c3 : Index := 3#32
  let c0_9596 : Index := 0#32
  ![0, v24292.toNat, 3, 0]
def k0_off5 (k0_t1 : Fin k0_t1_loop.trips) : Fin 4 → Nat :=
  let c0_9597 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24295 : Index := Scalar.indexCast v24282
  let c4 : Index := 4#32
  let c0_9598 : Index := 0#32
  ![0, v24295.toNat, 4, 0]
def k0_off6 (k0_t1 : Fin k0_t1_loop.trips) : Fin 4 → Nat :=
  let c0_9599 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24298 : Index := Scalar.indexCast v24282
  let c5 : Index := 5#32
  let c0_9600 : Index := 0#32
  ![0, v24298.toNat, 5, 0]
def k0_off7 (k0_t1 : Fin k0_t1_loop.trips) : Fin 4 → Nat :=
  let c0_9601 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24301 : Index := Scalar.indexCast v24282
  let c6 : Index := 6#32
  let c0_9602 : Index := 0#32
  ![0, v24301.toNat, 6, 0]
def k0_off8 (k0_t1 : Fin k0_t1_loop.trips) : Fin 4 → Nat :=
  let c0_9603 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24304 : Index := Scalar.indexCast v24282
  let c7 : Index := 7#32
  let c0_9604 : Index := 0#32
  ![0, v24304.toNat, 7, 0]
def k0_off9 (k0_t1 : Fin k0_t1_loop.trips) : Fin 3 → Nat :=
  let c0_9605 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24307 : Index := Scalar.indexCast v24282
  let c0_9606 : Index := 0#32
  ![0, v24307.toNat, 0]
def k0_off10 (k0_t1 : Fin k0_t1_loop.trips) : Fin 3 → Nat :=
  let c1_9607 : Index := 1#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24311 : Index := Scalar.indexCast v24282
  let c0_9608 : Index := 0#32
  ![1, v24311.toNat, 0]
def k0_off11 (k0_t1 : Fin k0_t1_loop.trips) : Fin 3 → Nat :=
  let c2_9609 : Index := 2#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24315 : Index := Scalar.indexCast v24282
  let c0_9610 : Index := 0#32
  ![2, v24315.toNat, 0]
def k0_off12 (k0_t1 : Fin k0_t1_loop.trips) : Fin 3 → Nat :=
  let c3_9611 : Index := 3#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24319 : Index := Scalar.indexCast v24282
  let c0_9612 : Index := 0#32
  ![3, v24319.toNat, 0]
def k0_off13 (k0_t1 : Fin k0_t1_loop.trips) : Fin 3 → Nat :=
  let c4_9613 : Index := 4#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24323 : Index := Scalar.indexCast v24282
  let c0_9614 : Index := 0#32
  ![4, v24323.toNat, 0]
def k0_off14 (k0_t1 : Fin k0_t1_loop.trips) : Fin 3 → Nat :=
  let c5_9615 : Index := 5#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24327 : Index := Scalar.indexCast v24282
  let c0_9616 : Index := 0#32
  ![5, v24327.toNat, 0]
def k0_off15 (k0_t1 : Fin k0_t1_loop.trips) : Fin 3 → Nat :=
  let c6_9617 : Index := 6#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24331 : Index := Scalar.indexCast v24282
  let c0_9618 : Index := 0#32
  ![6, v24331.toNat, 0]
def k0_off16 (k0_t1 : Fin k0_t1_loop.trips) : Fin 3 → Nat :=
  let c7_9619 : Index := 7#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24335 : Index := Scalar.indexCast v24282
  let c0_9620 : Index := 0#32
  ![7, v24335.toNat, 0]
def k0_off17 (k0_t1 : Fin k0_t1_loop.trips) : Fin 3 → Nat :=
  let c0_9645 : Index := 0#32
  let c0_9646 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24366 : Index := Scalar.indexCast v24282
  ![0, 0, v24366.toNat]
def k0_off18 (k0_t1 : Fin k0_t1_loop.trips) : Fin 3 → Nat :=
  let c1_9647 : Index := 1#32
  let c0_9648 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24373 : Index := Scalar.indexCast v24282
  ![1, 0, v24373.toNat]
def k0_off19 (k0_t1 : Fin k0_t1_loop.trips) : Fin 3 → Nat :=
  let c2_9649 : Index := 2#32
  let c0_9650 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24380 : Index := Scalar.indexCast v24282
  ![2, 0, v24380.toNat]
def k0_off20 (k0_t1 : Fin k0_t1_loop.trips) : Fin 3 → Nat :=
  let c3_9651 : Index := 3#32
  let c0_9652 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24387 : Index := Scalar.indexCast v24282
  ![3, 0, v24387.toNat]
def k0_off21 (k0_t1 : Fin k0_t1_loop.trips) : Fin 3 → Nat :=
  let c4_9653 : Index := 4#32
  let c0_9654 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24394 : Index := Scalar.indexCast v24282
  ![4, 0, v24394.toNat]
def k0_off22 (k0_t1 : Fin k0_t1_loop.trips) : Fin 3 → Nat :=
  let c5_9655 : Index := 5#32
  let c0_9656 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24401 : Index := Scalar.indexCast v24282
  ![5, 0, v24401.toNat]
def k0_off23 (k0_t1 : Fin k0_t1_loop.trips) : Fin 3 → Nat :=
  let c6_9657 : Index := 6#32
  let c0_9658 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24408 : Index := Scalar.indexCast v24282
  ![6, 0, v24408.toNat]
def k0_off24 (k0_t1 : Fin k0_t1_loop.trips) : Fin 3 → Nat :=
  let c7_9659 : Index := 7#32
  let c0_9660 : Index := 0#32
  let c0_i32_9585 : BitVec 32 := 0#32
  let c0_i32_9580 : BitVec 32 := 0#32
  let c1_i32_9582 : BitVec 32 := 1#32
  let arg18 : BitVec 32 := Scf.iv c0_i32_9580 c1_i32_9582 k0_t1
  let c1_i32_9584 : BitVec 32 := 1#32
  let v24279 : BitVec 32 := Scalar.muli arg18 c1_i32_9584
  let v24280 : BitVec 32 := Scalar.addi c0_i32_9585 v24279
  let c128_i32_9586 : BitVec 32 := 128#32
  let v24281 : BitVec 32 := Scalar.muli v24280 c128_i32_9586
  let v24282 : BitVec 32 := v24281
  let v24415 : Index := Scalar.indexCast v24282
  ![7, 0, v24415.toNat]
def k0_off25 (i : grid0.Coords) (c0_i32_19 : BitVec 32) : Fin 2 → Nat :=
  let arg0 : BitVec 32 := BitVec.ofNat 32 (i 0).val
  let v58 : Index := Scalar.indexCast arg0
  let arg1 : BitVec 32 := BitVec.ofNat 32 (i 1).val
  let c4_i32_18 : BitVec 32 := 4#32
  let v56 : BitVec 32 := Scalar.muli arg1 c4_i32_18
  let v57 : BitVec 32 := Scalar.addi v56 c0_i32_19
  let v59 : Index := Scalar.indexCast v57
  ![v58.toNat, v59.toNat]
def k0_off26 (i : grid0.Coords) : Fin 2 → Nat :=
  let arg0 : BitVec 32 := BitVec.ofNat 32 (i 0).val
  let v61 : Index := Scalar.indexCast arg0
  let arg1 : BitVec 32 := BitVec.ofNat 32 (i 1).val
  let v62 : Index := Scalar.indexCast arg1
  ![v61.toNat, v62.toNat]
def k0_mult2 (i : grid0.Coords) : BitVec 32 :=
  let c8_i32 : BitVec 32 := 8#32
  let arg1 : BitVec 32 := BitVec.ofNat 32 (i 1).val
  let c0_i32_55 : BitVec 32 := 0#32
  let v155 : BitVec 1 := Scalar.cmpi .sgt arg1 c0_i32_55
  let v156 : BitVec 32 := Scalar.extui v155
  let c0_i32_56 : BitVec 32 := 0#32
  let v157 : BitVec 1 := Scalar.cmpi .slt arg1 c0_i32_56
  let v158 : BitVec 32 := Scalar.extui v157
  let v159 : BitVec 32 := Scalar.subi v156 v158
  let c2_i32_54 : BitVec 32 := 2#32
  let c0_i32_57 : BitVec 32 := 0#32
  let v160 : BitVec 1 := Scalar.cmpi .sgt c2_i32_54 c0_i32_57
  let v161 : BitVec 32 := Scalar.extui v160
  let c0_i32_58 : BitVec 32 := 0#32
  let v162 : BitVec 1 := Scalar.cmpi .slt c2_i32_54 c0_i32_58
  let v163 : BitVec 32 := Scalar.extui v162
  let v164 : BitVec 32 := Scalar.subi v161 v163
  let v165 : BitVec 1 := Scalar.cmpi .ne v159 v164
  let v166 : BitVec 32 := Scalar.remsi arg1 c2_i32_54
  let c0_i32_59 : BitVec 32 := 0#32
  let v167 : BitVec 1 := Scalar.cmpi .ne v166 c0_i32_59
  let v168 : BitVec 1 := Scalar.andi v165 v167
  let v154 : BitVec 32 := Scalar.divsi arg1 c2_i32_54
  let c1_i32_60 : BitVec 32 := 1#32
  let v169 : BitVec 32 := Scalar.subi v154 c1_i32_60
  let v170 : BitVec 32 := Scalar.select v168 v169 v154
  let v171 : BitVec 32 := Scalar.muli c8_i32 v170
  v171
def k0_cond2 (i : grid0.Coords) : BitVec 1 :=
  let arg1 : BitVec 32 := BitVec.ofNat 32 (i 1).val
  let c2_i32_96 : BitVec 32 := 2#32
  let c0_i32_97 : BitVec 32 := 0#32
  let v281 : BitVec 1 := Scalar.cmpi .eq c2_i32_96 c0_i32_97
  let c1_i32_98 : BitVec 32 := 1#32
  let v282 : BitVec 32 := Scalar.select v281 c1_i32_98 c2_i32_96
  let v283 : BitVec 32 := Scalar.remsi arg1 v282
  let c0_i32_100 : BitVec 32 := 0#32
  let v285 : BitVec 1 := Scalar.cmpi .slt v283 c0_i32_100
  let c0_i32_101 : BitVec 32 := 0#32
  let v286 : BitVec 1 := Scalar.cmpi .slt v282 c0_i32_101
  let v287 : BitVec 1 := Scalar.xori v285 v286
  let c0_i32_99 : BitVec 32 := 0#32
  let v284 : BitVec 1 := Scalar.cmpi .ne v283 c0_i32_99
  let v288 : BitVec 1 := Scalar.andi v287 v284
  let v289 : BitVec 32 := Scalar.addi v283 v282
  let v290 : BitVec 32 := Scalar.select v288 v289 v283
  let c0_i32_102 : BitVec 32 := 0#32
  let v291 : BitVec 1 := Scalar.cmpi .eq v290 c0_i32_102
  let v292 : BitVec 32 := Scalar.extui v291
  let c0_i32_103 : BitVec 32 := 0#32
  let v293 : BitVec 1 := Scalar.cmpi .ne v292 c0_i32_103
  v293

def k0_off27 (i : grid0.Coords) : Fin 3 → Nat :=
  let c0_9581 : Index := 0#32
  let c8_i32 : BitVec 32 := 8#32
  let arg1 : BitVec 32 := BitVec.ofNat 32 (i 1).val
  let c0_i32_55 : BitVec 32 := 0#32
  let v155 : BitVec 1 := Scalar.cmpi .sgt arg1 c0_i32_55
  let v156 : BitVec 32 := Scalar.extui v155
  let c0_i32_56 : BitVec 32 := 0#32
  let v157 : BitVec 1 := Scalar.cmpi .slt arg1 c0_i32_56
  let v158 : BitVec 32 := Scalar.extui v157
  let v159 : BitVec 32 := Scalar.subi v156 v158
  let c2_i32_54 : BitVec 32 := 2#32
  let c0_i32_57 : BitVec 32 := 0#32
  let v160 : BitVec 1 := Scalar.cmpi .sgt c2_i32_54 c0_i32_57
  let v161 : BitVec 32 := Scalar.extui v160
  let c0_i32_58 : BitVec 32 := 0#32
  let v162 : BitVec 1 := Scalar.cmpi .slt c2_i32_54 c0_i32_58
  let v163 : BitVec 32 := Scalar.extui v162
  let v164 : BitVec 32 := Scalar.subi v161 v163
  let v165 : BitVec 1 := Scalar.cmpi .ne v159 v164
  let v166 : BitVec 32 := Scalar.remsi arg1 c2_i32_54
  let c0_i32_59 : BitVec 32 := 0#32
  let v167 : BitVec 1 := Scalar.cmpi .ne v166 c0_i32_59
  let v168 : BitVec 1 := Scalar.andi v165 v167
  let v154 : BitVec 32 := Scalar.divsi arg1 c2_i32_54
  let c1_i32_60 : BitVec 32 := 1#32
  let v169 : BitVec 32 := Scalar.subi v154 c1_i32_60
  let v170 : BitVec 32 := Scalar.select v168 v169 v154
  let v171 : BitVec 32 := Scalar.muli c8_i32 v170
  let v172 : BitVec 32 := v171
  let v24279 : Index := Scalar.indexCast v172
  let c0_9582 : Index := 0#32
  ![0, v24279.toNat, 0]
def k0_off28 (i : grid0.Coords) : Fin 4 → Nat :=
  let c0 : Index := 0#32
  let c0_105 : Index := 0#32
  let arg1 : BitVec 32 := BitVec.ofNat 32 (i 1).val
  let c4_i32_104 : BitVec 32 := 4#32
  let v294 : BitVec 32 := Scalar.muli arg1 c4_i32_104
  let v295 : Index := Scalar.indexCast v294
  let c0_106 : Index := 0#32
  ![0, 0, v295.toNat, 0]
def k0_off29 (i : grid0.Coords) : Fin 3 → Nat :=
  let arg1 : BitVec 32 := BitVec.ofNat 32 (i 1).val
  let v302 : Index := Scalar.indexCast arg1
  let c0_107 : Index := 0#32
  let c0_108 : Index := 0#32
  ![v302.toNat, 0, 0]
def k0_off30 (i : grid0.Coords) : Fin 4 → Nat :=
  let c0_122 : Index := 0#32
  let c64 : Index := 64#32
  let arg1 : BitVec 32 := BitVec.ofNat 32 (i 1).val
  let c4_i32_121 : BitVec 32 := 4#32
  let v349 : BitVec 32 := Scalar.muli arg1 c4_i32_121
  let v350 : Index := Scalar.indexCast v349
  let c0_123 : Index := 0#32
  ![0, 64, v350.toNat, 0]
def k0_off31 (i : grid0.Coords) : Fin 3 → Nat :=
  let arg1 : BitVec 32 := BitVec.ofNat 32 (i 1).val
  let v357 : Index := Scalar.indexCast arg1
  let c0_124 : Index := 0#32
  let c0_125 : Index := 0#32
  ![v357.toNat, 0, 0]
def k0_off32 (i : grid0.Coords) : Fin 3 → Nat :=
  let c0_137 : Index := 0#32
  let c8_i32 : BitVec 32 := 8#32
  let arg1 : BitVec 32 := BitVec.ofNat 32 (i 1).val
  let c0_i32_55 : BitVec 32 := 0#32
  let v155 : BitVec 1 := Scalar.cmpi .sgt arg1 c0_i32_55
  let v156 : BitVec 32 := Scalar.extui v155
  let c0_i32_56 : BitVec 32 := 0#32
  let v157 : BitVec 1 := Scalar.cmpi .slt arg1 c0_i32_56
  let v158 : BitVec 32 := Scalar.extui v157
  let v159 : BitVec 32 := Scalar.subi v156 v158
  let c2_i32_54 : BitVec 32 := 2#32
  let c0_i32_57 : BitVec 32 := 0#32
  let v160 : BitVec 1 := Scalar.cmpi .sgt c2_i32_54 c0_i32_57
  let v161 : BitVec 32 := Scalar.extui v160
  let c0_i32_58 : BitVec 32 := 0#32
  let v162 : BitVec 1 := Scalar.cmpi .slt c2_i32_54 c0_i32_58
  let v163 : BitVec 32 := Scalar.extui v162
  let v164 : BitVec 32 := Scalar.subi v161 v163
  let v165 : BitVec 1 := Scalar.cmpi .ne v159 v164
  let v166 : BitVec 32 := Scalar.remsi arg1 c2_i32_54
  let c0_i32_59 : BitVec 32 := 0#32
  let v167 : BitVec 1 := Scalar.cmpi .ne v166 c0_i32_59
  let v168 : BitVec 1 := Scalar.andi v165 v167
  let v154 : BitVec 32 := Scalar.divsi arg1 c2_i32_54
  let c1_i32_60 : BitVec 32 := 1#32
  let v169 : BitVec 32 := Scalar.subi v154 c1_i32_60
  let v170 : BitVec 32 := Scalar.select v168 v169 v154
  let v171 : BitVec 32 := Scalar.muli c8_i32 v170
  let v172 : BitVec 32 := v171
  let v436 : Index := Scalar.indexCast v172
  let c0_138 : Index := 0#32
  ![0, v436.toNat, 0]
def k0_off33 (i : grid0.Coords) : Fin 3 → Nat :=
  let arg1 : BitVec 32 := BitVec.ofNat 32 (i 1).val
  let v685 : Index := Scalar.indexCast arg1
  let c0_233 : Index := 0#32
  let c0_234 : Index := 0#32
  ![v685.toNat, 0, 0]
def k0_off34 (i : grid0.Coords) : Fin 4 → Nat :=
  let c0_248 : Index := 0#32
  let c128_249 : Index := 128#32
  let arg1 : BitVec 32 := BitVec.ofNat 32 (i 1).val
  let c4_i32_247 : BitVec 32 := 4#32
  let v721 : BitVec 32 := Scalar.muli arg1 c4_i32_247
  let v722 : Index := Scalar.indexCast v721
  let c0_250 : Index := 0#32
  ![0, 128, v722.toNat, 0]
def k0_off35 (i : grid0.Coords) : Fin 3 → Nat :=
  let arg1 : BitVec 32 := BitVec.ofNat 32 (i 1).val
  let v729 : Index := Scalar.indexCast arg1
  let c0_251 : Index := 0#32
  let c0_252 : Index := 0#32
  ![v729.toNat, 0, 0]
def k0_off36 (i : grid0.Coords) : Fin 3 → Nat :=
  let arg1 : BitVec 32 := BitVec.ofNat 32 (i 1).val
  let v1205 : Index := Scalar.indexCast arg1
  let c0_421 : Index := 0#32
  let c0_422 : Index := 0#32
  ![v1205.toNat, 0, 0]
def k0_off37 (i : grid0.Coords) : Fin 4 → Nat :=
  let c0_464 : Index := 0#32
  let c192 : Index := 192#32
  let arg1 : BitVec 32 := BitVec.ofNat 32 (i 1).val
  let c4_i32_463 : BitVec 32 := 4#32
  let v1339 : BitVec 32 := Scalar.muli arg1 c4_i32_463
  let v1340 : Index := Scalar.indexCast v1339
  let c0_465 : Index := 0#32
  ![0, 192, v1340.toNat, 0]
def k0_off38 (i : grid0.Coords) : Fin 3 → Nat :=
  let arg1 : BitVec 32 := BitVec.ofNat 32 (i 1).val
  let v1347 : Index := Scalar.indexCast arg1
  let c0_466 : Index := 0#32
  let c0_467 : Index := 0#32
  ![v1347.toNat, 0, 0]
def k0_off39 (i : grid0.Coords) : Fin 3 → Nat :=
  let c0_480 : Index := 0#32
  let c8_i32 : BitVec 32 := 8#32
  let arg1 : BitVec 32 := BitVec.ofNat 32 (i 1).val
  let c0_i32_55 : BitVec 32 := 0#32
  let v155 : BitVec 1 := Scalar.cmpi .sgt arg1 c0_i32_55
  let v156 : BitVec 32 := Scalar.extui v155
  let c0_i32_56 : BitVec 32 := 0#32
  let v157 : BitVec 1 := Scalar.cmpi .slt arg1 c0_i32_56
  let v158 : BitVec 32 := Scalar.extui v157
  let v159 : BitVec 32 := Scalar.subi v156 v158
  let c2_i32_54 : BitVec 32 := 2#32
  let c0_i32_57 : BitVec 32 := 0#32
  let v160 : BitVec 1 := Scalar.cmpi .sgt c2_i32_54 c0_i32_57
  let v161 : BitVec 32 := Scalar.extui v160
  let c0_i32_58 : BitVec 32 := 0#32
  let v162 : BitVec 1 := Scalar.cmpi .slt c2_i32_54 c0_i32_58
  let v163 : BitVec 32 := Scalar.extui v162
  let v164 : BitVec 32 := Scalar.subi v161 v163
  let v165 : BitVec 1 := Scalar.cmpi .ne v159 v164
  let v166 : BitVec 32 := Scalar.remsi arg1 c2_i32_54
  let c0_i32_59 : BitVec 32 := 0#32
  let v167 : BitVec 1 := Scalar.cmpi .ne v166 c0_i32_59
  let v168 : BitVec 1 := Scalar.andi v165 v167
  let v154 : BitVec 32 := Scalar.divsi arg1 c2_i32_54
  let c1_i32_60 : BitVec 32 := 1#32
  let v169 : BitVec 32 := Scalar.subi v154 c1_i32_60
  let v170 : BitVec 32 := Scalar.select v168 v169 v154
  let v171 : BitVec 32 := Scalar.muli c8_i32 v170
  let v172 : BitVec 32 := v171
  let v1490 : Index := Scalar.indexCast v172
  let c128_481 : Index := 128#32
  ![0, v1490.toNat, 128]
def k0_off40 (i : grid0.Coords) : Fin 3 → Nat :=
  let arg1 : BitVec 32 := BitVec.ofNat 32 (i 1).val
  let v1971 : Index := Scalar.indexCast arg1
  let c0_698 : Index := 0#32
  let c0_699 : Index := 0#32
  ![v1971.toNat, 0, 0]
def k0_off41 (i : grid0.Coords) : Fin 4 → Nat :=
  let c0_711 : Index := 0#32
  let c256_712 : Index := 256#32
  let arg1 : BitVec 32 := BitVec.ofNat 32 (i 1).val
  let c4_i32_710 : BitVec 32 := 4#32
  let v2007 : BitVec 32 := Scalar.muli arg1 c4_i32_710
  let v2008 : Index := Scalar.indexCast v2007
  let c0_713 : Index := 0#32
  ![0, 256, v2008.toNat, 0]
def k0_off42 (i : grid0.Coords) : Fin 3 → Nat :=
  let arg1 : BitVec 32 := BitVec.ofNat 32 (i 1).val
  let v2015 : Index := Scalar.indexCast arg1
  let c0_714 : Index := 0#32
  let c0_715 : Index := 0#32
  ![v2015.toNat, 0, 0]
def k0_off43 (i : grid0.Coords) : Fin 3 → Nat :=
  let arg1 : BitVec 32 := BitVec.ofNat 32 (i 1).val
  let v2787 : Index := Scalar.indexCast arg1
  let c0_1006 : Index := 0#32
  let c0_1007 : Index := 0#32
  ![v2787.toNat, 0, 0]
def k0_off44 (i : grid0.Coords) : Fin 4 → Nat :=
  let c0_1049 : Index := 0#32
  let c320 : Index := 320#32
  let arg1 : BitVec 32 := BitVec.ofNat 32 (i 1).val
  let c4_i32_1048 : BitVec 32 := 4#32
  let v2921 : BitVec 32 := Scalar.muli arg1 c4_i32_1048
  let v2922 : Index := Scalar.indexCast v2921
  let c0_1050 : Index := 0#32
  ![0, 320, v2922.toNat, 0]
def k0_off45 (i : grid0.Coords) : Fin 3 → Nat :=
  let arg1 : BitVec 32 := BitVec.ofNat 32 (i 1).val
  let v2929 : Index := Scalar.indexCast arg1
  let c0_1051 : Index := 0#32
  let c0_1052 : Index := 0#32
  ![v2929.toNat, 0, 0]
def k0_off46 (i : grid0.Coords) : Fin 3 → Nat :=
  let c0_1065 : Index := 0#32
  let c8_i32 : BitVec 32 := 8#32
  let arg1 : BitVec 32 := BitVec.ofNat 32 (i 1).val
  let c0_i32_55 : BitVec 32 := 0#32
  let v155 : BitVec 1 := Scalar.cmpi .sgt arg1 c0_i32_55
  let v156 : BitVec 32 := Scalar.extui v155
  let c0_i32_56 : BitVec 32 := 0#32
  let v157 : BitVec 1 := Scalar.cmpi .slt arg1 c0_i32_56
  let v158 : BitVec 32 := Scalar.extui v157
  let v159 : BitVec 32 := Scalar.subi v156 v158
  let c2_i32_54 : BitVec 32 := 2#32
  let c0_i32_57 : BitVec 32 := 0#32
  let v160 : BitVec 1 := Scalar.cmpi .sgt c2_i32_54 c0_i32_57
  let v161 : BitVec 32 := Scalar.extui v160
  let c0_i32_58 : BitVec 32 := 0#32
  let v162 : BitVec 1 := Scalar.cmpi .slt c2_i32_54 c0_i32_58
  let v163 : BitVec 32 := Scalar.extui v162
  let v164 : BitVec 32 := Scalar.subi v161 v163
  let v165 : BitVec 1 := Scalar.cmpi .ne v159 v164
  let v166 : BitVec 32 := Scalar.remsi arg1 c2_i32_54
  let c0_i32_59 : BitVec 32 := 0#32
  let v167 : BitVec 1 := Scalar.cmpi .ne v166 c0_i32_59
  let v168 : BitVec 1 := Scalar.andi v165 v167
  let v154 : BitVec 32 := Scalar.divsi arg1 c2_i32_54
  let c1_i32_60 : BitVec 32 := 1#32
  let v169 : BitVec 32 := Scalar.subi v154 c1_i32_60
  let v170 : BitVec 32 := Scalar.select v168 v169 v154
  let v171 : BitVec 32 := Scalar.muli c8_i32 v170
  let v172 : BitVec 32 := v171
  let v3136 : Index := Scalar.indexCast v172
  let c256_1066 : Index := 256#32
  ![0, v3136.toNat, 256]
def k0_off47 (i : grid0.Coords) : Fin 3 → Nat :=
  let arg1 : BitVec 32 := BitVec.ofNat 32 (i 1).val
  let v3849 : Index := Scalar.indexCast arg1
  let c0_1403 : Index := 0#32
  let c0_1404 : Index := 0#32
  ![v3849.toNat, 0, 0]
def k0_off48 (i : grid0.Coords) : Fin 4 → Nat :=
  let c0_1416 : Index := 0#32
  let c384_1417 : Index := 384#32
  let arg1 : BitVec 32 := BitVec.ofNat 32 (i 1).val
  let c4_i32_1415 : BitVec 32 := 4#32
  let v3885 : BitVec 32 := Scalar.muli arg1 c4_i32_1415
  let v3886 : Index := Scalar.indexCast v3885
  let c0_1418 : Index := 0#32
  ![0, 384, v3886.toNat, 0]
def k0_off49 (i : grid0.Coords) : Fin 3 → Nat :=
  let arg1 : BitVec 32 := BitVec.ofNat 32 (i 1).val
  let v3893 : Index := Scalar.indexCast arg1
  let c0_1419 : Index := 0#32
  let c0_1420 : Index := 0#32
  ![v3893.toNat, 0, 0]
def k0_off50 (i : grid0.Coords) : Fin 3 → Nat :=
  let arg1 : BitVec 32 := BitVec.ofNat 32 (i 1).val
  let v4961 : Index := Scalar.indexCast arg1
  let c0_1831 : Index := 0#32
  let c0_1832 : Index := 0#32
  ![v4961.toNat, 0, 0]
def k0_off51 (i : grid0.Coords) : Fin 4 → Nat :=
  let c0_1874 : Index := 0#32
  let c448 : Index := 448#32
  let arg1 : BitVec 32 := BitVec.ofNat 32 (i 1).val
  let c4_i32_1873 : BitVec 32 := 4#32
  let v5095 : BitVec 32 := Scalar.muli arg1 c4_i32_1873
  let v5096 : Index := Scalar.indexCast v5095
  let c0_1875 : Index := 0#32
  ![0, 448, v5096.toNat, 0]
def k0_off52 (i : grid0.Coords) : Fin 3 → Nat :=
  let arg1 : BitVec 32 := BitVec.ofNat 32 (i 1).val
  let v5103 : Index := Scalar.indexCast arg1
  let c0_1876 : Index := 0#32
  let c0_1877 : Index := 0#32
  ![v5103.toNat, 0, 0]
def k0_off53 (i : grid0.Coords) : Fin 3 → Nat :=
  let c0_1890 : Index := 0#32
  let c8_i32 : BitVec 32 := 8#32
  let arg1 : BitVec 32 := BitVec.ofNat 32 (i 1).val
  let c0_i32_55 : BitVec 32 := 0#32
  let v155 : BitVec 1 := Scalar.cmpi .sgt arg1 c0_i32_55
  let v156 : BitVec 32 := Scalar.extui v155
  let c0_i32_56 : BitVec 32 := 0#32
  let v157 : BitVec 1 := Scalar.cmpi .slt arg1 c0_i32_56
  let v158 : BitVec 32 := Scalar.extui v157
  let v159 : BitVec 32 := Scalar.subi v156 v158
  let c2_i32_54 : BitVec 32 := 2#32
  let c0_i32_57 : BitVec 32 := 0#32
  let v160 : BitVec 1 := Scalar.cmpi .sgt c2_i32_54 c0_i32_57
  let v161 : BitVec 32 := Scalar.extui v160
  let c0_i32_58 : BitVec 32 := 0#32
  let v162 : BitVec 1 := Scalar.cmpi .slt c2_i32_54 c0_i32_58
  let v163 : BitVec 32 := Scalar.extui v162
  let v164 : BitVec 32 := Scalar.subi v161 v163
  let v165 : BitVec 1 := Scalar.cmpi .ne v159 v164
  let v166 : BitVec 32 := Scalar.remsi arg1 c2_i32_54
  let c0_i32_59 : BitVec 32 := 0#32
  let v167 : BitVec 1 := Scalar.cmpi .ne v166 c0_i32_59
  let v168 : BitVec 1 := Scalar.andi v165 v167
  let v154 : BitVec 32 := Scalar.divsi arg1 c2_i32_54
  let c1_i32_60 : BitVec 32 := 1#32
  let v169 : BitVec 32 := Scalar.subi v154 c1_i32_60
  let v170 : BitVec 32 := Scalar.select v168 v169 v154
  let v171 : BitVec 32 := Scalar.muli c8_i32 v170
  let v172 : BitVec 32 := v171
  let v5374 : Index := Scalar.indexCast v172
  let c384_1891 : Index := 384#32
  ![0, v5374.toNat, 384]
def k0_off54 (i : grid0.Coords) : Fin 3 → Nat :=
  let arg1 : BitVec 32 := BitVec.ofNat 32 (i 1).val
  let v6319 : Index := Scalar.indexCast arg1
  let c0_2348 : Index := 0#32
  let c0_2349 : Index := 0#32
  ![v6319.toNat, 0, 0]
def k0_off55 (i : grid0.Coords) : Fin 4 → Nat :=
  let c0_2361 : Index := 0#32
  let c512_2362 : Index := 512#32
  let arg1 : BitVec 32 := BitVec.ofNat 32 (i 1).val
  let c4_i32_2360 : BitVec 32 := 4#32
  let v6355 : BitVec 32 := Scalar.muli arg1 c4_i32_2360
  let v6356 : Index := Scalar.indexCast v6355
  let c0_2363 : Index := 0#32
  ![0, 512, v6356.toNat, 0]
def k0_off56 (i : grid0.Coords) : Fin 3 → Nat :=
  let arg1 : BitVec 32 := BitVec.ofNat 32 (i 1).val
  let v6363 : Index := Scalar.indexCast arg1
  let c0_2364 : Index := 0#32
  let c0_2365 : Index := 0#32
  ![v6363.toNat, 0, 0]
def k0_off57 (i : grid0.Coords) : Fin 3 → Nat :=
  let arg1 : BitVec 32 := BitVec.ofNat 32 (i 1).val
  let v7727 : Index := Scalar.indexCast arg1
  let c0_2896 : Index := 0#32
  let c0_2897 : Index := 0#32
  ![v7727.toNat, 0, 0]
def k0_off58 (i : grid0.Coords) : Fin 4 → Nat :=
  let c0_2939 : Index := 0#32
  let c576 : Index := 576#32
  let arg1 : BitVec 32 := BitVec.ofNat 32 (i 1).val
  let c4_i32_2938 : BitVec 32 := 4#32
  let v7861 : BitVec 32 := Scalar.muli arg1 c4_i32_2938
  let v7862 : Index := Scalar.indexCast v7861
  let c0_2940 : Index := 0#32
  ![0, 576, v7862.toNat, 0]
def k0_off59 (i : grid0.Coords) : Fin 3 → Nat :=
  let arg1 : BitVec 32 := BitVec.ofNat 32 (i 1).val
  let v7869 : Index := Scalar.indexCast arg1
  let c0_2941 : Index := 0#32
  let c0_2942 : Index := 0#32
  ![v7869.toNat, 0, 0]
def k0_off60 (i : grid0.Coords) : Fin 3 → Nat :=
  let c0_2955 : Index := 0#32
  let c8_i32 : BitVec 32 := 8#32
  let arg1 : BitVec 32 := BitVec.ofNat 32 (i 1).val
  let c0_i32_55 : BitVec 32 := 0#32
  let v155 : BitVec 1 := Scalar.cmpi .sgt arg1 c0_i32_55
  let v156 : BitVec 32 := Scalar.extui v155
  let c0_i32_56 : BitVec 32 := 0#32
  let v157 : BitVec 1 := Scalar.cmpi .slt arg1 c0_i32_56
  let v158 : BitVec 32 := Scalar.extui v157
  let v159 : BitVec 32 := Scalar.subi v156 v158
  let c2_i32_54 : BitVec 32 := 2#32
  let c0_i32_57 : BitVec 32 := 0#32
  let v160 : BitVec 1 := Scalar.cmpi .sgt c2_i32_54 c0_i32_57
  let v161 : BitVec 32 := Scalar.extui v160
  let c0_i32_58 : BitVec 32 := 0#32
  let v162 : BitVec 1 := Scalar.cmpi .slt c2_i32_54 c0_i32_58
  let v163 : BitVec 32 := Scalar.extui v162
  let v164 : BitVec 32 := Scalar.subi v161 v163
  let v165 : BitVec 1 := Scalar.cmpi .ne v159 v164
  let v166 : BitVec 32 := Scalar.remsi arg1 c2_i32_54
  let c0_i32_59 : BitVec 32 := 0#32
  let v167 : BitVec 1 := Scalar.cmpi .ne v166 c0_i32_59
  let v168 : BitVec 1 := Scalar.andi v165 v167
  let v154 : BitVec 32 := Scalar.divsi arg1 c2_i32_54
  let c1_i32_60 : BitVec 32 := 1#32
  let v169 : BitVec 32 := Scalar.subi v154 c1_i32_60
  let v170 : BitVec 32 := Scalar.select v168 v169 v154
  let v171 : BitVec 32 := Scalar.muli c8_i32 v170
  let v172 : BitVec 32 := v171
  let v8204 : Index := Scalar.indexCast v172
  let c512_2956 : Index := 512#32
  ![0, v8204.toNat, 512]
def k0_off61 (i : grid0.Coords) : Fin 3 → Nat :=
  let arg1 : BitVec 32 := BitVec.ofNat 32 (i 1).val
  let v9381 : Index := Scalar.indexCast arg1
  let c0_3533 : Index := 0#32
  let c0_3534 : Index := 0#32
  ![v9381.toNat, 0, 0]
def k0_off62 (i : grid0.Coords) : Fin 4 → Nat :=
  let c0_3546 : Index := 0#32
  let c640_3547 : Index := 640#32
  let arg1 : BitVec 32 := BitVec.ofNat 32 (i 1).val
  let c4_i32_3545 : BitVec 32 := 4#32
  let v9417 : BitVec 32 := Scalar.muli arg1 c4_i32_3545
  let v9418 : Index := Scalar.indexCast v9417
  let c0_3548 : Index := 0#32
  ![0, 640, v9418.toNat, 0]
def k0_off63 (i : grid0.Coords) : Fin 3 → Nat :=
  let arg1 : BitVec 32 := BitVec.ofNat 32 (i 1).val
  let v9425 : Index := Scalar.indexCast arg1
  let c0_3549 : Index := 0#32
  let c0_3550 : Index := 0#32
  ![v9425.toNat, 0, 0]
def k0_off64 (i : grid0.Coords) : Fin 3 → Nat :=
  let arg1 : BitVec 32 := BitVec.ofNat 32 (i 1).val
  let v11085 : Index := Scalar.indexCast arg1
  let c0_4201 : Index := 0#32
  let c0_4202 : Index := 0#32
  ![v11085.toNat, 0, 0]
def k0_off65 (i : grid0.Coords) : Fin 4 → Nat :=
  let c0_4244 : Index := 0#32
  let c704 : Index := 704#32
  let arg1 : BitVec 32 := BitVec.ofNat 32 (i 1).val
  let c4_i32_4243 : BitVec 32 := 4#32
  let v11219 : BitVec 32 := Scalar.muli arg1 c4_i32_4243
  let v11220 : Index := Scalar.indexCast v11219
  let c0_4245 : Index := 0#32
  ![0, 704, v11220.toNat, 0]
def k0_off66 (i : grid0.Coords) : Fin 3 → Nat :=
  let arg1 : BitVec 32 := BitVec.ofNat 32 (i 1).val
  let v11227 : Index := Scalar.indexCast arg1
  let c0_4246 : Index := 0#32
  let c0_4247 : Index := 0#32
  ![v11227.toNat, 0, 0]
def k0_off67 (i : grid0.Coords) : Fin 3 → Nat :=
  let c0_4260 : Index := 0#32
  let c8_i32 : BitVec 32 := 8#32
  let arg1 : BitVec 32 := BitVec.ofNat 32 (i 1).val
  let c0_i32_55 : BitVec 32 := 0#32
  let v155 : BitVec 1 := Scalar.cmpi .sgt arg1 c0_i32_55
  let v156 : BitVec 32 := Scalar.extui v155
  let c0_i32_56 : BitVec 32 := 0#32
  let v157 : BitVec 1 := Scalar.cmpi .slt arg1 c0_i32_56
  let v158 : BitVec 32 := Scalar.extui v157
  let v159 : BitVec 32 := Scalar.subi v156 v158
  let c2_i32_54 : BitVec 32 := 2#32
  let c0_i32_57 : BitVec 32 := 0#32
  let v160 : BitVec 1 := Scalar.cmpi .sgt c2_i32_54 c0_i32_57
  let v161 : BitVec 32 := Scalar.extui v160
  let c0_i32_58 : BitVec 32 := 0#32
  let v162 : BitVec 1 := Scalar.cmpi .slt c2_i32_54 c0_i32_58
  let v163 : BitVec 32 := Scalar.extui v162
  let v164 : BitVec 32 := Scalar.subi v161 v163
  let v165 : BitVec 1 := Scalar.cmpi .ne v159 v164
  let v166 : BitVec 32 := Scalar.remsi arg1 c2_i32_54
  let c0_i32_59 : BitVec 32 := 0#32
  let v167 : BitVec 1 := Scalar.cmpi .ne v166 c0_i32_59
  let v168 : BitVec 1 := Scalar.andi v165 v167
  let v154 : BitVec 32 := Scalar.divsi arg1 c2_i32_54
  let c1_i32_60 : BitVec 32 := 1#32
  let v169 : BitVec 32 := Scalar.subi v154 c1_i32_60
  let v170 : BitVec 32 := Scalar.select v168 v169 v154
  let v171 : BitVec 32 := Scalar.muli c8_i32 v170
  let v172 : BitVec 32 := v171
  let v11626 : Index := Scalar.indexCast v172
  let c640_4261 : Index := 640#32
  ![0, v11626.toNat, 640]
def k0_off68 (i : grid0.Coords) : Fin 3 → Nat :=
  let arg1 : BitVec 32 := BitVec.ofNat 32 (i 1).val
  let v13035 : Index := Scalar.indexCast arg1
  let c0_4958 : Index := 0#32
  let c0_4959 : Index := 0#32
  ![v13035.toNat, 0, 0]
def k0_off69 (i : grid0.Coords) : Fin 4 → Nat :=
  let c0_4971 : Index := 0#32
  let c768_4972 : Index := 768#32
  let arg1 : BitVec 32 := BitVec.ofNat 32 (i 1).val
  let c4_i32_4970 : BitVec 32 := 4#32
  let v13071 : BitVec 32 := Scalar.muli arg1 c4_i32_4970
  let v13072 : Index := Scalar.indexCast v13071
  let c0_4973 : Index := 0#32
  ![0, 768, v13072.toNat, 0]
def k0_off70 (i : grid0.Coords) : Fin 3 → Nat :=
  let arg1 : BitVec 32 := BitVec.ofNat 32 (i 1).val
  let v13079 : Index := Scalar.indexCast arg1
  let c0_4974 : Index := 0#32
  let c0_4975 : Index := 0#32
  ![v13079.toNat, 0, 0]
def k0_off71 (i : grid0.Coords) : Fin 3 → Nat :=
  let arg1 : BitVec 32 := BitVec.ofNat 32 (i 1).val
  let v15035 : Index := Scalar.indexCast arg1
  let c0_5746 : Index := 0#32
  let c0_5747 : Index := 0#32
  ![v15035.toNat, 0, 0]
def k0_off72 (i : grid0.Coords) : Fin 4 → Nat :=
  let c0_5789 : Index := 0#32
  let c832 : Index := 832#32
  let arg1 : BitVec 32 := BitVec.ofNat 32 (i 1).val
  let c4_i32_5788 : BitVec 32 := 4#32
  let v15169 : BitVec 32 := Scalar.muli arg1 c4_i32_5788
  let v15170 : Index := Scalar.indexCast v15169
  let c0_5790 : Index := 0#32
  ![0, 832, v15170.toNat, 0]
def k0_off73 (i : grid0.Coords) : Fin 3 → Nat :=
  let arg1 : BitVec 32 := BitVec.ofNat 32 (i 1).val
  let v15177 : Index := Scalar.indexCast arg1
  let c0_5791 : Index := 0#32
  let c0_5792 : Index := 0#32
  ![v15177.toNat, 0, 0]
def k0_off74 (i : grid0.Coords) : Fin 3 → Nat :=
  let c0_5805 : Index := 0#32
  let c8_i32 : BitVec 32 := 8#32
  let arg1 : BitVec 32 := BitVec.ofNat 32 (i 1).val
  let c0_i32_55 : BitVec 32 := 0#32
  let v155 : BitVec 1 := Scalar.cmpi .sgt arg1 c0_i32_55
  let v156 : BitVec 32 := Scalar.extui v155
  let c0_i32_56 : BitVec 32 := 0#32
  let v157 : BitVec 1 := Scalar.cmpi .slt arg1 c0_i32_56
  let v158 : BitVec 32 := Scalar.extui v157
  let v159 : BitVec 32 := Scalar.subi v156 v158
  let c2_i32_54 : BitVec 32 := 2#32
  let c0_i32_57 : BitVec 32 := 0#32
  let v160 : BitVec 1 := Scalar.cmpi .sgt c2_i32_54 c0_i32_57
  let v161 : BitVec 32 := Scalar.extui v160
  let c0_i32_58 : BitVec 32 := 0#32
  let v162 : BitVec 1 := Scalar.cmpi .slt c2_i32_54 c0_i32_58
  let v163 : BitVec 32 := Scalar.extui v162
  let v164 : BitVec 32 := Scalar.subi v161 v163
  let v165 : BitVec 1 := Scalar.cmpi .ne v159 v164
  let v166 : BitVec 32 := Scalar.remsi arg1 c2_i32_54
  let c0_i32_59 : BitVec 32 := 0#32
  let v167 : BitVec 1 := Scalar.cmpi .ne v166 c0_i32_59
  let v168 : BitVec 1 := Scalar.andi v165 v167
  let v154 : BitVec 32 := Scalar.divsi arg1 c2_i32_54
  let c1_i32_60 : BitVec 32 := 1#32
  let v169 : BitVec 32 := Scalar.subi v154 c1_i32_60
  let v170 : BitVec 32 := Scalar.select v168 v169 v154
  let v171 : BitVec 32 := Scalar.muli c8_i32 v170
  let v172 : BitVec 32 := v171
  let v15640 : Index := Scalar.indexCast v172
  let c768_5806 : Index := 768#32
  ![0, v15640.toNat, 768]
def k0_off75 (i : grid0.Coords) : Fin 3 → Nat :=
  let arg1 : BitVec 32 := BitVec.ofNat 32 (i 1).val
  let v17281 : Index := Scalar.indexCast arg1
  let c0_6623 : Index := 0#32
  let c0_6624 : Index := 0#32
  ![v17281.toNat, 0, 0]
def k0_off76 (i : grid0.Coords) : Fin 4 → Nat :=
  let c0_6636 : Index := 0#32
  let c896_6637 : Index := 896#32
  let arg1 : BitVec 32 := BitVec.ofNat 32 (i 1).val
  let c4_i32_6635 : BitVec 32 := 4#32
  let v17317 : BitVec 32 := Scalar.muli arg1 c4_i32_6635
  let v17318 : Index := Scalar.indexCast v17317
  let c0_6638 : Index := 0#32
  ![0, 896, v17318.toNat, 0]
def k0_off77 (i : grid0.Coords) : Fin 3 → Nat :=
  let arg1 : BitVec 32 := BitVec.ofNat 32 (i 1).val
  let v17325 : Index := Scalar.indexCast arg1
  let c0_6639 : Index := 0#32
  let c0_6640 : Index := 0#32
  ![v17325.toNat, 0, 0]
def k0_off78 (i : grid0.Coords) : Fin 3 → Nat :=
  let arg1 : BitVec 32 := BitVec.ofNat 32 (i 1).val
  let v19577 : Index := Scalar.indexCast arg1
  let c0_7531 : Index := 0#32
  let c0_7532 : Index := 0#32
  ![v19577.toNat, 0, 0]
def k0_off79 (i : grid0.Coords) : Fin 4 → Nat :=
  let c0_7574 : Index := 0#32
  let c960 : Index := 960#32
  let arg1 : BitVec 32 := BitVec.ofNat 32 (i 1).val
  let c4_i32_7573 : BitVec 32 := 4#32
  let v19711 : BitVec 32 := Scalar.muli arg1 c4_i32_7573
  let v19712 : Index := Scalar.indexCast v19711
  let c0_7575 : Index := 0#32
  ![0, 960, v19712.toNat, 0]
def k0_off80 (i : grid0.Coords) : Fin 3 → Nat :=
  let arg1 : BitVec 32 := BitVec.ofNat 32 (i 1).val
  let v19719 : Index := Scalar.indexCast arg1
  let c0_7576 : Index := 0#32
  let c0_7577 : Index := 0#32
  ![v19719.toNat, 0, 0]
def k0_off81 (i : grid0.Coords) : Fin 3 → Nat :=
  let c0_7590 : Index := 0#32
  let c8_i32 : BitVec 32 := 8#32
  let arg1 : BitVec 32 := BitVec.ofNat 32 (i 1).val
  let c0_i32_55 : BitVec 32 := 0#32
  let v155 : BitVec 1 := Scalar.cmpi .sgt arg1 c0_i32_55
  let v156 : BitVec 32 := Scalar.extui v155
  let c0_i32_56 : BitVec 32 := 0#32
  let v157 : BitVec 1 := Scalar.cmpi .slt arg1 c0_i32_56
  let v158 : BitVec 32 := Scalar.extui v157
  let v159 : BitVec 32 := Scalar.subi v156 v158
  let c2_i32_54 : BitVec 32 := 2#32
  let c0_i32_57 : BitVec 32 := 0#32
  let v160 : BitVec 1 := Scalar.cmpi .sgt c2_i32_54 c0_i32_57
  let v161 : BitVec 32 := Scalar.extui v160
  let c0_i32_58 : BitVec 32 := 0#32
  let v162 : BitVec 1 := Scalar.cmpi .slt c2_i32_54 c0_i32_58
  let v163 : BitVec 32 := Scalar.extui v162
  let v164 : BitVec 32 := Scalar.subi v161 v163
  let v165 : BitVec 1 := Scalar.cmpi .ne v159 v164
  let v166 : BitVec 32 := Scalar.remsi arg1 c2_i32_54
  let c0_i32_59 : BitVec 32 := 0#32
  let v167 : BitVec 1 := Scalar.cmpi .ne v166 c0_i32_59
  let v168 : BitVec 1 := Scalar.andi v165 v167
  let v154 : BitVec 32 := Scalar.divsi arg1 c2_i32_54
  let c1_i32_60 : BitVec 32 := 1#32
  let v169 : BitVec 32 := Scalar.subi v154 c1_i32_60
  let v170 : BitVec 32 := Scalar.select v168 v169 v154
  let v171 : BitVec 32 := Scalar.muli c8_i32 v170
  let v172 : BitVec 32 := v171
  let v20246 : Index := Scalar.indexCast v172
  let c896_7591 : Index := 896#32
  ![0, v20246.toNat, 896]
def k0_off82 (i : grid0.Coords) : Fin 3 → Nat :=
  let arg1 : BitVec 32 := BitVec.ofNat 32 (i 1).val
  let v22119 : Index := Scalar.indexCast arg1
  let c0_8528 : Index := 0#32
  let c0_8529 : Index := 0#32
  ![v22119.toNat, 0, 0]
def k0_off83 (i : grid0.Coords) : Fin 3 → Nat :=
  let arg1 : BitVec 32 := BitVec.ofNat 32 (i 1).val
  let v24144 : Index := Scalar.indexCast arg1
  let c0_9538 : Index := 0#32
  let c0_9539 : Index := 0#32
  ![v24144.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x32x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x8x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x8x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x1x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x1x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S2x1024x32x128 : Shape := ⟨4, ![2, 1024, 32, 128]⟩
abbrev S2x32 : Shape := ⟨2, ![2, 32]⟩
abbrev S2x1024x8x128 : Shape := ⟨4, ![2, 1024, 8, 128]⟩
abbrev S2x8 : Shape := ⟨2, ![2, 8]⟩
abbrev S2x32x1024 : Shape := ⟨3, ![2, 32, 1024]⟩
abbrev S2x1024x8x4x128 : Shape := ⟨5, ![2, 1024, 8, 4, 128]⟩
abbrev S2x8x4x1024x128 : Shape := ⟨5, ![2, 8, 4, 1024, 128]⟩
abbrev S16x4096x128 : Shape := ⟨3, ![16, 4096, 128]⟩
abbrev S2x8x1024x128 : Shape := ⟨4, ![2, 8, 1024, 128]⟩
abbrev S16x1024x128 : Shape := ⟨3, ![16, 1024, 128]⟩
abbrev S2x8x4 : Shape := ⟨3, ![2, 8, 4]⟩
abbrev S2x8x1 : Shape := ⟨3, ![2, 8, 1]⟩
abbrev S16x4096x1024 : Shape := ⟨3, ![16, 4096, 1024]⟩
abbrev S2x8x4x1024x1024 : Shape := ⟨5, ![2, 8, 4, 1024, 1024]⟩
abbrev S2x8x4x1x1 : Shape := ⟨5, ![2, 8, 4, 1, 1]⟩
abbrev S2x8x4x1024 : Shape := ⟨4, ![2, 8, 4, 1024]⟩
abbrev S2x8x4x1024x1 : Shape := ⟨5, ![2, 8, 4, 1024, 1]⟩
abbrev S2x8x1x1x1 : Shape := ⟨5, ![2, 8, 1, 1, 1]⟩

abbrev nBuf : Space → Nat
  | .hbm => 12
  | .vmem => 12
  | .smem => 0
  | _ => 0

abbrev bufTy : (tb : Table) → Fin (tcTables nBuf tb) → BufTy
  | .hbm, ⟨0, _⟩ => ⟨S2x1024x32x128, .fp8e4m3⟩
  | .hbm, ⟨1, _⟩ => ⟨S2x32, .f32⟩
  | .hbm, ⟨2, _⟩ => ⟨S2x1024x8x128, .fp8e4m3⟩
  | .hbm, ⟨3, _⟩ => ⟨S2x8, .f32⟩
  | .hbm, ⟨4, _⟩ => ⟨S2x1024x8x128, .fp8e4m3⟩
  | .hbm, ⟨5, _⟩ => ⟨S2x8, .f32⟩
  | .hbm, ⟨6, _⟩ => ⟨S2x1024x32x128, .f32⟩
  | .hbm, ⟨7, _⟩ => ⟨S2x32x1024, .f32⟩
  | .hbm, ⟨8, _⟩ => ⟨S2x32x1024, .f32⟩
  | .hbm, ⟨9, _⟩ => ⟨S2x1024x8x4x128, .f32⟩
  | .hbm, ⟨10, _⟩ => ⟨S2x32x1024, .f32⟩
  | .hbm, ⟨11, _⟩ => ⟨S2x32x1024, .f32⟩
  | .local _ .vmem, ⟨0, _⟩ => ⟨S2x1024x32x128, .fp8e4m3⟩
  | .local _ .vmem, ⟨1, _⟩ => ⟨S2x32, .f32⟩
  | .local _ .vmem, ⟨2, _⟩ => ⟨S2x1024x8x128, .fp8e4m3⟩
  | .local _ .vmem, ⟨3, _⟩ => ⟨S2x8, .f32⟩
  | .local _ .vmem, ⟨4, _⟩ => ⟨S2x1024x8x128, .fp8e4m3⟩
  | .local _ .vmem, ⟨5, _⟩ => ⟨S2x8, .f32⟩
  | .local _ .vmem, ⟨6, _⟩ => ⟨S2x1024x32x128, .f32⟩
  | .local _ .vmem, ⟨7, _⟩ => ⟨S2x32x1024, .f32⟩
  | .local _ .vmem, ⟨8, _⟩ => ⟨S2x32x1024, .f32⟩
  | .local _ .vmem, ⟨9, _⟩ => ⟨S2x1024x8x4x128, .f32⟩
  | .local _ .vmem, ⟨10, _⟩ => ⟨S2x32x1024, .f32⟩
  | .local _ .vmem, ⟨11, _⟩ => ⟨S2x32x1024, .f32⟩
  | _, _ => ⟨S2x1024x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2x1024x32x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x8x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024x8x4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Body.lean ====
/- The kernel's body, written with loops over its tiles where the printed program has every tile's statements in a row.
   The function is generic in the program's signature and in the value of the constant log2(e): the same text is the
   kernel's and its idealization's (`Proof/Unroll.lean`). -/
module

public import Idealize.ShloMosaic.Lib.Pipeline
public import Idealize.ShloMosaic.Lib.Scf
public import Idealize.ShloMosaic.Lib.Sig
public import Idealize.ShloMosaic.PureOps

@[expose] public section

noncomputable section

namespace RingStep

open Idealize.ShloMosaic Idealize.SL.Sem

/-! ## Index vectors -/

/-- A matrix shape and a stack of matrices. -/
abbrev M2 (n m : ℕ) : Shape := ⟨2, ![n, m]⟩
abbrev M3 (b n m : ℕ) : Shape := ⟨3, ![b, n, m]⟩

/-- `x % c` with the sign of `c`, as the program computes it, elementwise. -/
def vmod {s : Shape} (x : IVec s 32) (c : BitVec 32) (hb : s.Broadcasts s) : IVec s 32 :=
  let d : BitVec 32 := Scalar.select (Scalar.cmpi .eq c 0#32) 1#32 c
  let r : IVec s 32 := remsi x (broadcast s d)
  select (andi (xori (cmpi .slt r (broadcast s 0#32)) (broadcastTo s (broadcast s (Scalar.cmpi .slt d 0#32)) hb))
    (cmpi .ne r (broadcast s 0#32))) (addi r (broadcast s d)) r

/-- `x / c` rounded down, as the program computes it, elementwise. -/
def vdiv {s : Shape} (x : IVec s 32) (c : BitVec 32) : IVec s 32 :=
  let q : IVec s 32 := divsi x (broadcast s c)
  let sx : IVec s 32 := subi (extui 32 (cmpi .sgt x (broadcast s 0#32)) (by decide))
    (extui 32 (cmpi .slt x (broadcast s 0#32)) (by decide))
  let sc : BitVec 32 := Scalar.subi (Scalar.extui (Scalar.cmpi .sgt c 0#32)) (Scalar.extui (Scalar.cmpi .slt c 0#32))
  select (andi (cmpi .ne sx (broadcast s sc)) (cmpi .ne (remsi x (broadcast s c)) (broadcast s 0#32)))
    (subi q (broadcast s 1#32)) q

def lane : IVec (M2 8 128) 32 := iota .tc (M2 8 128) 32 [1] (by decide)
def subl : IVec (M2 8 128) 32 := iota .tc (M2 8 128) 32 [0] (by decide)

/-- The head, of the four of a group, a lane holds, and its token. -/
def headOfLane : IVec (M2 8 128) 32 := vmod lane 4#32 (by decide)
def tokOfLane : IVec (M2 8 128) 32 := vdiv lane 4#32
/-- The head a row of a query block holds. -/
def headOfRow : IVec (M2 256 128) 32 := vmod (iota .tc (M2 256 128) 32 [0] (by decide)) 4#32 (by decide)
/-- Key row `8 j + sub` is at or before the lane's token. -/
def diag (j : ℕ) : IVec (M2 8 128) 1 := cmpi .sle (addi (broadcast (M2 8 128) (BitVec.ofNat 32 (8 * j))) subl) tokOfLane
/-- Where a state tile's element lies in a row of statistics, the row, and whether the state row is one of group `g`'s. -/
def colOf : IVec (M2 8 128) 32 :=
  addi (muli (broadcast (M2 8 128) 4#32) (vmod lane 32#32 (by decide))) (vmod subl 4#32 (by decide))
def chunkOf : IVec (M2 8 128) 32 := vdiv lane 32#32
def rowSel (g : ℕ) : IVec (M2 8 128) 1 :=
  cmpi .eq (vdiv subl 4#32) (broadcast (M2 8 128) (BitVec.ofNat 32 (g % 2)))

/-- An index made nonnegative by adding `c`, as `take_along_axis` does. -/
def wrapIx (x : IVec (M2 8 128) 32) (c : BitVec 32) : IVec (M2 8 128) 32 :=
  shapeCast (M2 8 128) (shapeCast (M3 8 128 1)
    (select (cmpi .slt x (broadcast (M2 8 128) 0#32)) (addi x (broadcast (M2 8 128) c)) x) (by decide)) (by decide)

/-! ## The tiles' arithmetic -/

variable {F : FTy → Type} [FloatOps F]

abbrev Tile (F : FTy → Type) : Type := FVec F (M2 8 128) .f32

/-- One value per head, spread over the lanes, -/
def perLane (f : ℕ → F .f32) : Tile F :=
  select (cmpi .eq headOfLane (broadcast (M2 8 128) 3#32)) (broadcast (M2 8 128) (f 3))
    (select (cmpi .eq headOfLane (broadcast (M2 8 128) 2#32)) (broadcast (M2 8 128) (f 2))
      (select (cmpi .eq headOfLane (broadcast (M2 8 128) 1#32)) (broadcast (M2 8 128) (f 1)) (broadcast (M2 8 128) (f 0))))
/-- and over a query block's rows. -/
def perRow (f : ℕ → F .f32) : FVec F (M2 256 128) .f32 :=
  select (cmpi .eq headOfRow (broadcast (M2 256 128) 3#32)) (broadcast (M2 256 128) (f 3))
    (select (cmpi .eq headOfRow (broadcast (M2 256 128) 2#32)) (broadcast (M2 256 128) (f 2))
      (select (cmpi .eq headOfRow (broadcast (M2 256 128) 1#32)) (broadcast (M2 256 128) (f 1))
        (broadcast (M2 256 128) (f 0))))
/-- The sign of a factor. -/
def signOf (f : F .f32) : F .f32 :=
  Scalar.select (Scalar.cmpf .olt f (Scalar.ofBits .f32 0x00000000#32)) (Scalar.ofBits .f32 0xBF800000#32)
    (Scalar.ofBits .f32 0x3F800000#32)

def negInf : Tile F := broadcast (M2 8 128) (Scalar.ofBits .f32 0xFF800000#32)

/-- A tile of half `hf`, masked past the diagonal; `d0` is the half's first token, `k0` the tile's first key. -/
def masked (d0 k0 : ℕ) (x : Tile F) : Tile F :=
  if d0 ≤ k0 then select (diag ((k0 - d0) / 8)) x negInf else x

/-- The running maximum over the first `t` tiles of half `hf` of a block of scores. -/
def maxTo (n d0 hf : ℕ) (hhf : hf < 2) (s : FVec F (M2 n 256) .f32) : (t : ℕ) → 8 * t ≤ n → Tile F
  | 0, _ => negInf
  | t + 1, h => maximumf (maxTo n d0 hf hhf s t (by omega))
      (masked d0 (8 * t) (extractStridedSlice (M2 8 128) ![8 * t, 128 * hf] s
        ⟨rfl, by intro a; fin_cases a <;> simp [M2] <;> omega⟩))

/-- A reduction over the eight rows, left in every row. -/
def allreduce (op : Tile F → Tile F → Tile F) (x : Tile F) : Tile F :=
  let x1 := op x (dynamicRotate 0 4#32 none x (by decide))
  let x2 := op x1 (dynamicRotate 0 2#32 none x1 (by decide))
  op x2 (dynamicRotate 0 1#32 none x2 (by decide))

/-! ## Memory -/

variable {nD : ℕ} {τ : Topo} {sig : RefSig} {Λ : Labels}

/-- The buffers of one grid step, in the order of the kernel's parameters: the scales of q, k and v; q, k, v; the
    incoming o, m, l and the outgoing ones; the scratch of keys, transposed values, scores and weights. -/
structure Refs (sig : RefSig) where
  qs : Memref sig .tc .smem (M2 2 32) .f32
  hqs : qs.IsWhole
  ks : Memref sig .tc .smem (M2 2 8) .f32
  hks : ks.IsWhole
  vs : Memref sig .tc .smem (M2 2 8) .f32
  hvs : vs.IsWhole
  q : Memref sig .tc .vmem ⟨4, ![1, 1024, 32, 128]⟩ .fp8e4m3
  hq : q.IsWhole
  k : Memref sig .tc .vmem ⟨4, ![1, 1024, 8, 128]⟩ .fp8e4m3
  hk : k.IsWhole
  v : Memref sig .tc .vmem ⟨4, ![1, 1024, 8, 128]⟩ .fp8e4m3
  hv : v.IsWhole
  oi : Memref sig .tc .vmem ⟨5, ![1, 1024, 1, 4, 128]⟩ .f32
  hoi : oi.IsWhole
  mi : Memref sig .tc .vmem (M3 1 32 1024) .f32
  hmi : mi.IsWhole
  li : Memref sig .tc .vmem (M3 1 32 1024) .f32
  hli : li.IsWhole
  oo : Memref sig .tc .vmem ⟨5, ![1, 1024, 1, 4, 128]⟩ .f32
  hoo : oo.IsWhole
  mo : Memref sig .tc .vmem (M3 1 32 1024) .f32
  hmo : mo.IsWhole
  lo : Memref sig .tc .vmem (M3 1 32 1024) .f32
  hlo : lo.IsWhole
  kg : Memref sig .tc .vmem (M3 8 1024 128) .fp8e4m3
  hkg : kg.IsWhole
  vt : Memref sig .tc .vmem (M3 8 128 1024) .fp8e4m3
  hvt : vt.IsWhole
  s : Memref sig .tc .vmem (M3 2 1024 256) .f32
  hs : s.IsWhole
  p : Memref sig .tc .vmem (M3 2 1024 256) .fp8e4m3
  hp : p.IsWhole

/-- The programs of a TensorCore. -/
abbrev TP (nD : ℕ) (τ : Topo) (sig : RefSig) (F : FTy → Type) (Λ : Labels) : Type → Type _ :=
  Prog (TpuEff nD τ sig (Elt F) Λ .tc)

/-- Load the block at `off` of sizes `sz`. -/
def ld {n : ℕ} {S : Fin n → ℕ} {e : EltTy} (m : Memref sig .tc .vmem ⟨n, S⟩ e) (off sz : Fin n → ℕ)
    (inb : ∀ a, off a + sz a ≤ S a) (hp : 0 < Shape.numel ⟨n, sz⟩) : TP nD τ sig F Λ (Vec F ⟨n, sz⟩ e) :=
  Prog.lift (.load m (Rect.unit (s := ⟨n, S⟩) off sz inb).toLoadRect (View.loadsAt_vmem hp))

/-- Store a block of 32-bit elements at `off`. -/
def st32 {n : ℕ} {S : Fin n → ℕ} (m : Memref sig .tc .vmem ⟨n, S⟩ .f32) (off sz : Fin n → ℕ)
    (inb : ∀ a, off a + sz a ≤ S a) (hp : 0 < Shape.numel ⟨n, sz⟩) (w : Vec F ⟨n, sz⟩ .f32) : TP nD τ sig F Λ PUnit :=
  Prog.lift (.store m (Rect.unit (s := ⟨n, S⟩) off sz inb) w Finset.univ (View.stores_vmem_bits_univ hp rfl) (.inl rfl))

/-- Store a block of 8-bit elements at `off`, whole words of a whole buffer. -/
def st8 {n : ℕ} {S : Fin n → ℕ} (m : Memref sig .tc .vmem ⟨n, S⟩ .fp8e4m3) (hm : m.IsWhole) (off sz : Fin n → ℕ)
    (inb : ∀ a, off a + sz a ≤ S a) (hp : 0 < Shape.numel ⟨n, sz⟩)
    (hpk : (Rect.unit (s := ⟨n, S⟩) off sz inb).PackedRows (EltTy.packing .fp8e4m3)) (w : Vec F ⟨n, sz⟩ .fp8e4m3) :
    TP nD τ sig F Λ PUnit :=
  Prog.lift (.store m (Rect.unit (s := ⟨n, S⟩) off sz inb) w Finset.univ
    (View.stores_vmem hp (hm.storeExact_slice rfl _ hpk) (fun _ => rfl)) (.inl rfl))

/-- The word at `off` of a table of scales. -/
def word {A B : ℕ} (m : Memref sig .tc .smem (M2 A B) .f32) (off : Fin 2 → ℕ) (inb : ∀ a, off a + ![1, 1] a ≤ ![A, B] a) :
    TP nD τ sig F Λ (F .f32) :=
  smemLoad (Val := Elt F) (e := .f32) m (Rect.unit (s := M2 A B) off (M2 1 1).size inb) (by decide : (M2 1 1).numel = 1) rfl

/-- `f i` for `i` from `i` to `N - 1`, threading a value. -/
def loop {α : Type} {N : ℕ} (f : (i : ℕ) → i < N → α → TP nD τ sig F Λ α) :
    (k i : ℕ) → i + k = N → α → TP nD τ sig F Λ α
  | 0, _, _, x => pure x
  | k + 1, i, h, x => do
    let y ← f i (by omega) x
    loop f k (i + 1) (by omega) y

/-- A block of a matrix lies within it if it does so along both axes. -/
theorem inb2 {a b a' b' A B : ℕ} (ha : a + a' ≤ A) (hb : b + b' ≤ B) : ∀ x, ![a, b] x + ![a', b'] x ≤ ![A, B] x := by
  intro x; fin_cases x <;> assumption
/-- A block of an array of three axes lies within it if it does so along each. -/
theorem inb3 {a b c a' b' c' A B C : ℕ} (ha : a + a' ≤ A) (hb : b + b' ≤ B) (hc : c + c' ≤ C) :
    ∀ x, ![a, b, c] x + ![a', b', c'] x ≤ ![A, B, C] x := by
  intro x; fin_cases x <;> assumption
/-- A block of an array of four axes lies within it if it does so along each. -/
theorem inb4 {a b c d a' b' c' d' A B C D : ℕ} (ha : a + a' ≤ A) (hb : b + b' ≤ B) (hc : c + c' ≤ C) (hd : d + d' ≤ D) :
    ∀ x, ![a, b, c, d] x + ![a', b', c', d'] x ≤ ![A, B, C, D] x := by
  intro x; fin_cases x <;> assumption
/-- An array of three axes has elements if each axis does. -/
theorem numel3 {a b c : ℕ} (ha : 0 < a) (hb : 0 < b) (hc : 0 < c) : 0 < Shape.numel ⟨3, ![a, b, c]⟩ := by
  simp [Shape.numel, Fin.prod_univ_succ, ha, hb, hc]
/-- A block of one-byte rows starts and ends at whole words if its first row and number of rows are multiples of four. -/
theorem packed3 {a b c a' b' c' A B C : ℕ} (h) (hb : 4 ∣ b) (hb' : 4 ∣ b') :
    (Rect.unit (s := M3 A B C) ![a, b, c] ![a', b', c'] h).PackedRows (EltTy.packing .fp8e4m3) :=
  have h2 : 2 ≤ (M3 A B C).rank := (by decide : 2 ≤ 3)
  have e : (M3 A B C).rowAx h2 = (1 : Fin 3) := rfl
  .inr ⟨h2, rfl, .inl (by rw [e]; exact ⟨hb, hb'⟩)⟩
/-- Four tiles of 8 rows, one below the other, are 32 rows. -/
theorem concat4 : Shape.Concatenates [M2 8 128, M2 8 128, M2 8 128, M2 8 128] (M2 32 128) 0 := by decide
/-- A leading axis of length one may be dropped. -/
theorem casts3 {a b : ℕ} : (M3 1 a b).ShapeCasts (M2 a b) := by simp [Shape.ShapeCasts, Shape.numel, Fin.prod_univ_succ]
/-- A leading axis of length one may be added. -/
theorem casts2 {a b : ℕ} : (M2 a b).ShapeCasts (M3 1 a b) := by simp [Shape.ShapeCasts, Shape.numel, Fin.prod_univ_succ]

/-! ## The keys and values of a batch -/

/-- Column block `t` of group `gg`'s keys into the scratch, -/
def putK (R : Refs sig) (t : ℕ) (ht : t < 8) (x : ℕ → FVec F (M2 128 128) .fp8e4m3) (gg : ℕ) (h : gg < 8) :
    TP nD τ sig F Λ PUnit := do
  let _ ← ld R.kg ![gg, 128 * t, 0] ![1, 128, 128] (inb3 (by omega) (by omega) (by omega)) (by decide)
  st8 R.kg R.hkg ![gg, 128 * t, 0] ![1, 128, 128] (inb3 (by omega) (by omega) (by omega)) (by decide)
    (packed3 _ (by omega) (by decide)) (shapeCast (M3 1 128 128) (x gg) (by decide))
/-- and of its values, transposed. -/
def putV (R : Refs sig) (t : ℕ) (ht : t < 8) (x : ℕ → FVec F (M2 128 128) .fp8e4m3) (gg : ℕ) (h : gg < 8) :
    TP nD τ sig F Λ PUnit := do
  let _ ← ld R.vt ![gg, 0, 128 * t] ![1, 128, 128] (inb3 (by omega) (by omega) (by omega)) (by decide)
  st8 R.vt R.hvt ![gg, 0, 128 * t] ![1, 128, 128] (inb3 (by omega) (by omega) (by omega)) (by decide)
    (packed3 _ (by omega) (by decide)) (shapeCast (M3 1 128 128)
      (truncf .fp8e4m3 (transpose (M2 128 128) [1, 0] (extf .f32 (x gg) (by decide)) (by decide)) (by decide)) (by decide))
/-- Group `gg`'s block of 128 tokens of a batch's keys or values. -/
def getKV (m : Memref sig .tc .vmem ⟨4, ![1, 1024, 8, 128]⟩ .fp8e4m3) (t : ℕ) (ht : t < 8) (gg : ℕ) (h : gg < 8)
    (x : ℕ → FVec F (M2 128 128) .fp8e4m3) : TP nD τ sig F Λ (ℕ → FVec F (M2 128 128) .fp8e4m3) := do
  let y ← ld m ![0, 128 * t, gg, 0] ![1, 128, 1, 128] (inb4 (by omega) (by omega) (by omega) (by omega)) (by decide)
  pure (Function.update x gg (shapeCast (M2 128 128) y (by decide)))

def prepBlock (R : Refs sig) (t : ℕ) (ht : t < 8) (_ : PUnit) : TP nD τ sig F Λ PUnit := do
  let x ← loop (N := 8) (getKV R.k t ht) 8 0 rfl (fun _ _ => Scalar.ofBits .fp8e4m3 0x00#8)
  loop (N := 8) (fun gg h _ => putK R t ht x gg h) 8 0 rfl ⟨⟩
  let y ← loop (N := 8) (getKV R.v t ht) 8 0 rfl (fun _ _ => Scalar.ofBits .fp8e4m3 0x00#8)
  loop (N := 8) (fun gg h _ => putV R t ht y gg h) 8 0 rfl ⟨⟩
/-- The first group's step of a batch lays the batch's keys and transposed values out in the scratch. -/
def prep (R : Refs sig) : TP nD τ sig F Λ PUnit := loop (N := 8) (prepBlock R) 8 0 rfl ⟨⟩

/-! ## One block of 64 tokens -/

/-- The scores of block `a`'s queries against its keys, and their maxima over the two halves' tiles. -/
def scores (R : Refs sig) (g : ℕ) (hg : g < 8) (sg : FVec F (M2 256 128) .f32) (a : ℕ) (ha : a < 16) :
    TP nD τ sig F Λ (Tile F × Tile F) := do
  let q ← ld R.q ![0, 64 * a, 4 * g, 0] ![1, 64, 4, 128] (inb4 (by omega) (by omega) (by omega) (by omega)) (by decide)
  let q1 : FVec F (M2 256 128) .fp8e4m3 :=
    shapeCast (M2 256 128) (shapeCast (M3 64 4 128) q (by decide)) (by decide)
  let q2 : FVec F (M2 256 128) .fp8e4m3 := truncf .fp8e4m3 (mulf (extf .f32 q1 (by decide)) sg) (by decide)
  let k ← ld R.kg ![g, 0, 0] ![1, 64 * (a + 1), 128] (inb3 (by omega) (by omega) (by omega)) (numel3 (by omega) (by omega) (by omega))
  let s : FVec F (M2 (64 * (a + 1)) 256) .f32 := matmul (DotDims.transposedRhs (64 * (a + 1)) 128 256) none
    (shapeCast (M2 (64 * (a + 1)) 128) k casts3) q2 (constant (M2 (64 * (a + 1)) 256) .f32 0x00000000#32)
  let _ ← ld R.s ![a % 2, 0, 0] ![1, 64 * (a + 1), 256] (inb3 (by omega) (by omega) (by omega)) (numel3 (by omega) (by omega) (by omega))
  st32 R.s ![a % 2, 0, 0] ![1, 64 * (a + 1), 256] (inb3 (by omega) (by omega) (by omega)) (numel3 (by omega) (by omega) (by omega))
    (shapeCast (M3 1 (64 * (a + 1)) 256) s casts2)
  pure (maxTo (64 * (a + 1)) (64 * a) 0 (by omega) s (8 * a + 4) (by omega),
    maxTo (64 * (a + 1)) (64 * a + 32) 1 (by omega) s (8 * a + 8) (by omega))

/-- The statistics of half `hf` of block `a`, spread over a tile: token by token, head by head along the lanes. -/
def stateRow (m : Memref sig .tc .vmem (M3 1 32 1024) .f32) (g : ℕ) (hg : g < 8) (a : ℕ) (ha : a < 16) (hf : ℕ)
    (hhf : hf < 2) : TP nD τ sig F Λ (Tile F) := do
  let x ← ld m ![0, 8 * (g / 2), 128 * (a / 2)] ![1, 8, 128] (inb3 (by omega) (by omega) (by omega)) (by decide)
  pure (dynamicGather (s := M2 8 128) 0 (dynamicGather (s := M2 8 128) 1 (shapeCast (M2 8 128) x (by decide))
      (wrapIx (addi (broadcast (M2 8 128) (BitVec.ofNat 32 (64 * (a % 2) + 32 * hf))) tokOfLane) 128#32))
    (wrapIx (addi headOfLane (broadcast (M2 8 128) (BitVec.ofNat 32 (4 * (g % 2))))) 8#32))

/-- One tile of weights: the exponentials of the scaled scores. -/
def weights (R : Refs sig) (a : ℕ) (ha : a < 16) (hf : ℕ) (hhf : hf < 2) (c1 m2 : Tile F) (k0 : ℕ) (hk : k0 + 8 ≤ 1024) :
    TP nD τ sig F Λ (Tile F) := do
  let x ← ld R.s ![a % 2, k0, 128 * hf] ![1, 8, 128] (inb3 (by omega) (by omega) (by omega)) (by decide)
  pure (exp2 (masked (64 * a + 32 * hf) k0 (subf (mulf (shapeCast (M2 8 128) x (by decide)) c1) m2)))

/-- Thirty-two rows of half `hf`'s weights, added to the running sum. -/
def wblock (R : Refs sig) (a : ℕ) (ha : a < 16) (hf : ℕ) (hhf : hf < 2) (c1 m2 : Tile F) (b : ℕ) (hb : b < 2 * a + 2)
    (acc : Tile F) : TP nD τ sig F Λ (Tile F) :=
  if 64 * a + 32 * hf + 32 ≤ 32 * b then do
    let _ ← ld R.p ![a % 2, 32 * b, 128 * hf] ![1, 32, 128] (inb3 (by omega) (by omega) (by omega)) (by decide)
    st8 R.p R.hp ![a % 2, 32 * b, 128 * hf] ![1, 32, 128] (inb3 (by omega) (by omega) (by omega)) (by decide)
      (packed3 _ (by omega) (by decide))
      (shapeCast (M3 1 32 128) (broadcast (M2 32 128) (Scalar.ofBits .fp8e4m3 0x00#8)) (by decide))
    pure acc
  else do
    let p0 ← weights R a ha hf hhf c1 m2 (32 * b) (by omega)
    let p1 ← weights R a ha hf hhf c1 m2 (32 * b + 8) (by omega)
    let p2 ← weights R a ha hf hhf c1 m2 (32 * b + 16) (by omega)
    let p3 ← weights R a ha hf hhf c1 m2 (32 * b + 24) (by omega)
    let _ ← ld R.p ![a % 2, 32 * b, 128 * hf] ![1, 32, 128] (inb3 (by omega) (by omega) (by omega)) (by decide)
    st8 R.p R.hp ![a % 2, 32 * b, 128 * hf] ![1, 32, 128] (inb3 (by omega) (by omega) (by omega)) (by decide)
      (packed3 _ (by omega) (by decide))
      (shapeCast (M3 1 32 128) (truncf .fp8e4m3 (concatenate (M2 32 128) 0
        [⟨M2 8 128, p0⟩, ⟨M2 8 128, p1⟩, ⟨M2 8 128, p2⟩, ⟨M2 8 128, p3⟩] concat4) (by decide)) (by decide))
    pure (addf (addf (addf (addf acc p0) p1) p2) p3)

/-- Half `hf` of block `a`: the new maximum, the factor of the incoming sums, the new sum; the weights are stored. -/
def half (R : Refs sig) (g : ℕ) (hg : g < 8) (a : ℕ) (ha : a < 16) (hf : ℕ) (hhf : hf < 2) (L : F .f32) (fac mx : Tile F) :
    TP nD τ sig F Λ (Tile F × Tile F × Tile F) := do
  let mPrev ← stateRow R.mi g hg a ha hf hhf
  let mNew : Tile F := maximumf mPrev (mulf (allreduce maximumf mx) fac)
  let m2 : Tile F := subf (mulf mNew (broadcast (M2 8 128) L)) (broadcast (M2 8 128) (Scalar.ofBits .f32 0x41000000#32))
  let acc ← loop (N := 2 * a + 2) (wblock R a ha hf hhf (mulf fac (broadcast (M2 8 128) L)) m2) (2 * a + 2) 0 (by omega)
    (broadcast (M2 8 128) (Scalar.ofBits .f32 0x00000000#32))
  let alpha : Tile F := exp (subf mPrev mNew)
  let lPrev ← stateRow R.li g hg a ha hf hhf
  pure (mNew, addf (mulf alpha lPrev) (mulf (allreduce addf acc) (broadcast (M2 8 128) (Scalar.ofBits .f32 0x3B800000#32))), alpha)

/-- The outgoing rows of half `hf` of block `a`. -/
def outRows (R : Refs sig) (a : ℕ) (ha : a < 16) (hf : ℕ) (hhf : hf < 2) (vs : F .f32) (alpha : Tile F)
    (pv : FVec F (M2 128 256) .f32) : TP nD τ sig F Λ PUnit := do
  let pvT : FVec F (M2 128 128) .f32 := transpose (M2 128 128) [1, 0] (extractStridedSlice (M2 128 128) ![0, 128 * hf] pv
    ⟨rfl, by intro a; fin_cases a <;> simp [M2] <;> omega⟩) (by decide)
  let al : FVec F (M2 128 128) .f32 := transpose (M2 128 128) [1, 0] (broadcastTo (M2 128 128)
    (shapeCast (M2 1 128) (extractStridedSlice (M2 1 128) ![0, 0] alpha (by decide)) (by decide)) (by decide)) (by decide)
  let o ← ld (R.oi.reshape (M2 4096 128) (by decide) (by decide) R.hoi.contiguous) ![256 * a + 128 * hf, 0] ![128, 128]
    (inb2 (by omega) (by omega)) (by decide)
  let o1 : FVec F (M2 128 128) .f32 := addf (mulf al (shapeCast (M2 128 128) o (by decide)))
    (mulf (broadcast (M2 128 128) vs) pvT)
  let _ ← ld (R.oo.reshape (M2 4096 128) (by decide) (by decide) R.hoo.contiguous) ![256 * a + 128 * hf, 0] ![128, 128]
    (inb2 (by omega) (by omega)) (by decide)
  st32 (R.oo.reshape (M2 4096 128) (by decide) (by decide) R.hoo.contiguous) ![256 * a + 128 * hf, 0] ![128, 128]
    (inb2 (by omega) (by omega)) (by decide) o1

/-- Block `a`: the weights, their product with the values, the outgoing rows; the statistics of its two halves. -/
def finish (R : Refs sig) (g : ℕ) (hg : g < 8) (a : ℕ) (ha : a < 16) (L : F .f32) (fac : Tile F) (vs : F .f32)
    (mx : Tile F × Tile F) : TP nD τ sig F Λ ((Tile F × Tile F) × (Tile F × Tile F)) := do
  let x ← half R g hg a ha 0 (by omega) L fac mx.1
  let y ← half R g hg a ha 1 (by omega) L fac mx.2
  let vt ← ld R.vt ![g, 0, 0] ![1, 128, 64 * (a + 1)] (inb3 (by omega) (by omega) (by omega)) (numel3 (by omega) (by omega) (by omega))
  let p ← ld R.p ![a % 2, 0, 0] ![1, 64 * (a + 1), 256] (inb3 (by omega) (by omega) (by omega)) (numel3 (by omega) (by omega) (by omega))
  let pv : FVec F (M2 128 256) .f32 := matmul (DotDims.plain 128 (64 * (a + 1)) 256) none
    (shapeCast (M2 128 (64 * (a + 1))) vt casts3) (shapeCast (M2 (64 * (a + 1)) 256) p casts3)
    (constant (M2 128 256) .f32 0x00000000#32)
  outRows R a ha 0 (by omega) vs x.2.2 pv
  outRows R a ha 1 (by omega) vs y.2.2 pv
  pure ((x.1, y.1), (x.2.1, y.2.1))

/-- The statistics of 128 tokens, four half blocks `r`, as rows of state: the group's rows of the tile are replaced. -/
def stateTile (g : ℕ) (r : ℕ → Tile F) (old : Tile F) : Tile F :=
  let t (c : ℕ) : Tile F := dynamicGather (s := M2 8 128) 1 (r c) (wrapIx colOf 128#32)
  select (rowSel g)
    (select (cmpi .eq chunkOf (broadcast (M2 8 128) 3#32)) (t 3)
      (select (cmpi .eq chunkOf (broadcast (M2 8 128) 2#32)) (t 2)
        (select (cmpi .eq chunkOf (broadcast (M2 8 128) 1#32)) (t 1) (t 0)))) old
def putState (m : Memref sig .tc .vmem (M3 1 32 1024) .f32) (g : ℕ) (hg : g < 8) (c : ℕ) (hc : c < 8)
    (r : ℕ → Tile F) : TP nD τ sig F Λ PUnit := do
  let old ← ld m ![0, 8 * (g / 2), 128 * c] ![1, 8, 128] (inb3 (by omega) (by omega) (by omega)) (by decide)
  let _ ← ld m ![0, 8 * (g / 2), 128 * c] ![1, 8, 128] (inb3 (by omega) (by omega) (by omega)) (by decide)
  st32 m ![0, 8 * (g / 2), 128 * c] ![1, 8, 128] (inb3 (by omega) (by omega) (by omega)) (by decide)
    (shapeCast (M3 1 8 128) (stateTile g r (shapeCast (M2 8 128) old (by decide))) (by decide))

/-- The scores of block `2 c + 2`, if there is one. -/
def ahead (R : Refs sig) (g : ℕ) (hg : g < 8) (sg : FVec F (M2 256 128) .f32) (c : ℕ) (mx : Tile F × Tile F) :
    TP nD τ sig F Λ (Tile F × Tile F) :=
  if h : c < 7 then scores R g hg sg (2 * c + 2) (by omega) else pure mx

/-- Blocks `2 c` and `2 c + 1`; the scores run one block ahead. -/
def pair (R : Refs sig) (g : ℕ) (hg : g < 8) (sg : FVec F (M2 256 128) .f32) (L : F .f32) (fac : Tile F) (vs : F .f32)
    (c : ℕ) (hc : c < 8) (mx : Tile F × Tile F) : TP nD τ sig F Λ (Tile F × Tile F) := do
  let mx1 ← scores R g hg sg (2 * c + 1) (by omega)
  let x ← finish R g hg (2 * c) (by omega) L fac vs mx
  let mx2 ← ahead R g hg sg c mx1
  let y ← finish R g hg (2 * c + 1) (by omega) L fac vs mx1
  putState R.mo g hg c hc fun i => if i = 0 then x.1.1 else if i = 1 then x.1.2 else if i = 2 then y.1.1 else y.1.2
  putState R.lo g hg c hc fun i => if i = 0 then x.2.1 else if i = 1 then x.2.2 else if i = 2 then y.2.1 else y.2.2
  pure mx2

/-! ## The step -/

/-- The product of the scales of query head `4 g + h` and of the keys, times the scale of scores. -/
def factor (R : Refs sig) (bo : ℕ) (hbo : bo < 2) (g : ℕ) (hg : g < 8) (h : ℕ) (hh : h < 4) : TP nD τ sig F Λ (F .f32) := do
  let x ← word R.qs ![bo, 4 * g + h] (inb2 (by omega) (by omega))
  let y ← word R.ks ![bo, g] (inb2 (by omega) (by omega))
  pure (Scalar.mulf (Scalar.mulf x y) (Scalar.ofBits .f32 0x3DB504F3#32))

/-- The pair of groups' rows of a state start as zeros. -/
def zeroState (m : Memref sig .tc .vmem (M3 1 32 1024) .f32) (g : ℕ) (hg : g < 8) : TP nD τ sig F Λ PUnit := do
  let _ ← ld m ![0, 8 * (g / 2), 0] ![1, 8, 1024] (inb3 (by omega) (by omega) (by omega)) (by decide)
  st32 m ![0, 8 * (g / 2), 0] ![1, 8, 1024] (inb3 (by omega) (by omega) (by omega)) (by decide)
    (shapeCast (M3 1 8 1024) (broadcast (M2 8 1024) (Scalar.ofBits .f32 0x00000000#32)) (by decide))

/-- What the step does first only at some groups: the batch's layout at the first one, -/
def prepAt (R : Refs sig) (g : ℕ) : TP nD τ sig F Λ PUnit := if g = 0 then prep R else pure ⟨⟩
/-- the zeros at every other one. -/
def zeroAt (R : Refs sig) (g : ℕ) (hg : g < 8) : TP nD τ sig F Λ PUnit :=
  if g % 2 = 0 then (do zeroState R.mo g hg; zeroState R.lo g hg) else pure ⟨⟩

/-- The grid step of batch `bo` and group `g`. -/
def body (R : Refs sig) (L : F .f32) (bo : ℕ) (hbo : bo < 2) (g : ℕ) (hg : g < 8) : TP nD τ sig F Λ PUnit := do
  prepAt R g
  let f0 ← factor R bo hbo g hg 0 (by omega)
  let f1 ← factor R bo hbo g hg 1 (by omega)
  let f2 ← factor R bo hbo g hg 2 (by omega)
  let f3 ← factor R bo hbo g hg 3 (by omega)
  let f : ℕ → F .f32 := fun i => if i = 0 then f0 else if i = 1 then f1 else if i = 2 then f2 else f3
  let v ← word R.vs ![bo, g] (inb2 (by omega) (by omega))
  zeroAt R g hg
  let sg : FVec F (M2 256 128) .f32 := perRow fun i => signOf (f i)
  let mx ← scores R g hg sg 0 (by omega)
  let _ ← loop (N := 8) (pair R g hg sg L (absf (perLane f)) (Scalar.mulf v (Scalar.ofBits .f32 0x3B800000#32))) 8 0 rfl mx
  pure ⟨⟩

end RingStep
-- ==== Proof.Unroll.lean ====
/- The printed body of the kernel, at every point of its grid, is `RingStep.body`: the two programs compute to the same
   sequence of operations. -/
module

public import proofs.«01_k».proof.Kernel
public import proofs.«01_k».proof.Proof.Gen.Kernel
public import proofs.«01_k».proof.Proof.Gen.Kernel.Launch
public import proofs.«01_k».proof.Proof.Body
public import Idealize.ShloMosaic.Lib.Tactic

@[expose] public section

set_option maxRecDepth 1000000

namespace Cert.Kernel

open Idealize.ShloMosaic Idealize.SL.Sem

variable {F : FTy → Type} [FloatOps F]

/-- The printed body at point `t` of the grid: batch `t / 8`, group `t % 8`. -/
def Unrolled (F : FTy → Type) [FloatOps F] (t : Fin 16) : Prop :=
  ∀ R : RingStep.Refs sig,
    cc0_ring_step (F := F) (grid0.coords t) R.qs R.hqs R.ks R.hks R.vs R.hvs R.q R.hq R.k R.hk R.v R.hv R.oi R.hoi R.mi R.hmi R.li R.hli R.oo R.hoo R.mo R.hmo R.lo R.hlo R.kg R.hkg R.vt R.hvt R.s R.hs R.p R.hp =
      RingStep.body (nD := nD) (τ := τ) (Λ := Λ₀) R (Scalar.ofBits .f32 0x3FB8AA3B#32) (t.val / 8) (by have := t.2; omega) (t.val % 8)
        (by have := t.2; omega)

set_option maxHeartbeats 0 in
/-- At the first group of a batch the body also prepares the batch's keys and values, in a loop of the program. -/
theorem unroll_first : ∀ b : Fin 2, Unrolled F ⟨8 * b.val, by have := b.2; omega⟩ := by
  intro b R
  fin_cases b <;>
    (unfold cc0_ring_step k0_part591 k0_part582 k0_part5
     simp -zeta only [Scf.Loop.for, Scf.for_eq]
     sl_kernel_rfl)

set_option maxHeartbeats 0 in
/-- At the other groups it does not. -/
theorem unroll_later : ∀ b : Fin 2, ∀ g : Fin 7, Unrolled F ⟨8 * b.val + (g.val + 1), by have := b.2; have := g.2; omega⟩ := by
  intro b g R
  fin_cases b <;> fin_cases g <;> sl_kernel_rfl

/-- The printed body is the looped one at every point. -/
theorem unroll (t : Fin 16) : Unrolled F t := by
  have ht := t.2
  by_cases h : t.val % 8 = 0
  · have := unroll_first (F := F) ⟨t.val / 8, by omega⟩
    rwa [show (⟨8 * (t.val / 8), _⟩ : Fin 16) = t from Fin.ext (by show 8 * (t.val / 8) = t.val; omega)] at this
  · have := unroll_later (F := F) ⟨t.val / 8, by omega⟩ ⟨t.val % 8 - 1, by omega⟩
    rwa [show (⟨8 * (t.val / 8) + (t.val % 8 - 1 + 1), _⟩ : Fin 16) = t from
      Fin.ext (by show 8 * (t.val / 8) + (t.val % 8 - 1 + 1) = t.val; omega)] at this

end Cert.Kernel
-- ==== Proof.Hoare.lean ====
/- Rules for the looped body (`Proof/Body.lean`): what a step leaves in the buffers, as a function of what it found there. -/
module

public import proofs.«01_k».proof.Proof.Body
public import Idealize.ShloMosaic.Lib.Pipeline
public import Idealize.ShloMosaic.Lib.Pipeline.FrameBody
public import Idealize.ShloMosaic.Lib.Ring
public import Idealize.ShloMosaic.Lib.Tactic

@[expose] public section

noncomputable section

namespace RingStep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {F : FTy → Type} [FloatOps F] {Λ : Labels}

local notation "𝕄" => MT nD τ sig Unit (Elt F) ℕ (UR sig nD τ) ℕ

/-- A block of the outgoing rows. -/
abbrev Vec5 (F : FTy → Type) := Vec F ⟨5, ![1, 1024, 1, 4, 128]⟩ .f32

/-- What the step's sixteen buffers hold. -/
structure St (F : FTy → Type) where
  qs : Vec F (M2 2 32) .f32
  ks : Vec F (M2 2 8) .f32
  vs : Vec F (M2 2 8) .f32
  q : Vec F ⟨4, ![1, 1024, 32, 128]⟩ .fp8e4m3
  k : Vec F ⟨4, ![1, 1024, 8, 128]⟩ .fp8e4m3
  v : Vec F ⟨4, ![1, 1024, 8, 128]⟩ .fp8e4m3
  oi : Vec F ⟨5, ![1, 1024, 1, 4, 128]⟩ .f32
  mi : Vec F (M3 1 32 1024) .f32
  li : Vec F (M3 1 32 1024) .f32
  oo : Vec F ⟨5, ![1, 1024, 1, 4, 128]⟩ .f32
  mo : Vec F (M3 1 32 1024) .f32
  lo : Vec F (M3 1 32 1024) .f32
  kg : Vec F (M3 8 1024 128) .fp8e4m3
  vt : Vec F (M3 8 128 1024) .fp8e4m3
  s : Vec F (M3 2 1024 256) .f32
  p : Vec F (M3 2 1024 256) .fp8e4m3

/-- The conjunction of a list of assertions. -/
def sepList : List (sProp 𝕄) → sProp 𝕄
  | [] => iprop(emp)
  | P :: l => iprop(P ∗ sepList l)

/-- One of them can be taken out, and any other assertion put in its place. -/
theorem sepList_acc : ∀ (l : List (sProp 𝕄)) (i : ℕ) (h : i < l.length),
    sepList l ⊢ iprop(l[i] ∗ ∀ P, P -∗ sepList (l.set i P))
  | P :: l, 0, _ => by
    show iprop(P ∗ sepList l) ⊢ iprop(P ∗ ∀ P', P' -∗ P' ∗ sepList l)
    iintro ⟨H, Hl⟩
    isplitl [H]; · iexact H
    iintro %P' H'
    isplitl [H'] <;> iassumption
  | P :: l, i + 1, h => by
    have ih := sepList_acc l i (by simpa using h)
    show iprop(P ∗ sepList l) ⊢ iprop(l[i]'(by simpa using h) ∗ ∀ P', P' -∗ P ∗ sepList (l.set i P'))
    refine (sep_mono .rfl ih).trans ?_
    iintro ⟨H, Hi, Hl⟩
    isplitl [Hi]; · iexact Hi
    iintro %P' H'
    isplitl [H]; · iexact H
    iapply Hl $$ H'

/-- The sixteen buffers, whole, at contents `σ`. -/
def parts (R : Refs sig) (c : Dev nD) (σ : St F) : List (sProp 𝕄) :=
  [owns c R.qs fullShare σ.qs, owns c R.ks fullShare σ.ks, owns c R.vs fullShare σ.vs, owns c R.q fullShare σ.q,
   owns c R.k fullShare σ.k, owns c R.v fullShare σ.v, owns c R.oi fullShare σ.oi, owns c R.mi fullShare σ.mi,
   owns c R.li fullShare σ.li, owns c R.oo fullShare σ.oo, owns c R.mo fullShare σ.mo, owns c R.lo fullShare σ.lo,
   owns c R.kg fullShare σ.kg, owns c R.vt fullShare σ.vt, owns c R.s fullShare σ.s, owns c R.p fullShare σ.p]

abbrev own (R : Refs sig) (c : Dev nD) (σ : St F) : sProp 𝕄 := sepList (parts R c σ)

/-- A buffer is one field of the state: it can be taken out of the sixteen at that field's contents, and put back at any
    others. -/
structure Lens (R : Refs sig) {sp : CoreSpace} {sh : Shape} {e : EltTy} (m : Memref sig .tc sp sh e) (get : St F → Vec F sh e)
    (set : St F → Vec F sh e → St F) : Prop where
  eta : ∀ σ, set σ (get σ) = σ
  acc : ∀ {nD : ℕ} {τ : Topo} (c : Dev nD) (σ : St F),
    (own (τ := τ) R c σ : sProp (MT nD τ sig Unit (Elt F) ℕ (UR sig nD τ) ℕ))
      ⊢ iprop(owns c m fullShare (get σ) ∗ ∀ X, owns c m fullShare X -∗ own R c (set σ X))

/-- An operand is a part of the state if it is the part at one position and no other position mentions it. -/
theorem Lens.of {R : Refs sig} {sp : CoreSpace} {sh : Shape} {e : EltTy} {m : Memref sig .tc sp sh e} {get : St F → Vec F sh e}
    {set : St F → Vec F sh e → St F} (eta : ∀ σ, set σ (get σ) = σ) (i : ℕ) (hi : i < 16)
    (h1 : ∀ {nD : ℕ} {τ : Topo} (c : Dev nD) (σ : St F), (parts (τ := τ) R c σ)[i] = owns c m fullShare (get σ))
    (h2 : ∀ {nD : ℕ} {τ : Topo} (c : Dev nD) (σ : St F) X, (parts (τ := τ) R c σ).set i (owns c m fullShare X) = parts R c (set σ X)) :
    Lens R m get set := by
  refine ⟨eta, ?_⟩
  intro nD τ c σ
  refine (sepList_acc (parts R c σ) i hi).trans ?_
  rw [h1]
  iintro ⟨H, Hl⟩
  isplitl [H]; · iexact H
  iintro %X HX
  unfold own
  rw [← h2]
  iapply Hl $$ HX

section lenses
variable (R : Refs sig)
/-- The query scales are a part of the state. -/
theorem lens_qs : Lens (F := F) R R.qs St.qs (fun σ X => { σ with qs := X }) := .of (fun _ => rfl) 0 (by omega) (fun _ _ => rfl) (fun _ _ _ => rfl)
/-- The key scales are a part of the state. -/
theorem lens_ks : Lens (F := F) R R.ks St.ks (fun σ X => { σ with ks := X }) := .of (fun _ => rfl) 1 (by omega) (fun _ _ => rfl) (fun _ _ _ => rfl)
/-- The value scales are a part of the state. -/
theorem lens_vs : Lens (F := F) R R.vs St.vs (fun σ X => { σ with vs := X }) := .of (fun _ => rfl) 2 (by omega) (fun _ _ => rfl) (fun _ _ _ => rfl)
/-- The queries are a part of the state. -/
theorem lens_q : Lens (F := F) R R.q St.q (fun σ X => { σ with q := X }) := .of (fun _ => rfl) 3 (by omega) (fun _ _ => rfl) (fun _ _ _ => rfl)
/-- The keys are a part of the state. -/
theorem lens_k : Lens (F := F) R R.k St.k (fun σ X => { σ with k := X }) := .of (fun _ => rfl) 4 (by omega) (fun _ _ => rfl) (fun _ _ _ => rfl)
/-- The values are a part of the state. -/
theorem lens_v : Lens (F := F) R R.v St.v (fun σ X => { σ with v := X }) := .of (fun _ => rfl) 5 (by omega) (fun _ _ => rfl) (fun _ _ _ => rfl)
/-- The previous output is a part of the state. -/
theorem lens_oi : Lens (F := F) R R.oi St.oi (fun σ X => { σ with oi := X }) := .of (fun _ => rfl) 6 (by omega) (fun _ _ => rfl) (fun _ _ _ => rfl)
/-- The previous maxima are a part of the state. -/
theorem lens_mi : Lens (F := F) R R.mi St.mi (fun σ X => { σ with mi := X }) := .of (fun _ => rfl) 7 (by omega) (fun _ _ => rfl) (fun _ _ _ => rfl)
/-- The previous sums are a part of the state. -/
theorem lens_li : Lens (F := F) R R.li St.li (fun σ X => { σ with li := X }) := .of (fun _ => rfl) 8 (by omega) (fun _ _ => rfl) (fun _ _ _ => rfl)
/-- The new output is a part of the state. -/
theorem lens_oo : Lens (F := F) R R.oo St.oo (fun σ X => { σ with oo := X }) := .of (fun _ => rfl) 9 (by omega) (fun _ _ => rfl) (fun _ _ _ => rfl)
/-- The new maxima are a part of the state. -/
theorem lens_mo : Lens (F := F) R R.mo St.mo (fun σ X => { σ with mo := X }) := .of (fun _ => rfl) 10 (by omega) (fun _ _ => rfl) (fun _ _ _ => rfl)
/-- The new sums are a part of the state. -/
theorem lens_lo : Lens (F := F) R R.lo St.lo (fun σ X => { σ with lo := X }) := .of (fun _ => rfl) 11 (by omega) (fun _ _ => rfl) (fun _ _ _ => rfl)
/-- The carried keys are a part of the state. -/
theorem lens_kg : Lens (F := F) R R.kg St.kg (fun σ X => { σ with kg := X }) := .of (fun _ => rfl) 12 (by omega) (fun _ _ => rfl) (fun _ _ _ => rfl)
/-- The carried transposed values are a part of the state. -/
theorem lens_vt : Lens (F := F) R R.vt St.vt (fun σ X => { σ with vt := X }) := .of (fun _ => rfl) 13 (by omega) (fun _ _ => rfl) (fun _ _ _ => rfl)
/-- The slots of scores are a part of the state. -/
theorem lens_s : Lens (F := F) R R.s St.s (fun σ X => { σ with s := X }) := .of (fun _ => rfl) 14 (by omega) (fun _ _ => rfl) (fun _ _ _ => rfl)
/-- The slots of weights are a part of the state. -/
theorem lens_p : Lens (F := F) R R.p St.p (fun σ X => { σ with p := X }) := .of (fun _ => rfl) 15 (by omega) (fun _ _ => rfl) (fun _ _ _ => rfl)
end lenses

/-- A reshaped buffer is the same field, read and written through the row-major renumbering. -/
theorem Lens.reshape {R : Refs sig} {sp : CoreSpace} {sh sh' : Shape} {e : EltTy} {m : Memref sig .tc sp sh e} {get : St F → Vec F sh e}
    {set : St F → Vec F sh e → St F} (L : Lens R m get set) (h : sh'.numel = sh.numel) (hr : 2 ≤ sh.rank ∧ 2 ≤ sh'.rank)
    (hc : m.view.Contiguous) :
    Lens R (m.reshape sh' h hr hc) (fun σ j => get σ (Shape.reshapeEquiv h j))
      (fun σ X => set σ fun i => X ((Shape.reshapeEquiv h).symm i)) := by
  refine ⟨fun σ => by simp [L.eta], ?_⟩
  intro nD τ c σ
  refine (L.acc c σ).trans ?_
  have e1 : ∀ f, (m.reshape sh' h hr hc).view.read (Elt F) f = fun j => m.view.read (Elt F) f (Shape.reshapeEquiv h j) := fun f => rfl
  have e2 : (m.reshape sh' h hr hc).view.set = m.view.set := View.set_reshape _ _
  unfold owns
  iintro ⟨⟨%f, %hf, H⟩, Hl⟩
  isplitl [H]
  · iexists f
    isplitr
    · ipureintro; rw [e1, hf]
    · rw [e2]; iexact H
  · iintro %X ⟨%f', %hf', H⟩
    iapply Hl
    iexists f'
    isplitr
    · ipureintro; rw [← hf', e1]; funext i; simp
    · rw [e2]; iexact H

variable (defs : Defs nD τ sig (Elt F) Λ) (𝒱 : Variants) (bd : Option 𝒱.V) (E : Set ℕ) (R : Refs sig) (c : Dev nD)

/-- From the buffers at `σ`, the program runs without fault and ends with a result and contents that `Q` holds of. -/
def T {α : Type} (p : TP nD τ sig F Λ α) (Q : α → St F → Prop) (σ : St F) : Prop :=
  own R c σ ⊢ wp frame (wpE defs 𝒱 (c : Thread nD τ) bd) E p fun a => iprop(∃ σ', ⌜Q a σ'⌝ ∗ own R c σ')

variable {defs 𝒱 bd E R c}
variable {α β : Type}

/-- A program that only returns leaves the state as it is. -/
theorem T.ret {a : α} {Q : α → St F → Prop} {σ : St F} (h : Q a σ) :
    T defs 𝒱 bd E R c (pure a : TP nD τ sig F Λ α) Q σ := by
  refine BIBase.Entails.trans ?_ (le_wp_ret _ _ _ a _)
  iintro H
  iexists σ
  isplitr; · ipureintro; exact h
  iexact H

/-- What a program ensures may be weakened. -/
theorem T.mono {p : TP nD τ sig F Λ α} {Q Q' : α → St F → Prop} {σ : St F} (h : T defs 𝒱 bd E R c p Q σ)
    (hQ : ∀ a σ', Q a σ' → Q' a σ') : T defs 𝒱 bd E R c p Q' σ := by
  refine BIBase.Entails.trans h (wp_mono _ _ _ fun a => ?_)
  iintro ⟨%σ', %hs, H⟩
  iexists σ'
  isplitr; · ipureintro; exact hQ a σ' hs
  iexact H

/-- A program followed by another: what the second ensures of every result of the first. -/
theorem T.bind {p : TP nD τ sig F Λ α} {k : α → TP nD τ sig F Λ β} {Q : β → St F → Prop} {σ : St F}
    (h : T defs 𝒱 bd E R c p (fun a σ' => T defs 𝒱 bd E R c (k a) Q σ') σ) : T defs 𝒱 bd E R c (p >>= k) Q σ := by
  unfold T
  rw [wp_bind]
  refine BIBase.Entails.trans h (wp_mono _ _ _ fun a => ?_)
  iintro ⟨%σ', %hs, H⟩
  have hs' : own R c σ' ⊢ _ := hs
  iapply hs' $$ H

/-- A load returns the block of the buffer's contents. -/
theorem T.ld {n : ℕ} {S : Fin n → ℕ} {e : EltTy} {m : Memref sig .tc .vmem ⟨n, S⟩ e} {get : St F → Vec F ⟨n, S⟩ e}
    {set : St F → Vec F ⟨n, S⟩ e → St F} (L : Lens R m get set) {off sz : Fin n → ℕ}
    {inb : ∀ a, off a + sz a ≤ S a} {hp : 0 < Shape.numel ⟨n, sz⟩} {Q : Vec F ⟨n, sz⟩ e → St F → Prop} {σ : St F}
    (h : Q (View.ld (get σ) (Rect.unit (s := ⟨n, S⟩) off sz inb)) σ) :
    T defs 𝒱 bd E R c (RingStep.ld m off sz inb hp) Q σ := by
  refine (L.acc c σ).trans ?_
  unfold RingStep.ld Prog.lift owns
  iintro ⟨⟨%f, %hf, H⟩, Hl⟩
  iapply (wp_load 𝒱 (c : Thread nD τ) bd E (View.setOn_subset_set _ _)) $$ H
  iintro H
  iapply (le_wp_ret _ _ _ _ _)
  iexists σ
  isplitr
  · ipureintro; rw [View.readAt_eq_ld, hf]; exact h
  · ihave Hl := Hl $$ %(get σ)
    rw [L.eta]
    iapply Hl
    iexists f
    isplitr; · ipureintro; exact hf
    iexact H

/-- A store replaces a block of the buffer's contents. -/
theorem T.store {n : ℕ} {S : Fin n → ℕ} {e : EltTy} {m : Memref sig .tc .vmem ⟨n, S⟩ e} {get : St F → Vec F ⟨n, S⟩ e}
    {set : St F → Vec F ⟨n, S⟩ e → St F} (L : Lens R m get set) {off sz : Fin n → ℕ}
    {inb : ∀ a, off a + sz a ≤ S a} {w : Vec F ⟨n, sz⟩ e}
    {hx : (m.access (Rect.unit (s := ⟨n, S⟩) off sz inb)).Stores Finset.univ} {hm} {Q : PUnit → St F → Prop} {σ : St F}
    (h : Q ⟨⟩ (set σ ((Rect.unit (s := ⟨n, S⟩) off sz inb).overlay (get σ) w))) :
    T defs 𝒱 bd E R c (Prog.lift (.store m (Rect.unit (s := ⟨n, S⟩) off sz inb) w Finset.univ hx hm)) Q σ := by
  refine (L.acc c σ).trans ?_
  unfold Prog.lift owns
  iintro ⟨⟨%f, %hf, H⟩, Hl⟩
  have hS : (m.access (Rect.unit (s := ⟨n, S⟩) off sz inb)).setOn Finset.univ ⊆ m.view.set := by
    rw [View.setOn_univ]; exact View.set_slice_subset _ _
  have hw := fun Q : PUnit → sProp 𝕄 => wp_store (defs := defs) (Γ := []) 𝒱 (c : Thread nD τ) bd E (m := m) (hx := hx) (hm := hm) (w := w) (f := f) (Q := Q)
    (k := Prog.ret) hS
  iapply (hw _) $$ H
  iintro H
  iapply (le_wp_ret _ _ _ _ _)
  iexists _
  isplitr
  · ipureintro; exact h
  · iapply Hl
    iexists _
    isplitr
    rotate_left
    · iexact H
    · ipureintro
      funext y
      by_cases hy : y ∈ (Rect.unit (s := ⟨n, S⟩) off sz inb).set
      · rw [← Rect.map_emb_univ, Finset.mem_map] at hy
        obtain ⟨x, -, rfl⟩ := hy
        rw [Rect.overlay_emb]
        exact View.read_slice_write_emb _ _ _ (Finset.mem_univ _)
      · rw [Rect.overlay_of_not_mem _ _ _ hy, ← hf]
        exact View.read_slice_write_of_not_mem _ _ _ _ (by rwa [Rect.map_emb_univ])

/-- A word of a table. -/
theorem T.word {A B : ℕ} {m : Memref sig .tc .smem (M2 A B) .f32} {get : St F → Vec F (M2 A B) .f32}
    {set : St F → Vec F (M2 A B) .f32 → St F} (L : Lens R m get set) {off : Fin 2 → ℕ}
    {inb : ∀ a, off a + ![1, 1] a ≤ ![A, B] a} {Q : F .f32 → St F → Prop} {σ : St F}
    (h : Q (get σ fun a => ⟨off a, by have := inb a; fin_cases a <;> exact this⟩) σ) :
    T defs 𝒱 bd E R c (RingStep.word m off inb) Q σ := by
  refine (L.acc c σ).trans ?_
  unfold RingStep.word smemLoad owns
  iintro ⟨⟨%f, %hf, H⟩, Hl⟩
  iapply (wp_load 𝒱 (c : Thread nD τ) bd E (View.setOn_subset_set _ _)) $$ H
  iintro H
  iapply (le_wp_ret _ _ _ _ _)
  iexists σ
  isplitr
  · ipureintro; rw [View.readAt_eq_ld, hf]
    refine cast (congrArg (fun x => Q (get σ x) σ) ?_) h
    funext a
    apply Fin.ext
    fin_cases a <;> rfl
  · ihave Hl := Hl $$ %(get σ)
    rw [L.eta]
    iapply Hl
    iexists f
    isplitr; · ipureintro; exact hf
    iexact H

/-- A loop keeps an invariant that each of its passes keeps. -/
theorem T.loop {N : ℕ} {f : (i : ℕ) → i < N → α → TP nD τ sig F Λ α} (I : ℕ → α → St F → Prop)
    (hf : ∀ i (h : i < N) x σ, I i x σ → T defs 𝒱 bd E R c (f i h x) (I (i + 1)) σ) :
    ∀ (k i : ℕ) (h : i + k = N) (x : α) (σ : St F), I i x σ → T defs 𝒱 bd E R c (RingStep.loop f k i h x) (I N) σ
  | 0, i, h, x, σ, hI => .ret (by rw [← h]; exact hI)
  | k + 1, i, h, x, σ, hI => .bind ((hf i (by omega) x σ hI).mono fun y σ' hy => T.loop I hf k (i + 1) (by omega) y σ' hy)

/-- The nine inputs of `σ` are those of `σ₀`. -/
structure Same (σ₀ σ : St F) : Prop where
  qs : σ.qs = σ₀.qs
  ks : σ.ks = σ₀.ks
  vs : σ.vs = σ₀.vs
  q : σ.q = σ₀.q
  k : σ.k = σ₀.k
  v : σ.v = σ₀.v
  oi : σ.oi = σ₀.oi
  mi : σ.mi = σ₀.mi
  li : σ.li = σ₀.li

/-- The sixteen buffers one by one, the inputs at what they held before. -/
theorem own_same (R : Refs sig) (c : Dev nD) {σ₀ σ : St F} (h : Same σ₀ σ) : own (τ := τ) R c σ ⊢ iprop(
      owns c R.qs fullShare σ₀.qs ∗ owns c R.ks fullShare σ₀.ks ∗ owns c R.vs fullShare σ₀.vs ∗ owns c R.q fullShare
      σ₀.q ∗ owns c R.k fullShare σ₀.k ∗ owns c R.v fullShare σ₀.v ∗ owns c R.oi fullShare σ₀.oi ∗ owns c R.mi
      fullShare σ₀.mi ∗ owns c R.li fullShare σ₀.li ∗ owns c R.oo fullShare σ.oo ∗ owns c R.mo fullShare σ.mo ∗ owns c
      R.lo fullShare σ.lo ∗ owns c R.kg fullShare σ.kg ∗ owns c R.vt fullShare σ.vt ∗ owns c R.s fullShare σ.s ∗ owns
      c R.p fullShare σ.p ∗ emp) := by
  obtain ⟨h0, h1, h2, h3, h4, h5, h6, h7, h8⟩ := h
  rw [← h0, ← h1, ← h2, ← h3, ← h4, ← h5, ← h6, ← h7, ← h8]
  exact BIBase.Entails.rfl

/-- The sixteen buffers together. -/
theorem own_intro (R : Refs sig) (c : Dev nD) (σ : St F) : iprop(
      owns c R.qs fullShare σ.qs ∗ owns c R.ks fullShare σ.ks ∗ owns c R.vs fullShare σ.vs ∗ owns c R.q fullShare σ.q
      ∗ owns c R.k fullShare σ.k ∗ owns c R.v fullShare σ.v ∗ owns c R.oi fullShare σ.oi ∗ owns c R.mi fullShare σ.mi
      ∗ owns c R.li fullShare σ.li ∗ owns c R.oo fullShare σ.oo ∗ owns c R.mo fullShare σ.mo ∗ owns c R.lo fullShare
      σ.lo ∗ owns c R.kg fullShare σ.kg ∗ owns c R.vt fullShare σ.vt ∗ owns c R.s fullShare σ.s ∗ owns c R.p fullShare
      σ.p ∗ emp) ⊢ own (τ := τ) R c σ :=
  BIBase.Entails.rfl

end RingStep
-- ==== Proof.Exec.lean ====
/- The loop-free parts of the body, run: what each returns and what it leaves in the buffers. -/
module

public import proofs.«01_k».proof.Proof.Hoare
public import Idealize.ShloMosaic.Lib.Pointwise.Index

@[expose] public section

noncomputable section

namespace RingStep

open Idealize.ShloMosaic Idealize.SL.Sem

variable {nD : ℕ} {τ : Topo} {sig : RefSig} {F : FTy → Type} [FloatOps F] {Λ : Labels}
variable {defs : Defs nD τ sig (Elt F) Λ} {𝒱 : Variants} {bd : Option 𝒱.V} {E : Set ℕ} {R : Refs sig} {c : Dev nD}

/-- The block at `off` of sizes `sz` of an array. -/
abbrev blk {n : ℕ} {S : Fin n → ℕ} {e : EltTy} (X : Vec F ⟨n, S⟩ e) (off sz : Fin n → ℕ) (inb : ∀ a, off a + sz a ≤ S a) :
    Vec F ⟨n, sz⟩ e := View.ld X (Rect.unit (s := ⟨n, S⟩) off sz inb)

/-- The array with that block replaced. -/
abbrev upd {n : ℕ} {S : Fin n → ℕ} {e : EltTy} (X : Vec F ⟨n, S⟩ e) (off sz : Fin n → ℕ) (inb : ∀ a, off a + sz a ≤ S a)
    (w : Vec F ⟨n, sz⟩ e) : Vec F ⟨n, S⟩ e := (Rect.unit (s := ⟨n, S⟩) off sz inb).overlay X w

/-! ## Laying out a batch's keys and values -/

/-- A block of 128 tokens of group `gg`'s keys stored, -/
def putKVal (kg : Vec F (M3 8 1024 128) .fp8e4m3) (t : ℕ) (ht : t < 8) (gg : ℕ) (h : gg < 8) (y : FVec F (M2 128 128) .fp8e4m3) :
    Vec F (M3 8 1024 128) .fp8e4m3 :=
  upd kg ![gg, 128 * t, 0] ![1, 128, 128] (inb3 (by omega) (by omega) (by omega)) (shapeCast (M3 1 128 128) y (by decide))
/-- and of its values, transposed. -/
def putVVal (vt : Vec F (M3 8 128 1024) .fp8e4m3) (t : ℕ) (ht : t < 8) (gg : ℕ) (h : gg < 8) (y : FVec F (M2 128 128) .fp8e4m3) :
    Vec F (M3 8 128 1024) .fp8e4m3 :=
  upd vt ![gg, 0, 128 * t] ![1, 128, 128] (inb3 (by omega) (by omega) (by omega)) (shapeCast (M3 1 128 128)
    (truncf .fp8e4m3 (transpose (M2 128 128) [1, 0] (extf .f32 y (by decide)) (by decide)) (by decide)) (by decide))

/-- Storing one group's 128 keys into the carried layout. -/
theorem T.putK {t : ℕ} {ht : t < 8} {x : ℕ → FVec F (M2 128 128) .fp8e4m3} {gg : ℕ} {h : gg < 8} {Q : PUnit → St F → Prop} {σ : St F}
    (hQ : Q ⟨⟩ { σ with kg := putKVal σ.kg t ht gg h (x gg) }) :
    T defs 𝒱 bd E R c (RingStep.putK R t ht x gg h) Q σ :=
  .bind (.ld (lens_kg R) (.store (lens_kg R) hQ))

/-- Storing one group's 128 values, transposed, into the carried layout. -/
theorem T.putV {t : ℕ} {ht : t < 8} {x : ℕ → FVec F (M2 128 128) .fp8e4m3} {gg : ℕ} {h : gg < 8} {Q : PUnit → St F → Prop} {σ : St F}
    (hQ : Q ⟨⟩ { σ with vt := putVVal σ.vt t ht gg h (x gg) }) :
    T defs 𝒱 bd E R c (RingStep.putV R t ht x gg h) Q σ :=
  .bind (.ld (lens_vt R) (.store (lens_vt R) hQ))

/-- Loading one group's 128 rows of keys or values. -/
theorem T.getKV {m : Memref sig .tc .vmem ⟨4, ![1, 1024, 8, 128]⟩ .fp8e4m3} {get : St F → Vec F ⟨4, ![1, 1024, 8, 128]⟩ .fp8e4m3}
    {set} (L : Lens R m get set) {t : ℕ} {ht : t < 8} {gg : ℕ} {h : gg < 8} {x : ℕ → FVec F (M2 128 128) .fp8e4m3}
    {Q : (ℕ → FVec F (M2 128 128) .fp8e4m3) → St F → Prop} {σ : St F}
    (hQ : Q (Function.update x gg (shapeCast (M2 128 128) (blk (get σ) ![0, 128 * t, gg, 0] ![1, 128, 1, 128]
      (inb4 (by omega) (by omega) (by omega) (by omega))) (by decide))) σ) :
    T defs 𝒱 bd E R c (RingStep.getKV m t ht gg h x) Q σ :=
  .bind (.ld L (.ret hQ))

/-! ## One block of 64 tokens -/

/-- The scores of block `a`'s queries against its keys. -/
def scoreMat (q : Vec F ⟨4, ![1, 1024, 32, 128]⟩ .fp8e4m3) (kg : Vec F (M3 8 1024 128) .fp8e4m3) (g : ℕ) (hg : g < 8)
    (sg : FVec F (M2 256 128) .f32) (a : ℕ) (ha : a < 16) : FVec F (M2 (64 * (a + 1)) 256) .f32 :=
  matmul (DotDims.transposedRhs (64 * (a + 1)) 128 256) none
    (shapeCast (M2 (64 * (a + 1)) 128) (blk kg ![g, 0, 0] ![1, 64 * (a + 1), 128] (inb3 (by omega) (by omega) (by omega))) casts3)
    (truncf .fp8e4m3 (mulf (extf .f32 (shapeCast (M2 256 128) (shapeCast (M3 64 4 128)
      (blk q ![0, 64 * a, 4 * g, 0] ![1, 64, 4, 128] (inb4 (by omega) (by omega) (by omega) (by omega))) (by decide)) (by decide) :
        FVec F (M2 256 128) .fp8e4m3) (by decide)) sg) (by decide))
    (constant (M2 (64 * (a + 1)) 256) .f32 0x00000000#32)

/-- The buffer of scores with block `a`'s stored in its slot. -/
def putScores (s : Vec F (M3 2 1024 256) .f32) (a : ℕ) (ha : a < 16) (w : FVec F (M2 (64 * (a + 1)) 256) .f32) :
    Vec F (M3 2 1024 256) .f32 :=
  upd s ![a % 2, 0, 0] ![1, 64 * (a + 1), 256] (inb3 (by omega) (by omega) (by omega)) (shapeCast (M3 1 (64 * (a + 1)) 256) w casts2)

/-- Their maxima over the two halves' tiles. -/
def scoreMax (a : ℕ) (s : FVec F (M2 (64 * (a + 1)) 256) .f32) : Tile F × Tile F :=
  (maxTo (64 * (a + 1)) (64 * a) 0 (by omega) s (8 * a + 4) (by omega),
    maxTo (64 * (a + 1)) (64 * a + 32) 1 (by omega) s (8 * a + 8) (by omega))

/-- Computing a block's scores: they are stored in the block's slot, and the maxima of its two halves are returned. -/
theorem T.scores {g : ℕ} {hg : g < 8} {sg : FVec F (M2 256 128) .f32} {a : ℕ} {ha : a < 16} {Q : Tile F × Tile F → St F → Prop}
    {σ : St F} (hQ : Q (scoreMax a (scoreMat σ.q σ.kg g hg sg a ha))
      { σ with s := putScores σ.s a ha (scoreMat σ.q σ.kg g hg sg a ha) }) :
    T defs 𝒱 bd E R c (RingStep.scores R g hg sg a ha) Q σ :=
  .bind (.ld (lens_q R) (.bind (.ld (lens_kg R) (.bind (.ld (lens_s R) (.bind (.store (lens_s R) (.ret hQ))))))))

/-- The statistics of half `hf` of block `a`, spread over a tile. -/
def stateRowVal (X : Vec F (M3 1 32 1024) .f32) (g : ℕ) (hg : g < 8) (a : ℕ) (ha : a < 16) (hf : ℕ) : Tile F :=
  dynamicGather (s := M2 8 128) 0 (dynamicGather (s := M2 8 128) 1 (shapeCast (M2 8 128)
      (blk X ![0, 8 * (g / 2), 128 * (a / 2)] ![1, 8, 128] (inb3 (by omega) (by omega) (by omega))) (by decide))
      (wrapIx (addi (broadcast (M2 8 128) (BitVec.ofNat 32 (64 * (a % 2) + 32 * hf))) tokOfLane) 128#32))
    (wrapIx (addi headOfLane (broadcast (M2 8 128) (BitVec.ofNat 32 (4 * (g % 2))))) 8#32)

/-- Reading a half block's row of statistics leaves the state as it is. -/
theorem T.stateRow {m : Memref sig .tc .vmem (M3 1 32 1024) .f32} {get : St F → Vec F (M3 1 32 1024) .f32} {set} (L : Lens R m get set)
    {g : ℕ} {hg : g < 8} {a : ℕ} {ha : a < 16} {hf : ℕ} {hhf : hf < 2} {Q : Tile F → St F → Prop} {σ : St F}
    (hQ : Q (stateRowVal (get σ) g hg a ha hf) σ) : T defs 𝒱 bd E R c (RingStep.stateRow m g hg a ha hf hhf) Q σ :=
  .bind (.ld L (.ret hQ))

/-- One tile of weights. -/
def weightTile (s : Vec F (M3 2 1024 256) .f32) (a : ℕ) (ha : a < 16) (hf : ℕ) (hhf : hf < 2) (c1 m2 : Tile F) (k0 : ℕ)
    (hk : k0 + 8 ≤ 1024) : Tile F :=
  exp2 (masked (64 * a + 32 * hf) k0 (subf (mulf (shapeCast (M2 8 128) (blk s ![a % 2, k0, 128 * hf] ![1, 8, 128]
    (inb3 (by omega) (by omega) (by omega))) (by decide)) c1) m2))

/-- Computing one tile of weights leaves the state as it is. -/
theorem T.weights {a : ℕ} {ha : a < 16} {hf : ℕ} {hhf : hf < 2} {c1 m2 : Tile F} {k0 : ℕ} {hk : k0 + 8 ≤ 1024} {Q : Tile F → St F → Prop}
    {σ : St F} (hQ : Q (weightTile σ.s a ha hf hhf c1 m2 k0 hk) σ) :
    T defs 𝒱 bd E R c (RingStep.weights R a ha hf hhf c1 m2 k0 hk) Q σ :=
  .bind (.ld (lens_s R) (.ret hQ))

/-- The buffer of weights with thirty-two rows of a half's stored. -/
def putWeights (p : Vec F (M3 2 1024 256) .fp8e4m3) (a : ℕ) (ha : a < 16) (hf : ℕ) (hhf : hf < 2) (b : ℕ) (hb : b < 2 * a + 2)
    (w : FVec F (M2 32 128) .fp8e4m3) : Vec F (M3 2 1024 256) .fp8e4m3 :=
  upd p ![a % 2, 32 * b, 128 * hf] ![1, 32, 128] (inb3 (by omega) (by omega) (by omega)) (shapeCast (M3 1 32 128) w (by decide))

/-- Weights of no tokens. -/
def zero8 : FVec F (M2 32 128) .fp8e4m3 := broadcast (M2 32 128) (Scalar.ofBits .fp8e4m3 0x00#8)

/-- Four tiles of weights, one above the other. -/
def stack4 (p0 p1 p2 p3 : Tile F) : FVec F (M2 32 128) .fp8e4m3 :=
  truncf .fp8e4m3 (concatenate (M2 32 128) 0 [⟨M2 8 128, p0⟩, ⟨M2 8 128, p1⟩, ⟨M2 8 128, p2⟩, ⟨M2 8 128, p3⟩] concat4) (by decide)

/-- Computing 32 keys' weights of a half block: zeros are stored past the diagonal, and four tiles of weights up to it, whose sum is added to the running sum. -/
theorem T.wblock {a : ℕ} {ha : a < 16} {hf : ℕ} {hhf : hf < 2} {c1 m2 : Tile F} {b : ℕ} {hb : b < 2 * a + 2} {acc : Tile F}
    {Q : Tile F → St F → Prop} {σ : St F}
    (h0 : 64 * a + 32 * hf + 32 ≤ 32 * b → Q acc { σ with p := putWeights σ.p a ha hf hhf b hb zero8 })
    (h1 : ¬ 64 * a + 32 * hf + 32 ≤ 32 * b →
      let w := fun i (hi : 32 * b + i + 8 ≤ 1024) => weightTile σ.s a ha hf hhf c1 m2 (32 * b + i) hi
      Q (addf (addf (addf (addf acc (w 0 (by omega))) (w 8 (by omega))) (w 16 (by omega))) (w 24 (by omega)))
        { σ with p := putWeights σ.p a ha hf hhf b hb (stack4 (w 0 (by omega)) (w 8 (by omega)) (w 16 (by omega)) (w 24 (by omega))) }) :
    T defs 𝒱 bd E R c (RingStep.wblock R a ha hf hhf c1 m2 b hb acc) Q σ := by
  unfold RingStep.wblock
  split
  · rename_i h
    exact .bind (.ld (lens_p R) (.bind (.store (lens_p R) (.ret (h0 h)))))
  · rename_i h
    exact .bind (.weights (.bind (.weights (.bind (.weights (.bind (.weights
      (.bind (.ld (lens_p R) (.bind (.store (lens_p R) (.ret (h1 h)))))))))))))

/-- Half `hf` of block `a`: the weights' exponent's coefficient and offset, from the incoming statistics and the maxima. -/
def newMax (mi : Vec F (M3 1 32 1024) .f32) (g : ℕ) (hg : g < 8) (a : ℕ) (ha : a < 16) (hf : ℕ) (fac mx : Tile F) : Tile F :=
  maximumf (stateRowVal mi g hg a ha hf) (mulf (allreduce maximumf mx) fac)
def offsetOf (L : F .f32) (mNew : Tile F) : Tile F :=
  subf (mulf mNew (broadcast (M2 8 128) L)) (broadcast (M2 8 128) (Scalar.ofBits .f32 0x41000000#32))
def coeffOf (L : F .f32) (fac : Tile F) : Tile F := mulf fac (broadcast (M2 8 128) L)
def alphaOf (mi : Vec F (M3 1 32 1024) .f32) (g : ℕ) (hg : g < 8) (a : ℕ) (ha : a < 16) (hf : ℕ) (mNew : Tile F) : Tile F :=
  exp (subf (stateRowVal mi g hg a ha hf) mNew)
def newSum (li : Vec F (M3 1 32 1024) .f32) (g : ℕ) (hg : g < 8) (a : ℕ) (ha : a < 16) (hf : ℕ) (alpha acc : Tile F) : Tile F :=
  addf (mulf alpha (stateRowVal li g hg a ha hf)) (mulf (allreduce addf acc) (broadcast (M2 8 128) (Scalar.ofBits .f32 0x3B800000#32)))

/-- Computing a half block's weights and its new statistics, by an invariant of the loop over its keys. -/
theorem T.half {g : ℕ} {hg : g < 8} {a : ℕ} {ha : a < 16} {hf : ℕ} {hhf : hf < 2} {L : F .f32} {fac mx : Tile F}
    {Q : Tile F × Tile F × Tile F → St F → Prop} {σ : St F} (I : ℕ → Tile F → St F → Prop)
    (h0 : I 0 (broadcast (M2 8 128) (Scalar.ofBits .f32 0x00000000#32)) σ)
    (hstep : ∀ b (hb : b < 2 * a + 2) x σ', I b x σ' → T defs 𝒱 bd E R c
      (RingStep.wblock R a ha hf hhf (coeffOf L fac) (offsetOf L (newMax σ.mi g hg a ha hf fac mx)) b hb x) (I (b + 1)) σ')
    (hQ : ∀ x σ', I (2 * a + 2) x σ' → σ'.li = σ.li →
      Q (newMax σ.mi g hg a ha hf fac mx, newSum σ.li g hg a ha hf (alphaOf σ.mi g hg a ha hf (newMax σ.mi g hg a ha hf fac mx)) x,
        alphaOf σ.mi g hg a ha hf (newMax σ.mi g hg a ha hf fac mx)) σ')
    (hli : ∀ x σ', I (2 * a + 2) x σ' → σ'.li = σ.li) :
    T defs 𝒱 bd E R c (RingStep.half R g hg a ha hf hhf L fac mx) Q σ := by
  refine .bind (.stateRow (lens_mi R) (.bind ((T.loop I hstep _ _ _ _ _ h0).mono fun x σ' hI => ?_)))
  refine .bind (.stateRow (lens_li R) (.ret ?_))
  rw [hli x σ' hI]
  exact hQ x σ' hI (hli x σ' hI)

/-- The rows of 64 tokens' four heads as a matrix: the renumbering of a block of the outgoing array. -/
abbrev rows (o : Vec F ⟨5, ![1, 1024, 1, 4, 128]⟩ .f32) : Vec F (M2 4096 128) .f32 :=
  fun j => o (Shape.reshapeEquiv (by decide : (M2 4096 128).numel = (⟨5, ![1, 1024, 1, 4, 128]⟩ : Shape).numel) j)
abbrev unrows (o : Vec F (M2 4096 128) .f32) : Vec F ⟨5, ![1, 1024, 1, 4, 128]⟩ .f32 :=
  fun j => o ((Shape.reshapeEquiv (by decide : (M2 4096 128).numel = (⟨5, ![1, 1024, 1, 4, 128]⟩ : Shape).numel)).symm j)

/-- The outgoing rows of half `hf` of block `a`. -/
def outVal (oi : Vec F ⟨5, ![1, 1024, 1, 4, 128]⟩ .f32) (a : ℕ) (ha : a < 16) (hf : ℕ) (hhf : hf < 2) (vs : F .f32) (alpha : Tile F)
    (pv : FVec F (M2 128 256) .f32) : FVec F (M2 128 128) .f32 :=
  addf (mulf (transpose (M2 128 128) [1, 0] (broadcastTo (M2 128 128)
      (shapeCast (M2 1 128) (extractStridedSlice (M2 1 128) ![0, 0] alpha (by decide)) (by decide)) (by decide)) (by decide))
    (shapeCast (M2 128 128) (blk (rows oi) ![256 * a + 128 * hf, 0] ![128, 128] (inb2 (by omega) (by omega))) (by decide)))
    (mulf (broadcast (M2 128 128) vs) (transpose (M2 128 128) [1, 0] (extractStridedSlice (M2 128 128) ![0, 128 * hf] pv
      ⟨rfl, by intro a; fin_cases a <;> simp [M2] <;> omega⟩) (by decide)))

def putOut (oo : Vec F ⟨5, ![1, 1024, 1, 4, 128]⟩ .f32) (a : ℕ) (ha : a < 16) (hf : ℕ) (hhf : hf < 2) (w : FVec F (M2 128 128) .f32) :
    Vec F ⟨5, ![1, 1024, 1, 4, 128]⟩ .f32 :=
  unrows (upd (rows oo) ![256 * a + 128 * hf, 0] ![128, 128] (inb2 (by omega) (by omega)) w)

/-- Storing a half block's rows of output. -/
theorem T.outRows {a : ℕ} {ha : a < 16} {hf : ℕ} {hhf : hf < 2} {vs : F .f32} {alpha : Tile F} {pv : FVec F (M2 128 256) .f32}
    {Q : PUnit → St F → Prop} {σ : St F}
    (hQ : Q ⟨⟩ { σ with oo := putOut σ.oo a ha hf hhf (outVal σ.oi a ha hf hhf vs alpha pv) }) :
    T defs 𝒱 bd E R c (RingStep.outRows R a ha hf hhf vs alpha pv) Q σ :=
  .bind (.ld ((lens_oi R).reshape _ _ _) (.bind (.ld ((lens_oo R).reshape _ _ _) (.store ((lens_oo R).reshape _ _ _) hQ))))

/-- The product of block `a`'s weights with the values. -/
def pvMat (vt : Vec F (M3 8 128 1024) .fp8e4m3) (p : Vec F (M3 2 1024 256) .fp8e4m3) (g : ℕ) (hg : g < 8) (a : ℕ) (ha : a < 16) :
    FVec F (M2 128 256) .f32 :=
  matmul (DotDims.plain 128 (64 * (a + 1)) 256) none
    (shapeCast (M2 128 (64 * (a + 1))) (blk vt ![g, 0, 0] ![1, 128, 64 * (a + 1)] (inb3 (by omega) (by omega) (by omega))) casts3)
    (shapeCast (M2 (64 * (a + 1)) 256) (blk p ![a % 2, 0, 0] ![1, 64 * (a + 1), 256] (inb3 (by omega) (by omega) (by omega))) casts3)
    (constant (M2 128 256) .f32 0x00000000#32)

/-- The four half blocks' statistics of 128 tokens, stored. -/
def putStateVal (X : Vec F (M3 1 32 1024) .f32) (g : ℕ) (hg : g < 8) (cc : ℕ) (hc : cc < 8) (r : ℕ → Tile F) : Vec F (M3 1 32 1024) .f32 :=
  upd X ![0, 8 * (g / 2), 128 * cc] ![1, 8, 128] (inb3 (by omega) (by omega) (by omega)) (shapeCast (M3 1 8 128)
    (stateTile g r (shapeCast (M2 8 128) (blk X ![0, 8 * (g / 2), 128 * cc] ![1, 8, 128] (inb3 (by omega) (by omega) (by omega)))
      (by decide))) (by decide))

/-- Storing 128 tokens' statistics of a group. -/
theorem T.putState {m : Memref sig .tc .vmem (M3 1 32 1024) .f32} {get : St F → Vec F (M3 1 32 1024) .f32} {set} (L : Lens R m get set)
    {g : ℕ} {hg : g < 8} {cc : ℕ} {hc : cc < 8} {r : ℕ → Tile F} {Q : PUnit → St F → Prop} {σ : St F}
    (hQ : Q ⟨⟩ (set σ (putStateVal (get σ) g hg cc hc r))) : T defs 𝒱 bd E R c (RingStep.putState m g hg cc hc r) Q σ :=
  .bind (.ld L (.bind (.ld L (.store L hQ))))

/-! ## The step -/

/-- The factor of query head `4 g + h`'s scores. -/
def factorVal (qs : Vec F (M2 2 32) .f32) (ks : Vec F (M2 2 8) .f32) (bo : Fin 2) (g : Fin 8) (h : Fin 4) : F .f32 :=
  Scalar.mulf (Scalar.mulf (qs (ix2 bo ⟨4 * g.val + h.val, by omega⟩)) (ks (ix2 bo g))) (Scalar.ofBits .f32 0x3DB504F3#32)

/-- Computing one head's factor leaves the state as it is. -/
theorem T.factor {bo : ℕ} {hbo : bo < 2} {g : ℕ} {hg : g < 8} {h : ℕ} {hh : h < 4} {Q : F .f32 → St F → Prop} {σ : St F}
    (hQ : Q (factorVal σ.qs σ.ks ⟨bo, hbo⟩ ⟨g, hg⟩ ⟨h, hh⟩) σ) : T defs 𝒱 bd E R c (RingStep.factor R bo hbo g hg h hh) Q σ := by
  refine .bind (.word (lens_qs R) (.bind (.word (lens_ks R) (.ret ?_))))
  refine cast (congrArg (fun x => Q x σ) ?_) hQ
  unfold factorVal
  congr 2
  · congr 1; funext a; fin_cases a <;> rfl
  · congr 1; funext a; fin_cases a <;> rfl

def zeroVal (X : Vec F (M3 1 32 1024) .f32) (g : ℕ) (hg : g < 8) : Vec F (M3 1 32 1024) .f32 :=
  upd X ![0, 8 * (g / 2), 0] ![1, 8, 1024] (inb3 (by omega) (by omega) (by omega))
    (shapeCast (M3 1 8 1024) (broadcast (M2 8 1024) (Scalar.ofBits .f32 0x00000000#32)) (by decide))

/-- Zeroing a pair of groups' statistics. -/
theorem T.zeroState {m : Memref sig .tc .vmem (M3 1 32 1024) .f32} {get : St F → Vec F (M3 1 32 1024) .f32} {set} (L : Lens R m get set)
    {g : ℕ} {hg : g < 8} {Q : PUnit → St F → Prop} {σ : St F} (hQ : Q ⟨⟩ (set σ (zeroVal (get σ) g hg))) :
    T defs 𝒱 bd E R c (RingStep.zeroState m g hg) Q σ :=
  .bind (.ld L (.store L hQ))

end RingStep
-- ==== Proof.Safe.lean ====
/- The body runs without fault from any contents, and leaves its nine inputs as they are. -/
module

public import proofs.«01_k».proof.Proof.Exec

@[expose] public section

noncomputable section

namespace RingStep

open Idealize.ShloMosaic Idealize.SL.Sem

variable {nD : ℕ} {τ : Topo} {sig : RefSig} {F : FTy → Type} [FloatOps F] {Λ : Labels}
variable {defs : Defs nD τ sig (Elt F) Λ} {𝒱 : Variants} {bd : Option 𝒱.V} {E : Set ℕ} {R : Refs sig} {c : Dev nD}

/-- A program that leaves the inputs as they are. -/
abbrev Safe (defs : Defs nD τ sig (Elt F) Λ) (𝒱 : Variants) (bd : Option 𝒱.V) (E : Set ℕ) (R : Refs sig) (c : Dev nD)
    {α : Type} (p : TP nD τ sig F Λ α) : Prop :=
  ∀ σ₀ σ, Same σ₀ σ → T defs 𝒱 bd E R c p (fun _ σ' => Same σ₀ σ') σ

variable {α β : Type}

/-- A loop is safe if its body is. -/
theorem Safe.loop {N : ℕ} {f : (i : ℕ) → i < N → α → TP nD τ sig F Λ α} (h : ∀ i hi x, Safe defs 𝒱 bd E R c (f i hi x))
    {k i : ℕ} {hk : i + k = N} {x : α} : Safe defs 𝒱 bd E R c (RingStep.loop f k i hk x) :=
  fun σ₀ σ hs => T.loop (fun _ _ σ' => Same σ₀ σ') (fun i hi x σ' h' => h i hi x σ₀ σ' h') k i hk x σ hs

/-- A program followed by another is safe if both are. -/
theorem Safe.bind {p : TP nD τ sig F Λ α} {k : α → TP nD τ sig F Λ β} (h : Safe defs 𝒱 bd E R c p)
    (hk : ∀ x, Safe defs 𝒱 bd E R c (k x)) : Safe defs 𝒱 bd E R c (p >>= k) :=
  fun σ₀ σ hs => .bind ((h σ₀ σ hs).mono fun x σ' h' => hk x σ₀ σ' h')

/-- Returning is safe. -/
theorem Safe.ret {a : α} : Safe defs 𝒱 bd E R c (pure a) := fun _ _ hs => .ret hs

/-- Laying out a batch's keys and values is safe. -/
theorem safe_prep : Safe defs 𝒱 bd E R c (prep R) :=
  .loop fun t ht _ =>
    .bind (.loop fun gg h x σ₀ σ hs => .getKV (lens_k R) hs) fun _ =>
    .bind (.loop fun gg h _ σ₀ σ hs => .putK ⟨hs.1, hs.2, hs.3, hs.4, hs.5, hs.6, hs.7, hs.8, hs.9⟩) fun _ =>
    .bind (.loop fun gg h x σ₀ σ hs => .getKV (lens_v R) hs) fun _ =>
    .loop fun gg h _ σ₀ σ hs => .putV ⟨hs.1, hs.2, hs.3, hs.4, hs.5, hs.6, hs.7, hs.8, hs.9⟩

/-- Computing a block's scores is safe. -/
theorem safe_scores {g : ℕ} {hg : g < 8} {sg : FVec F (M2 256 128) .f32} {a : ℕ} {ha : a < 16} :
    Safe defs 𝒱 bd E R c (scores R g hg sg a ha) :=
  fun _ _ hs => .scores ⟨hs.1, hs.2, hs.3, hs.4, hs.5, hs.6, hs.7, hs.8, hs.9⟩

/-- Computing a half block's weights and statistics is safe. -/
theorem safe_half {g : ℕ} {hg : g < 8} {a : ℕ} {ha : a < 16} {hf : ℕ} {hhf : hf < 2} {L : F .f32} {fac mx : Tile F} :
    Safe defs 𝒱 bd E R c (half R g hg a ha hf hhf L fac mx) :=
  fun σ₀ σ hs => .half (fun _ _ σ' => Same σ₀ σ') hs
    (fun b hb x σ' h' => .wblock (fun _ => ⟨h'.1, h'.2, h'.3, h'.4, h'.5, h'.6, h'.7, h'.8, h'.9⟩)
      fun _ => ⟨h'.1, h'.2, h'.3, h'.4, h'.5, h'.6, h'.7, h'.8, h'.9⟩)
    (fun _ _ h' _ => h') (fun _ _ h' => h'.li.trans hs.li.symm)

/-- Finishing a block is safe. -/
theorem safe_finish {g : ℕ} {hg : g < 8} {a : ℕ} {ha : a < 16} {L : F .f32} {fac : Tile F} {vs : F .f32} {mx : Tile F × Tile F} :
    Safe defs 𝒱 bd E R c (finish R g hg a ha L fac vs mx) :=
  .bind safe_half fun _ => .bind safe_half fun _ =>
    .bind (fun _ _ hs => .ld (lens_vt R) hs) fun _ => .bind (fun _ _ hs => .ld (lens_p R) hs) fun _ =>
    .bind (fun _ _ hs => .outRows ⟨hs.1, hs.2, hs.3, hs.4, hs.5, hs.6, hs.7, hs.8, hs.9⟩) fun _ =>
    .bind (fun _ _ hs => .outRows ⟨hs.1, hs.2, hs.3, hs.4, hs.5, hs.6, hs.7, hs.8, hs.9⟩) fun _ => .ret

/-- Computing the scores of the block ahead is safe. -/
theorem safe_ahead {g : ℕ} {hg : g < 8} {sg : FVec F (M2 256 128) .f32} {cc : ℕ} {mx : Tile F × Tile F} :
    Safe defs 𝒱 bd E R c (ahead R g hg sg cc mx) := by
  unfold ahead; split
  · exact safe_scores
  · exact .ret

/-- A pair of blocks is safe. -/
theorem safe_pair {g : ℕ} {hg : g < 8} {sg : FVec F (M2 256 128) .f32} {L : F .f32} {fac : Tile F} {vs : F .f32} {cc : ℕ} {hc : cc < 8}
    {mx : Tile F × Tile F} : Safe defs 𝒱 bd E R c (pair R g hg sg L fac vs cc hc mx) := by
  exact .bind safe_scores fun _ => .bind safe_finish fun _ => .bind safe_ahead fun _ => .bind safe_finish fun _ =>
    .bind (fun _ _ hs => .putState (lens_mo R) ⟨hs.1, hs.2, hs.3, hs.4, hs.5, hs.6, hs.7, hs.8, hs.9⟩) fun _ =>
    .bind (fun _ _ hs => .putState (lens_lo R) ⟨hs.1, hs.2, hs.3, hs.4, hs.5, hs.6, hs.7, hs.8, hs.9⟩) fun _ => .ret

/-- Laying out keys and values at a batch's first group is safe. -/
theorem safe_prepAt {g : ℕ} : Safe defs 𝒱 bd E R c (prepAt R g) := by
  unfold prepAt; split
  · exact safe_prep
  · exact .ret

/-- Zeroing the statistics at an even group is safe. -/
theorem safe_zeroAt {g : ℕ} {hg : g < 8} : Safe defs 𝒱 bd E R c (zeroAt R g hg) := by
  unfold zeroAt; split
  · exact .bind (fun _ _ hs => .zeroState (lens_mo R) ⟨hs.1, hs.2, hs.3, hs.4, hs.5, hs.6, hs.7, hs.8, hs.9⟩) fun _ =>
      fun _ _ hs => .zeroState (lens_lo R) ⟨hs.1, hs.2, hs.3, hs.4, hs.5, hs.6, hs.7, hs.8, hs.9⟩
  · exact .ret

/-- The whole body. -/
theorem safe_body {L : F .f32} {bo : ℕ} {hbo : bo < 2} {g : ℕ} {hg : g < 8} : Safe defs 𝒱 bd E R c (body R L bo hbo g hg) := by
  exact .bind safe_prepAt fun _ => .bind (fun _ _ hs => .factor hs) fun _ => .bind (fun _ _ hs => .factor hs) fun _ =>
    .bind (fun _ _ hs => .factor hs) fun _ => .bind (fun _ _ hs => .factor hs) fun _ =>
    .bind (fun _ _ hs => .word (lens_vs R) hs) fun _ => .bind safe_zeroAt fun _ => .bind safe_scores fun _ =>
    .bind (.loop fun _ _ _ => safe_pair) fun _ => .ret

end RingStep
-- ==== Proof.Run.lean ====
/- The kernel's run over its grid, from a statement about one step: if each step, from the batch's inputs, a layout of keys
   and values that `SC` holds of and statistics as the previous step left them, ends with contents that `RO`, `RM`, `RL`, `SC`
   hold of, then the whole program terminates without fault, its arguments unchanged, its semaphores at zero, and its
   results made of blocks that `RO`, `RM` and `RL` hold of. -/
module

public import proofs.«01_k».proof.Proof.Unroll
public import proofs.«01_k».proof.Proof.Safe
public import proofs.«01_k».proof.Proof.Gen.Kernel.Frame
public import Idealize.ShloMosaic.Lib.Pipeline.DatRel
public import Idealize.ShloMosaic.Lib.Pipeline.ArrRel

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open RingStep (Refs St M2 M3 Same T own)

variable {F : FTy → Type} [FloatOps F]

local notation "𝕄" => MT nD τ sig Unit (Elt F) ℕ (UR sig nD τ) ℕ

/-- The constant log2(e) of the program. -/
abbrev logE : F .f32 := Scalar.ofBits .f32 0x3FB8AA3B#32

variable (m : (ℓ : Loc nD τ sig) → Buf (Elt F) ℓ) (ρ : Dev nD → PrngReg)

/-- The step's sixteen buffers at point `t`. -/
abbrev refs (t : Fin cfg0.N) : Refs sig where
  qs := win0_0.stage (cfg0.slots t 0)
  hqs := hstage0_0 ((cfg0.slots t 0).cast nbuf0_0)
  ks := win0_1.stage (cfg0.slots t 1)
  hks := hstage0_1 ((cfg0.slots t 1).cast nbuf0_1)
  vs := win0_2.stage (cfg0.slots t 2)
  hvs := hstage0_2 ((cfg0.slots t 2).cast nbuf0_2)
  q := win0_3.stage (cfg0.slots t 3)
  hq := hstage0_3 ((cfg0.slots t 3).cast nbuf0_3)
  k := win0_4.stage (cfg0.slots t 4)
  hk := hstage0_4 ((cfg0.slots t 4).cast nbuf0_4)
  v := win0_5.stage (cfg0.slots t 5)
  hv := hstage0_5 ((cfg0.slots t 5).cast nbuf0_5)
  oi := win0_6.stage (cfg0.slots t 6)
  hoi := hstage0_6 ((cfg0.slots t 6).cast nbuf0_6)
  mi := win0_7.stage (cfg0.slots t 7)
  hmi := hstage0_7 ((cfg0.slots t 7).cast nbuf0_7)
  li := win0_8.stage (cfg0.slots t 8)
  hli := hstage0_8 ((cfg0.slots t 8).cast nbuf0_8)
  oo := win0_9.stage (cfg0.slots t 9)
  hoo := hstage0_9 ((cfg0.slots t 9).cast nbuf0_9)
  mo := win0_10.stage (cfg0.slots t 10)
  hmo := hstage0_10 ((cfg0.slots t 10).cast nbuf0_10)
  lo := win0_11.stage (cfg0.slots t 11)
  hlo := hstage0_11 ((cfg0.slots t 11).cast nbuf0_11)
  kg := Memref.whole cc0_scratch0
  hkg := Memref.isWhole_whole _
  vt := Memref.whole cc0_scratch1
  hvt := Memref.isWhole_whole _
  s := Memref.whole cc0_scratch2
  hs := Memref.isWhole_whole _
  p := Memref.whole cc0_scratch3
  hp := Memref.isWhole_whole _

/-- The inputs of `σ` are the blocks of the arrays at point `t`. -/
structure Inputs (c : Dev nD) (t : Fin cfg0.N) (σ : St F) : Prop where
  qs : σ.qs = iblk m c 0 t
  ks : σ.ks = iblk m c 1 t
  vs : σ.vs = iblk m c 2 t
  q : σ.q = iblk m c 3 t
  k : σ.k = iblk m c 4 t
  v : σ.v = iblk m c 5 t
  oi : σ.oi = iblk m c 6 t
  mi : σ.mi = iblk m c 7 t
  li : σ.li = iblk m c 8 t

/-- What is claimed of the steps on one device. -/
structure Step (c : Dev nD) where
  /-- of a step's rows of output, of its block of maxima and of sums, -/
  RO : Fin cfg0.N → RingStep.Vec5 F → Prop
  RM : Fin cfg0.N → Vec F (M3 1 32 1024) .f32 → Prop
  RL : Fin cfg0.N → Vec F (M3 1 32 1024) .f32 → Prop
  /-- and of the layout of keys and values before a step; -/
  SC : Fin (cfg0.N + 1) → Vec F (M3 8 1024 128) .fp8e4m3 → Vec F (M3 8 128 1024) .fp8e4m3 → Prop
  init : ∀ kg vt, SC 0 kg vt
  step : ∀ (t : Fin cfg0.N) (σ : St F), Inputs m c t σ → SC t.castSucc σ.kg σ.vt →
    (∀ t' : Fin cfg0.N, t'.val + 1 = t.val → t.val % 8 ≠ 0 → RM t' σ.mo ∧ RL t' σ.lo) →
    T (defs₀ (F := F)) Variants.none none Set.univ (refs t) c
      (RingStep.body (refs t) logE (t.val / 8) (by have := t.2; have h16 : t.val < 16 := this; omega) (t.val % 8) (by omega))
      (fun _ σ' => Same σ σ' ∧ RO t σ'.oo ∧ RM t σ'.mo ∧ RL t σ'.lo ∧ SC t.succ σ'.kg σ'.vt) σ

variable {m}
variable {c : Dev nD} (S : (c : Dev nD) → Step m c)

/-- The scratch: a layout that `SC` holds of, and two buffers at anything; and the generator register. -/
def scratch (c : Dev nD) (S : Step m c) (t : Fin (cfg0.N + 1)) : sProp 𝕄 :=
  iprop((∃ kg, ∃ vt, ⌜S.SC t kg vt⌝ ∗ owns (c : Thread nD τ) (Memref.whole cc0_scratch0) fullShare kg
      ∗ owns (c : Thread nD τ) (Memref.whole cc0_scratch1) fullShare vt)
    ∗ (∃ s, owns (c : Thread nD τ) (Memref.whole cc0_scratch2) fullShare s)
    ∗ (∃ p, owns (c : Thread nD τ) (Memref.whole cc0_scratch3) fullShare p) ∗ ∃ r, prngReg c r)

/-- The scratch buffers before the first grid step. -/
theorem scratch_in (c : Dev nD) (S : Step m c) : Pipeline.ΦA spec0 c ⊢ scratch c S 0 := by
  unfold Pipeline.ΦA scratch
  rw [scopedRest0_eq]
  simp only [owns_whole]
  iintro ⟨⟨⟨%f0, H0⟩, ⟨%f1, H1⟩, ⟨%f2, H2⟩, %f3, H3⟩, Hr⟩
  isplitl [H0 H1]
  · iexists f0; iexists f1
    isplitr; · ipureintro; exact S.init _ _
    isplitl [H0]; · iexact H0
    iexact H1
  isplitl [H2]; · iexists f2; iexact H2
  isplitl [H3]; · iexists f3; iexact H3
  iexact Hr

/-- The scratch buffers of any grid step may hold anything in the end. -/
theorem scratch_out (c : Dev nD) (S : Step m c) (t : Fin (cfg0.N + 1)) : scratch c S t ⊢ Pipeline.ΦA spec0 c := by
  unfold Pipeline.ΦA scratch
  rw [scopedRest0_eq]
  simp only [owns_whole]
  iintro ⟨⟨%f0, %f1, -, H0, H1⟩, ⟨%f2, H2⟩, ⟨%f3, H3⟩, Hr⟩
  isplitr [Hr]
  · isplitl [H0]; · iexists f0; iexact H0
    isplitl [H1]; · iexists f1; iexact H1
    isplitl [H2]; · iexists f2; iexact H2
    iexists f3; iexact H3
  iexact Hr

/-- The pipeline's data: each input's buffer at its block; the outputs' are stated by `outputs` below. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ t := scratch c (S c) t
  q _ := fullShare
  owed _ := 0

/-- The three outputs. -/
def marked : Fin cfg0.W → Bool := fun w => decide (9 ≤ w.val)

/-- What a step leaves in them. -/
def outputs (c : Dev nD) : (w : Fin cfg0.W) → Fin cfg0.N → ((cfg0.win w).block.Idx → Elt F (cfg0.win w).elt) → Prop
  | ⟨9, _⟩, t, X => (S c).RO t X
  | ⟨10, _⟩, t, X => (S c).RM t X
  | ⟨11, _⟩, t, X => (S c).RL t X
  | _, _, _ => True

/-- The arrays that the launch reads are those of its arguments. -/
theorem A_eq (c : Dev nD) (w : Fin cfg0.W) : (dats S 0 c).A w = V m c (Pipeline.arrRef spec0 w) := by
  dsimp only [dats]

/-- Each input's buffer holds its block at every point. -/
theorem before (c : Dev nD) (t : Fin cfg0.N) :
    (∀ d, (dats S 0 c).before 0 t d = iblk m c 0 t) ∧ (∀ d, (dats S 0 c).before 1 t d = iblk m c 1 t)
    ∧ (∀ d, (dats S 0 c).before 2 t d = iblk m c 2 t) ∧ (∀ d, (dats S 0 c).before 3 t d = iblk m c 3 t)
    ∧ (∀ d, (dats S 0 c).before 4 t d = iblk m c 4 t) ∧ (∀ d, (dats S 0 c).before 5 t d = iblk m c 5 t)
    ∧ (∀ d, (dats S 0 c).before 6 t d = iblk m c 6 t) ∧ (∀ d, (dats S 0 c).before 7 t d = iblk m c 7 t)
    ∧ (∀ d, (dats S 0 c).before 8 t d = iblk m c 8 t) :=
  ⟨before0_0_of m _ (A_eq S c 0) (fun _ => by dsimp only [dats]) t, before0_1_of m _ (A_eq S c 1) (fun _ => by dsimp only [dats]) t,
   before0_2_of m _ (A_eq S c 2) (fun _ => by dsimp only [dats]) t, before0_3_of m _ (A_eq S c 3) (fun _ => by dsimp only [dats]) t,
   before0_4_of m _ (A_eq S c 4) (fun _ => by dsimp only [dats]) t, before0_5_of m _ (A_eq S c 5) (fun _ => by dsimp only [dats]) t,
   before0_6_of m _ (A_eq S c 6) (fun _ => by dsimp only [dats]) t, before0_7_of m _ (A_eq S c 7) (fun _ => by dsimp only [dats]) t,
   before0_8_of m _ (A_eq S c 8) (fun _ => by dsimp only [dats]) t⟩

/-- The statistics are found as the previous step of the batch left them. -/
theorem found (c : Dev nD) (w : Fin cfg0.W) (hw : w = 10 ∨ w = 11) (t t' : Fin cfg0.N) (ht : t'.val + 1 = t.val) (h8 : t.val % 8 ≠ 0)
    (X : (cfg0.win w).block.Idx → Elt F (cfg0.win w).elt) (h : ((dats S 0 c).toRRel marked (outputs S c)).Finds w t X) :
    outputs S c w t' X := by
  have hm : marked w = true := by rcases hw with rfl | rfl <;> rfl
  have hf : (cfg0.win w).fetch t = false := by rcases hw with rfl | rfl <;> rfl
  have e : (⟨t.val - 1, Nat.lt_of_le_of_lt (Nat.sub_le _ _) t.isLt⟩ : Fin cfg0.N) = t' := Fin.ext (by simp only; omega)
  rw [RDat.finds_of_pos _ hf (by omega), e] at h
  have hfl : ¬ (cfg0.win w).flush t' = true := by
    rcases hw with rfl | rfl
    · rw [flush0_10]; omega
    · rw [flush0_11]; omega
  exact (dats S 0 c).toRRel_leaves hm (h.resolve_left hfl)

/-- The body at a grid point is the short program there. -/
theorem defs₀_row (t : Fin cfg0.N) :
    defs₀ (F := F) .tc cfg0.body (cfg0.bodyArgs t (cfg0.slots t))
      = RingStep.body (refs t) logE (t.val / 8) (by have := t.2; have h16 : t.val < 16 := this; omega) (t.val % 8) (by omega) := by
  unfold defs₀; rw [Defs.onTc_tc]
  exact unroll (F := F) t (refs t)

set_option maxHeartbeats 1000000 in
/-- The body's obligation at every point. -/
theorem obligation (c : Dev nD) :
    BodyObligationRel (dats S 0 c) (defs₀ (F := F)) Variants.none () Set.univ marked (outputs S c) := fun t => by
  rw [bigSep_W0, bigSep_W0, defs₀_row]
  obtain ⟨b0, b1, b2, b3, b4, b5, b6, b7, b8⟩ := before S c t
  show iprop(scratch c (S c) t.castSucc ∗ (dats S 0 c).owesAt () t.castSucc
      ∗ (∃ d, owns (c : Thread nD τ) (refs t).qs fullShare ((dats S 0 c).before 0 t d))
      ∗ (∃ d, owns (c : Thread nD τ) (refs t).ks fullShare ((dats S 0 c).before 1 t d))
      ∗ (∃ d, owns (c : Thread nD τ) (refs t).vs fullShare ((dats S 0 c).before 2 t d))
      ∗ (∃ d, owns (c : Thread nD τ) (refs t).q fullShare ((dats S 0 c).before 3 t d))
      ∗ (∃ d, owns (c : Thread nD τ) (refs t).k fullShare ((dats S 0 c).before 4 t d))
      ∗ (∃ d, owns (c : Thread nD τ) (refs t).v fullShare ((dats S 0 c).before 5 t d))
      ∗ (∃ d, owns (c : Thread nD τ) (refs t).oi fullShare ((dats S 0 c).before 6 t d))
      ∗ (∃ d, owns (c : Thread nD τ) (refs t).mi fullShare ((dats S 0 c).before 7 t d))
      ∗ (∃ d, owns (c : Thread nD τ) (refs t).li fullShare ((dats S 0 c).before 8 t d))
      ∗ (∃ Y, ⌜((dats S 0 c).toRRel marked (outputs S c)).Finds 9 t Y⌝ ∗ owns (c : Thread nD τ) (refs t).oo fullShare Y)
      ∗ (∃ Y, ⌜((dats S 0 c).toRRel marked (outputs S c)).Finds 10 t Y⌝ ∗ owns (c : Thread nD τ) (refs t).mo fullShare Y)
      ∗ (∃ Y, ⌜((dats S 0 c).toRRel marked (outputs S c)).Finds 11 t Y⌝ ∗ owns (c : Thread nD τ) (refs t).lo fullShare Y))
    ⊢ wp frame (wpE (defs₀ (F := F)) Variants.none c none) Set.univ _ fun _ =>
      iprop(scratch c (S c) t.succ ∗ (dats S 0 c).owesAt () t.castSucc
      ∗ owns (c : Thread nD τ) (refs t).qs fullShare (iblk m c 0 t)
      ∗ owns (c : Thread nD τ) (refs t).ks fullShare (iblk m c 1 t)
      ∗ owns (c : Thread nD τ) (refs t).vs fullShare (iblk m c 2 t)
      ∗ owns (c : Thread nD τ) (refs t).q fullShare (iblk m c 3 t)
      ∗ owns (c : Thread nD τ) (refs t).k fullShare (iblk m c 4 t)
      ∗ owns (c : Thread nD τ) (refs t).v fullShare (iblk m c 5 t)
      ∗ owns (c : Thread nD τ) (refs t).oi fullShare (iblk m c 6 t)
      ∗ owns (c : Thread nD τ) (refs t).mi fullShare (iblk m c 7 t)
      ∗ owns (c : Thread nD τ) (refs t).li fullShare (iblk m c 8 t)
      ∗ (∃ X, ⌜(S c).RO t X⌝ ∗ owns (c : Thread nD τ) (refs t).oo fullShare X)
      ∗ (∃ X, ⌜(S c).RM t X⌝ ∗ owns (c : Thread nD τ) (refs t).mo fullShare X)
      ∗ (∃ X, ⌜(S c).RL t X⌝ ∗ owns (c : Thread nD τ) (refs t).lo fullShare X))
  simp only [b0, b1, b2, b3, b4, b5, b6, b7, b8]
  unfold scratch
  iintro ⟨⟨⟨%kg, %vt, %hsc, Hkg, Hvt⟩, ⟨%s, Hs⟩, ⟨%p, Hp⟩, Hr⟩, Ho, ⟨%_, H0⟩, ⟨%_, H1⟩, ⟨%_, H2⟩, ⟨%_, H3⟩, ⟨%_, H4⟩, ⟨%_, H5⟩, ⟨%_, H6⟩,
    ⟨%_, H7⟩, ⟨%_, H8⟩, ⟨%Y9, -, H9⟩, ⟨%Y10, %h10, H10⟩, ⟨%Y11, %h11, H11⟩⟩
  have hT := (S c).step t ⟨iblk m c 0 t, iblk m c 1 t, iblk m c 2 t, iblk m c 3 t, iblk m c 4 t, iblk m c 5 t, iblk m c 6 t,
    iblk m c 7 t, iblk m c 8 t, Y9, Y10, Y11, kg, vt, s, p⟩ ⟨rfl, rfl, rfl, rfl, rfl, rfl, rfl, rfl, rfl⟩ hsc
    (fun t' ht h8 => ⟨found S c 10 (.inl rfl) t t' ht h8 _ h10, found S c 11 (.inr rfl) t t' ht h8 _ h11⟩)
  unfold RingStep.T at hT
  have hF := (sep_mono_left (Q := iprop((∃ r, prngReg c r) ∗ (dats S 0 c).owesAt () t.castSucc)) hT).trans (wp_frame_r _ _ _)
  iapply (hF.trans (wp_mono _ _ _ fun _ => ?_))
  · iintro ⟨⟨%σ', %hσ, H⟩, Hr, Ho⟩
    obtain ⟨hs, hO, hM, hL, hS⟩ := hσ
    ihave H := RingStep.own_same _ _ hs $$ H
    icases H with ⟨H0, H1, H2, H3, H4, H5, H6, H7, H8, H9, H10, H11, Hkg, Hvt, Hs, Hp, -⟩
    isplitl [Hkg Hvt Hs Hp Hr]
    · isplitl [Hkg Hvt]
      · iexists σ'.kg; iexists σ'.vt
        isplitr; · ipureintro; exact hS
        isplitl [Hkg] <;> iassumption
      isplitl [Hs]; · iexists σ'.s; iexact Hs
      isplitl [Hp]; · iexists σ'.p; iexact Hp
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists σ'.oo; isplitr; · ipureintro; exact hO
      iexact H9
    isplitl [H10]
    · iexists σ'.mo; isplitr; · ipureintro; exact hM
      iexact H10
    · iexists σ'.lo; isplitr; · ipureintro; exact hL
      iexact H11
  · isplitr [Hr Ho]
    · iapply RingStep.own_intro
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [Hkg]; · iexact Hkg
      isplitl [Hvt]; · iexact Hvt
      isplitl [Hs]; · iexact Hs
      isplitl [Hp]; · iexact Hp
      iempintro
    · isplitl [Hr] <;> iassumption

-- the implicit arguments of the library's rule are found by unifying its conclusion with this statement, which takes
-- unfolding plain definitions in a metavariable's type
set_option backward.isDefEq.respectTransparency.types false in
/-- The run: every array ends made of what the steps left, every other buffer as it was, every semaphore at zero. -/
theorem run_main : θ_run defs (onTc (τ := τ) (main (F := F))) (s₀ m ρ)
    (fun r => Pipeline.RDat.FramePost (cfgs 0) (fun c => (dats S 0 c).toRRel marked (outputs S c)) (V m) r ∧ r.2.sem = fun _ => 0) :=
  Pipeline.RDat.θ_run_frame_track (Q' := _) cfgs (0 : Fin 1) launch0 defs₀ Variants.none
    (fun c => (dats S 0 c).toRRel marked (outputs S c)) m ρ main
    (hbody := fun c => (obligation S c).toRRel) (hshare := fun c => (dats S 0 c).share_full fun _ => rfl)
    (howed := fun _ _ => rfl) (V := V m) (hmain := hmain m Variants.none) (hA := A_eq S)
    (hin := fun c => scratch_in c (S c)) (hout := fun c => scratch_out c (S c) _)

/-- The arguments end as they were. -/
theorem unchanged {r : PUnit × MemSt nD τ sig (Elt F)}
    (h : Pipeline.RDat.FramePost (cfgs 0) (fun c => (dats S 0 c).toRRel marked (outputs S c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h.arr_in c 3 rfl).trans ((A_eq S c 3).trans (V_main_arg0 m c)), (h.arr_in c 0 rfl).trans ((A_eq S c 0).trans (V_main_arg1 m c)),
   (h.arr_in c 4 rfl).trans ((A_eq S c 4).trans (V_main_arg2 m c)), (h.arr_in c 1 rfl).trans ((A_eq S c 1).trans (V_main_arg3 m c)),
   (h.arr_in c 5 rfl).trans ((A_eq S c 5).trans (V_main_arg4 m c)), (h.arr_in c 2 rfl).trans ((A_eq S c 2).trans (V_main_arg5 m c)),
   ((h c).2 main_arg6 (Pipeline.mem_restRefs_of main_arg6 (by decide) (by decide))).trans (V_main_arg6 m c),
   (h.arr_in c 7 rfl).trans ((A_eq S c 7).trans (V_main_arg7 m c)), (h.arr_in c 8 rfl).trans ((A_eq S c 8).trans (V_main_arg8 m c))⟩

/-- Nothing is claimed of the steps but that they run. -/
def plain (c : Dev nD) : Step m c where
  RO _ _ := True
  RM _ _ := True
  RL _ _ := True
  SC _ _ _ := True
  init _ _ := trivial
  step _ σ _ _ _ := (RingStep.safe_body σ σ ⟨rfl, rfl, rfl, rfl, rfl, rfl, rfl, rfl, rfl⟩).mono
    fun _ _ h => ⟨h, trivial, trivial, trivial, trivial⟩

variable (m)

/-- The program terminates without fault, its arguments unchanged and its semaphores at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0) :=
  (θ_run defs _ _).mono (fun _ h => ⟨unchanged plain h.1, h.2⟩) (run_main ρ plain)

end Cert.Kernel.Hand
-- ==== Proof.UnrollIdeal.lean ====
/- The printed body of the kernel's idealization, at every point of its grid, is `RingStep.body`: the two programs compute to the same
   sequence of operations. -/
module

public import proofs.«01_k».proof.KernelIdeal
public import proofs.«01_k».proof.Proof.Gen.KernelIdeal
public import proofs.«01_k».proof.Proof.Gen.KernelIdeal.Launch
public import proofs.«01_k».proof.Proof.Body
public import Idealize.ShloMosaic.Lib.Tactic

@[expose] public section

set_option maxRecDepth 1000000

namespace Cert.KernelIdeal

open Idealize.ShloMosaic Idealize.SL.Sem

variable {F : FTy → Type} [FloatOps F] [Named F]

/-- The printed body at point `t` of the grid: batch `t / 8`, group `t % 8`. -/
def Unrolled (F : FTy → Type) [FloatOps F] [Named F] (t : Fin 16) : Prop :=
  ∀ R : RingStep.Refs sig,
    cc0_ring_step (F := F) (grid0.coords t) R.qs R.hqs R.ks R.hks R.vs R.hvs R.q R.hq R.k R.hk R.v R.hv R.oi R.hoi R.mi R.hmi R.li R.hli R.oo R.hoo R.mo R.hmo R.lo R.hlo R.kg R.hkg R.vt R.hvt R.s R.hs R.p R.hp =
      RingStep.body (nD := nD) (τ := τ) (Λ := Λ₀) R (Named.named κ "log2_e" (φ := .f32) 0x3FB8AA3B#32) (t.val / 8) (by have := t.2; omega) (t.val % 8)
        (by have := t.2; omega)

set_option maxHeartbeats 0 in
/-- At the first group of a batch the body also prepares the batch's keys and values, in a loop of the program. -/
theorem unroll_first : ∀ b : Fin 2, Unrolled F ⟨8 * b.val, by have := b.2; omega⟩ := by
  intro b R
  fin_cases b <;>
    (unfold cc0_ring_step k0_part591 k0_part582 k0_part5
     simp -zeta only [Scf.Loop.for, Scf.for_eq]
     sl_kernel_rfl)

set_option maxHeartbeats 0 in
/-- At the other groups it does not. -/
theorem unroll_later : ∀ b : Fin 2, ∀ g : Fin 7, Unrolled F ⟨8 * b.val + (g.val + 1), by have := b.2; have := g.2; omega⟩ := by
  intro b g R
  fin_cases b <;> fin_cases g <;> sl_kernel_rfl

/-- The printed body is the looped one at every point. -/
theorem unroll (t : Fin 16) : Unrolled F t := by
  have ht := t.2
  by_cases h : t.val % 8 = 0
  · have := unroll_first (F := F) ⟨t.val / 8, by omega⟩
    rwa [show (⟨8 * (t.val / 8), _⟩ : Fin 16) = t from Fin.ext (by show 8 * (t.val / 8) = t.val; omega)] at this
  · have := unroll_later (F := F) ⟨t.val / 8, by omega⟩ ⟨t.val % 8 - 1, by omega⟩
    rwa [show (⟨8 * (t.val / 8) + (t.val % 8 - 1 + 1), _⟩ : Fin 16) = t from
      Fin.ext (by show 8 * (t.val / 8) + (t.val % 8 - 1 + 1) = t.val; omega)] at this

end Cert.KernelIdeal
-- ==== Proof.RunIdeal.lean ====
/- The kernel's run over its grid, from a statement about one step: if each step, from the batch's inputs, a layout of keys
   and values that `SC` holds of and statistics as the previous step left them, ends with contents that `RO`, `RM`, `RL`, `SC`
   hold of, then the whole program terminates without fault, its arguments unchanged, its semaphores at zero, and its
   results made of blocks that `RO`, `RM` and `RL` hold of. -/
module

public import proofs.«01_k».proof.Proof.UnrollIdeal
public import proofs.«01_k».proof.Proof.Safe
public import proofs.«01_k».proof.Proof.Gen.KernelIdeal.Frame
public import Idealize.ShloMosaic.Lib.Pipeline.DatRel
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open RingStep (Refs St M2 M3 Same T own)

variable {F : FTy → Type} [FloatOps F] [Named F]

local notation "𝕄" => MT nD τ sig Unit (Elt F) ℕ (UR sig nD τ) ℕ

/-- The constant log2(e) of the program. -/
abbrev logE : F .f32 := Named.named κ "log2_e" (φ := .f32) 0x3FB8AA3B#32

variable (m : (ℓ : Loc nD τ sig) → Buf (Elt F) ℓ) (ρ : Dev nD → PrngReg)

/-- The step's sixteen buffers at point `t`. -/
abbrev refs (t : Fin cfg0.N) : Refs sig where
  qs := win0_0.stage (cfg0.slots t 0)
  hqs := hstage0_0 ((cfg0.slots t 0).cast nbuf0_0)
  ks := win0_1.stage (cfg0.slots t 1)
  hks := hstage0_1 ((cfg0.slots t 1).cast nbuf0_1)
  vs := win0_2.stage (cfg0.slots t 2)
  hvs := hstage0_2 ((cfg0.slots t 2).cast nbuf0_2)
  q := win0_3.stage (cfg0.slots t 3)
  hq := hstage0_3 ((cfg0.slots t 3).cast nbuf0_3)
  k := win0_4.stage (cfg0.slots t 4)
  hk := hstage0_4 ((cfg0.slots t 4).cast nbuf0_4)
  v := win0_5.stage (cfg0.slots t 5)
  hv := hstage0_5 ((cfg0.slots t 5).cast nbuf0_5)
  oi := win0_6.stage (cfg0.slots t 6)
  hoi := hstage0_6 ((cfg0.slots t 6).cast nbuf0_6)
  mi := win0_7.stage (cfg0.slots t 7)
  hmi := hstage0_7 ((cfg0.slots t 7).cast nbuf0_7)
  li := win0_8.stage (cfg0.slots t 8)
  hli := hstage0_8 ((cfg0.slots t 8).cast nbuf0_8)
  oo := win0_9.stage (cfg0.slots t 9)
  hoo := hstage0_9 ((cfg0.slots t 9).cast nbuf0_9)
  mo := win0_10.stage (cfg0.slots t 10)
  hmo := hstage0_10 ((cfg0.slots t 10).cast nbuf0_10)
  lo := win0_11.stage (cfg0.slots t 11)
  hlo := hstage0_11 ((cfg0.slots t 11).cast nbuf0_11)
  kg := Memref.whole cc0_scratch0
  hkg := Memref.isWhole_whole _
  vt := Memref.whole cc0_scratch1
  hvt := Memref.isWhole_whole _
  s := Memref.whole cc0_scratch2
  hs := Memref.isWhole_whole _
  p := Memref.whole cc0_scratch3
  hp := Memref.isWhole_whole _

/-- The inputs of `σ` are the blocks of the arrays at point `t`. -/
structure Inputs (c : Dev nD) (t : Fin cfg0.N) (σ : St F) : Prop where
  qs : σ.qs = iblk m c 0 t
  ks : σ.ks = iblk m c 1 t
  vs : σ.vs = iblk m c 2 t
  q : σ.q = iblk m c 3 t
  k : σ.k = iblk m c 4 t
  v : σ.v = iblk m c 5 t
  oi : σ.oi = iblk m c 6 t
  mi : σ.mi = iblk m c 7 t
  li : σ.li = iblk m c 8 t

/-- What is claimed of the steps on one device. -/
structure Step (c : Dev nD) where
  /-- of a step's rows of output, of its block of maxima and of sums, -/
  RO : Fin cfg0.N → RingStep.Vec5 F → Prop
  RM : Fin cfg0.N → Vec F (M3 1 32 1024) .f32 → Prop
  RL : Fin cfg0.N → Vec F (M3 1 32 1024) .f32 → Prop
  /-- and of the layout of keys and values before a step; -/
  SC : Fin (cfg0.N + 1) → Vec F (M3 8 1024 128) .fp8e4m3 → Vec F (M3 8 128 1024) .fp8e4m3 → Prop
  init : ∀ kg vt, SC 0 kg vt
  step : ∀ (t : Fin cfg0.N) (σ : St F), Inputs m c t σ → SC t.castSucc σ.kg σ.vt →
    (∀ t' : Fin cfg0.N, t'.val + 1 = t.val → t.val % 8 ≠ 0 → RM t' σ.mo ∧ RL t' σ.lo) →
    T (defs₀ (F := F)) Variants.none none Set.univ (refs t) c
      (RingStep.body (refs t) logE (t.val / 8) (by have := t.2; have h16 : t.val < 16 := this; omega) (t.val % 8) (by omega))
      (fun _ σ' => Same σ σ' ∧ RO t σ'.oo ∧ RM t σ'.mo ∧ RL t σ'.lo ∧ SC t.succ σ'.kg σ'.vt) σ

variable {m}
variable {c : Dev nD} (S : (c : Dev nD) → Step m c)

/-- The scratch: a layout that `SC` holds of, and two buffers at anything; and the generator register. -/
def scratch (c : Dev nD) (S : Step m c) (t : Fin (cfg0.N + 1)) : sProp 𝕄 :=
  iprop((∃ kg, ∃ vt, ⌜S.SC t kg vt⌝ ∗ owns (c : Thread nD τ) (Memref.whole cc0_scratch0) fullShare kg
      ∗ owns (c : Thread nD τ) (Memref.whole cc0_scratch1) fullShare vt)
    ∗ (∃ s, owns (c : Thread nD τ) (Memref.whole cc0_scratch2) fullShare s)
    ∗ (∃ p, owns (c : Thread nD τ) (Memref.whole cc0_scratch3) fullShare p) ∗ ∃ r, prngReg c r)

/-- The scratch buffers before the first grid step. -/
theorem scratch_in (c : Dev nD) (S : Step m c) : Pipeline.ΦA spec0 c ⊢ scratch c S 0 := by
  unfold Pipeline.ΦA scratch
  rw [scopedRest0_eq]
  simp only [owns_whole]
  iintro ⟨⟨⟨%f0, H0⟩, ⟨%f1, H1⟩, ⟨%f2, H2⟩, %f3, H3⟩, Hr⟩
  isplitl [H0 H1]
  · iexists f0; iexists f1
    isplitr; · ipureintro; exact S.init _ _
    isplitl [H0]; · iexact H0
    iexact H1
  isplitl [H2]; · iexists f2; iexact H2
  isplitl [H3]; · iexists f3; iexact H3
  iexact Hr

/-- The scratch buffers of any grid step may hold anything in the end. -/
theorem scratch_out (c : Dev nD) (S : Step m c) (t : Fin (cfg0.N + 1)) : scratch c S t ⊢ Pipeline.ΦA spec0 c := by
  unfold Pipeline.ΦA scratch
  rw [scopedRest0_eq]
  simp only [owns_whole]
  iintro ⟨⟨%f0, %f1, -, H0, H1⟩, ⟨%f2, H2⟩, ⟨%f3, H3⟩, Hr⟩
  isplitr [Hr]
  · isplitl [H0]; · iexists f0; iexact H0
    isplitl [H1]; · iexists f1; iexact H1
    isplitl [H2]; · iexists f2; iexact H2
    iexists f3; iexact H3
  iexact Hr

/-- The pipeline's data: each input's buffer at its block; the outputs' are stated by `outputs` below. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ t := scratch c (S c) t
  q _ := fullShare
  owed _ := 0

/-- The three outputs. -/
def marked : Fin cfg0.W → Bool := fun w => decide (9 ≤ w.val)

/-- What a step leaves in them. -/
def outputs (c : Dev nD) : (w : Fin cfg0.W) → Fin cfg0.N → ((cfg0.win w).block.Idx → Elt F (cfg0.win w).elt) → Prop
  | ⟨9, _⟩, t, X => (S c).RO t X
  | ⟨10, _⟩, t, X => (S c).RM t X
  | ⟨11, _⟩, t, X => (S c).RL t X
  | _, _, _ => True

/-- The arrays that the launch reads are those of its arguments. -/
theorem A_eq (c : Dev nD) (w : Fin cfg0.W) : (dats S 0 c).A w = V m c (Pipeline.arrRef spec0 w) := by
  dsimp only [dats]

/-- Each input's buffer holds its block at every point. -/
theorem before (c : Dev nD) (t : Fin cfg0.N) :
    (∀ d, (dats S 0 c).before 0 t d = iblk m c 0 t) ∧ (∀ d, (dats S 0 c).before 1 t d = iblk m c 1 t)
    ∧ (∀ d, (dats S 0 c).before 2 t d = iblk m c 2 t) ∧ (∀ d, (dats S 0 c).before 3 t d = iblk m c 3 t)
    ∧ (∀ d, (dats S 0 c).before 4 t d = iblk m c 4 t) ∧ (∀ d, (dats S 0 c).before 5 t d = iblk m c 5 t)
    ∧ (∀ d, (dats S 0 c).before 6 t d = iblk m c 6 t) ∧ (∀ d, (dats S 0 c).before 7 t d = iblk m c 7 t)
    ∧ (∀ d, (dats S 0 c).before 8 t d = iblk m c 8 t) :=
  ⟨before0_0_of m _ (A_eq S c 0) (fun _ => by dsimp only [dats]) t, before0_1_of m _ (A_eq S c 1) (fun _ => by dsimp only [dats]) t,
   before0_2_of m _ (A_eq S c 2) (fun _ => by dsimp only [dats]) t, before0_3_of m _ (A_eq S c 3) (fun _ => by dsimp only [dats]) t,
   before0_4_of m _ (A_eq S c 4) (fun _ => by dsimp only [dats]) t, before0_5_of m _ (A_eq S c 5) (fun _ => by dsimp only [dats]) t,
   before0_6_of m _ (A_eq S c 6) (fun _ => by dsimp only [dats]) t, before0_7_of m _ (A_eq S c 7) (fun _ => by dsimp only [dats]) t,
   before0_8_of m _ (A_eq S c 8) (fun _ => by dsimp only [dats]) t⟩

/-- The statistics are found as the previous step of the batch left them. -/
theorem found (c : Dev nD) (w : Fin cfg0.W) (hw : w = 10 ∨ w = 11) (t t' : Fin cfg0.N) (ht : t'.val + 1 = t.val) (h8 : t.val % 8 ≠ 0)
    (X : (cfg0.win w).block.Idx → Elt F (cfg0.win w).elt) (h : ((dats S 0 c).toRRel marked (outputs S c)).Finds w t X) :
    outputs S c w t' X := by
  have hm : marked w = true := by rcases hw with rfl | rfl <;> rfl
  have hf : (cfg0.win w).fetch t = false := by rcases hw with rfl | rfl <;> rfl
  have e : (⟨t.val - 1, Nat.lt_of_le_of_lt (Nat.sub_le _ _) t.isLt⟩ : Fin cfg0.N) = t' := Fin.ext (by simp only; omega)
  rw [RDat.finds_of_pos _ hf (by omega), e] at h
  have hfl : ¬ (cfg0.win w).flush t' = true := by
    rcases hw with rfl | rfl
    · rw [flush0_10]; omega
    · rw [flush0_11]; omega
  exact (dats S 0 c).toRRel_leaves hm (h.resolve_left hfl)

/-- The body at a grid point is the short program there. -/
theorem defs₀_row (t : Fin cfg0.N) :
    defs₀ (F := F) .tc cfg0.body (cfg0.bodyArgs t (cfg0.slots t))
      = RingStep.body (refs t) logE (t.val / 8) (by have := t.2; have h16 : t.val < 16 := this; omega) (t.val % 8) (by omega) := by
  unfold defs₀; rw [Defs.onTc_tc]
  exact unroll (F := F) t (refs t)

set_option maxHeartbeats 1000000 in
/-- The body's obligation at every point. -/
theorem obligation (c : Dev nD) :
    BodyObligationRel (dats S 0 c) (defs₀ (F := F)) Variants.none () Set.univ marked (outputs S c) := fun t => by
  rw [bigSep_W0, bigSep_W0, defs₀_row]
  obtain ⟨b0, b1, b2, b3, b4, b5, b6, b7, b8⟩ := before S c t
  show iprop(scratch c (S c) t.castSucc ∗ (dats S 0 c).owesAt () t.castSucc
      ∗ (∃ d, owns (c : Thread nD τ) (refs t).qs fullShare ((dats S 0 c).before 0 t d))
      ∗ (∃ d, owns (c : Thread nD τ) (refs t).ks fullShare ((dats S 0 c).before 1 t d))
      ∗ (∃ d, owns (c : Thread nD τ) (refs t).vs fullShare ((dats S 0 c).before 2 t d))
      ∗ (∃ d, owns (c : Thread nD τ) (refs t).q fullShare ((dats S 0 c).before 3 t d))
      ∗ (∃ d, owns (c : Thread nD τ) (refs t).k fullShare ((dats S 0 c).before 4 t d))
      ∗ (∃ d, owns (c : Thread nD τ) (refs t).v fullShare ((dats S 0 c).before 5 t d))
      ∗ (∃ d, owns (c : Thread nD τ) (refs t).oi fullShare ((dats S 0 c).before 6 t d))
      ∗ (∃ d, owns (c : Thread nD τ) (refs t).mi fullShare ((dats S 0 c).before 7 t d))
      ∗ (∃ d, owns (c : Thread nD τ) (refs t).li fullShare ((dats S 0 c).before 8 t d))
      ∗ (∃ Y, ⌜((dats S 0 c).toRRel marked (outputs S c)).Finds 9 t Y⌝ ∗ owns (c : Thread nD τ) (refs t).oo fullShare Y)
      ∗ (∃ Y, ⌜((dats S 0 c).toRRel marked (outputs S c)).Finds 10 t Y⌝ ∗ owns (c : Thread nD τ) (refs t).mo fullShare Y)
      ∗ (∃ Y, ⌜((dats S 0 c).toRRel marked (outputs S c)).Finds 11 t Y⌝ ∗ owns (c : Thread nD τ) (refs t).lo fullShare Y))
    ⊢ wp frame (wpE (defs₀ (F := F)) Variants.none c none) Set.univ _ fun _ =>
      iprop(scratch c (S c) t.succ ∗ (dats S 0 c).owesAt () t.castSucc
      ∗ owns (c : Thread nD τ) (refs t).qs fullShare (iblk m c 0 t)
      ∗ owns (c : Thread nD τ) (refs t).ks fullShare (iblk m c 1 t)
      ∗ owns (c : Thread nD τ) (refs t).vs fullShare (iblk m c 2 t)
      ∗ owns (c : Thread nD τ) (refs t).q fullShare (iblk m c 3 t)
      ∗ owns (c : Thread nD τ) (refs t).k fullShare (iblk m c 4 t)
      ∗ owns (c : Thread nD τ) (refs t).v fullShare (iblk m c 5 t)
      ∗ owns (c : Thread nD τ) (refs t).oi fullShare (iblk m c 6 t)
      ∗ owns (c : Thread nD τ) (refs t).mi fullShare (iblk m c 7 t)
      ∗ owns (c : Thread nD τ) (refs t).li fullShare (iblk m c 8 t)
      ∗ (∃ X, ⌜(S c).RO t X⌝ ∗ owns (c : Thread nD τ) (refs t).oo fullShare X)
      ∗ (∃ X, ⌜(S c).RM t X⌝ ∗ owns (c : Thread nD τ) (refs t).mo fullShare X)
      ∗ (∃ X, ⌜(S c).RL t X⌝ ∗ owns (c : Thread nD τ) (refs t).lo fullShare X))
  simp only [b0, b1, b2, b3, b4, b5, b6, b7, b8]
  unfold scratch
  iintro ⟨⟨⟨%kg, %vt, %hsc, Hkg, Hvt⟩, ⟨%s, Hs⟩, ⟨%p, Hp⟩, Hr⟩, Ho, ⟨%_, H0⟩, ⟨%_, H1⟩, ⟨%_, H2⟩, ⟨%_, H3⟩, ⟨%_, H4⟩, ⟨%_, H5⟩, ⟨%_, H6⟩,
    ⟨%_, H7⟩, ⟨%_, H8⟩, ⟨%Y9, -, H9⟩, ⟨%Y10, %h10, H10⟩, ⟨%Y11, %h11, H11⟩⟩
  have hT := (S c).step t ⟨iblk m c 0 t, iblk m c 1 t, iblk m c 2 t, iblk m c 3 t, iblk m c 4 t, iblk m c 5 t, iblk m c 6 t,
    iblk m c 7 t, iblk m c 8 t, Y9, Y10, Y11, kg, vt, s, p⟩ ⟨rfl, rfl, rfl, rfl, rfl, rfl, rfl, rfl, rfl⟩ hsc
    (fun t' ht h8 => ⟨found S c 10 (.inl rfl) t t' ht h8 _ h10, found S c 11 (.inr rfl) t t' ht h8 _ h11⟩)
  unfold RingStep.T at hT
  have hF := (sep_mono_left (Q := iprop((∃ r, prngReg c r) ∗ (dats S 0 c).owesAt () t.castSucc)) hT).trans (wp_frame_r _ _ _)
  iapply (hF.trans (wp_mono _ _ _ fun _ => ?_))
  · iintro ⟨⟨%σ', %hσ, H⟩, Hr, Ho⟩
    obtain ⟨hs, hO, hM, hL, hS⟩ := hσ
    ihave H := RingStep.own_same _ _ hs $$ H
    icases H with ⟨H0, H1, H2, H3, H4, H5, H6, H7, H8, H9, H10, H11, Hkg, Hvt, Hs, Hp, -⟩
    isplitl [Hkg Hvt Hs Hp Hr]
    · isplitl [Hkg Hvt]
      · iexists σ'.kg; iexists σ'.vt
        isplitr; · ipureintro; exact hS
        isplitl [Hkg] <;> iassumption
      isplitl [Hs]; · iexists σ'.s; iexact Hs
      isplitl [Hp]; · iexists σ'.p; iexact Hp
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists σ'.oo; isplitr; · ipureintro; exact hO
      iexact H9
    isplitl [H10]
    · iexists σ'.mo; isplitr; · ipureintro; exact hM
      iexact H10
    · iexists σ'.lo; isplitr; · ipureintro; exact hL
      iexact H11
  · isplitr [Hr Ho]
    · iapply RingStep.own_intro
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [Hkg]; · iexact Hkg
      isplitl [Hvt]; · iexact Hvt
      isplitl [Hs]; · iexact Hs
      isplitl [Hp]; · iexact Hp
      iempintro
    · isplitl [Hr] <;> iassumption

-- the implicit arguments of the library's rule are found by unifying its conclusion with this statement, which takes
-- unfolding plain definitions in a metavariable's type
set_option backward.isDefEq.respectTransparency.types false in
/-- The run: every array ends made of what the steps left, every other buffer as it was, every semaphore at zero. -/
theorem run_main : θ_run defs (onTc (τ := τ) (main (F := F))) (s₀ m ρ)
    (fun r => Pipeline.RDat.FramePost (cfgs 0) (fun c => (dats S 0 c).toRRel marked (outputs S c)) (V m) r ∧ r.2.sem = fun _ => 0) :=
  Pipeline.RDat.θ_run_frame_track (Q' := _) cfgs (0 : Fin 1) launch0 defs₀ Variants.none
    (fun c => (dats S 0 c).toRRel marked (outputs S c)) m ρ main
    (hbody := fun c => (obligation S c).toRRel) (hshare := fun c => (dats S 0 c).share_full fun _ => rfl)
    (howed := fun _ _ => rfl) (V := V m) (hmain := hmain m Variants.none) (hA := A_eq S)
    (hin := fun c => scratch_in c (S c)) (hout := fun c => scratch_out c (S c) _)

/-- The arguments end as they were. -/
theorem unchanged {r : PUnit × MemSt nD τ sig (Elt F)}
    (h : Pipeline.RDat.FramePost (cfgs 0) (fun c => (dats S 0 c).toRRel marked (outputs S c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h.arr_in c 3 rfl).trans ((A_eq S c 3).trans (V_main_arg0 m c)), (h.arr_in c 0 rfl).trans ((A_eq S c 0).trans (V_main_arg1 m c)),
   (h.arr_in c 4 rfl).trans ((A_eq S c 4).trans (V_main_arg2 m c)), (h.arr_in c 1 rfl).trans ((A_eq S c 1).trans (V_main_arg3 m c)),
   (h.arr_in c 5 rfl).trans ((A_eq S c 5).trans (V_main_arg4 m c)), (h.arr_in c 2 rfl).trans ((A_eq S c 2).trans (V_main_arg5 m c)),
   ((h c).2 main_arg6 (Pipeline.mem_restRefs_of main_arg6 (by decide) (by decide))).trans (V_main_arg6 m c),
   (h.arr_in c 7 rfl).trans ((A_eq S c 7).trans (V_main_arg7 m c)), (h.arr_in c 8 rfl).trans ((A_eq S c 8).trans (V_main_arg8 m c))⟩

/-- Nothing is claimed of the steps but that they run. -/
def plain (c : Dev nD) : Step m c where
  RO _ _ := True
  RM _ _ := True
  RL _ _ := True
  SC _ _ _ := True
  init _ _ := trivial
  step _ σ _ _ _ := (RingStep.safe_body σ σ ⟨rfl, rfl, rfl, rfl, rfl, rfl, rfl, rfl, rfl⟩).mono
    fun _ _ h => ⟨h, trivial, trivial, trivial, trivial⟩

variable (m)

/-- The program terminates without fault, its arguments unchanged and its semaphores at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0) :=
  (θ_run defs _ _).mono (fun _ h => ⟨unchanged plain h.1, h.2⟩) (run_main ρ plain)

end Cert.KernelIdeal.Hand
-- ==== Proof.Spec.lean ====
/- What one step computes, over the extended reals, and the identities by which the kernel computes it. -/
module

public import Idealize.ShloMosaic.PureOps.Ideal

@[expose] public section

noncomputable section

namespace RingStep

open Idealize.ShloMosaic

/-- The operands of one batch and one group of four query heads, by token, head of the group and coordinate. -/
structure Data where
  q : ℕ → ℕ → ℕ → EReal
  k : ℕ → ℕ → EReal
  v : ℕ → ℕ → EReal
  fac : ℕ → EReal
  vs : EReal
  o : ℕ → ℕ → ℕ → EReal
  m : ℕ → ℕ → EReal
  l : ℕ → ℕ → EReal

namespace Data
variable (D : Data)

/-- The product of token `i`'s query, head `h`, and key `j`. -/
def score (i h j : ℕ) : EReal := ∑ d : Fin 128, D.q i h d.val * D.k j d.val
/-- The new maximum: of the old one and the scaled scores of the keys up to token `i`. -/
def max (h i : ℕ) : EReal := D.m h i ⊔ (Finset.range (i + 1)).sup fun j => D.score i h j * D.fac h
/-- The weight of key `j`. -/
def prob (i h j : ℕ) : EReal := if j ≤ i then Ideal.exp (D.score i h j * D.fac h - D.max h i) else 0
/-- The factor of the old sums. -/
def alpha (h i : ℕ) : EReal := Ideal.exp (D.m h i - D.max h i)
/-- The new sum of weights. -/
def sum (h i : ℕ) : EReal := D.alpha h i * D.l h i + ∑ j ∈ Finset.range 1024, D.prob i h j
/-- The new row of output. -/
def out (i h d : ℕ) : EReal :=
  D.alpha h i * D.o i h d
    + D.vs * ((∑ j ∈ Finset.range 1024, D.prob i h j * ((256 : ℝ) : EReal) * D.v j d) * ((1 / 256 : ℝ) : EReal))

end Data

/-! ## Identities -/

/-- An exponential is not negative. -/
theorem exp_nonneg (x : EReal) : 0 ≤ Ideal.exp x := by
  induction x with
  | bot => simp
  | coe r => simp only [Ideal.exp_coe]; exact_mod_cast (Real.exp_pos r).le
  | top => simp

/-- A weight is not negative. -/
theorem Data.prob_nonneg (D : Data) (i h j : ℕ) : 0 ≤ D.prob i h j := by
  unfold Data.prob; split
  · exact exp_nonneg _
  · exact le_rfl

/-- The kernel's exponential, to the base two and with the factor 256 in the exponent. -/
theorem exp2_eq (a m : EReal) :
    Ideal.exp2 (a * (((Real.log 2)⁻¹ : ℝ) : EReal) - (m * (((Real.log 2)⁻¹ : ℝ) : EReal) - ((8 : ℝ) : EReal)))
      = Ideal.exp (a - m) * ((256 : ℝ) : EReal) := by
  have hL : 0 < (Real.log 2)⁻¹ := inv_pos.mpr (Real.log_pos (by norm_num))
  have h256 : (0 : ℝ) < 256 := by norm_num
  induction a with
  | bot =>
    rw [EReal.bot_mul_coe_of_pos hL, EReal.bot_sub, EReal.bot_sub]; simp
  | top =>
    rw [EReal.top_mul_coe_of_pos hL]
    induction m with
    | bot => rw [EReal.bot_mul_coe_of_pos hL, EReal.bot_sub]; simp [EReal.top_mul_coe_of_pos h256]
    | coe m => rw [← EReal.coe_mul, ← EReal.coe_sub, EReal.top_sub_coe, EReal.top_sub_coe]; simp [EReal.top_mul_coe_of_pos h256]
    | top => rw [EReal.top_mul_coe_of_pos hL, EReal.top_sub_coe]; simp
  | coe a =>
    induction m with
    | bot =>
      rw [EReal.bot_mul_coe_of_pos hL, EReal.bot_sub, ← EReal.coe_mul, EReal.coe_sub_bot, EReal.coe_sub_bot]
      simp [EReal.top_mul_coe_of_pos h256]
    | coe m =>
      rw [← EReal.coe_mul]
      rw [← EReal.coe_mul, ← EReal.coe_sub, ← EReal.coe_sub, ← EReal.coe_sub, Ideal.exp2_coe, Ideal.exp_coe, ← EReal.coe_mul]
      congr 1
      have h2 : Real.log 2 ≠ 0 := (Real.log_pos (by norm_num)).ne'
      show (2 : ℝ) ^ (_ : ℝ) = _
      rw [Real.rpow_def_of_pos (by norm_num),
        show Real.log 2 * (a * (Real.log 2)⁻¹ - (m * (Real.log 2)⁻¹ - 8)) = (a - m) + 8 * Real.log 2 by field_simp; ring,
        Real.exp_add]
      congr 1
      rw [mul_comm, Real.exp_mul, Real.exp_log (by norm_num)]; norm_num
    | top => rw [EReal.top_mul_coe_of_pos hL, EReal.top_sub_coe, ← EReal.coe_mul]; simp

/-- A factor common to nonnegative terms. -/
theorem sum_mul {ι : Type} (s : Finset ι) (f : ι → EReal) (hf : ∀ i, 0 ≤ f i) (r : ℝ) (hr : 0 ≤ r) :
    (∑ i ∈ s, f i * (r : EReal)) = (∑ i ∈ s, f i) * (r : EReal) := by
  classical
  induction s using Finset.induction_on with
  | empty => simp
  | insert a s ha ih =>
    rw [Finset.sum_insert ha, Finset.sum_insert ha, ih, EReal.right_distrib_of_nonneg (hf a) (Finset.sum_nonneg fun i _ => hf i)]

/-- Multiplying by 256 and by 1/256 changes nothing, infinities included. -/
theorem mul_256 (x : EReal) : x * ((256 : ℝ) : EReal) * ((1 / 256 : ℝ) : EReal) = x := by
  rw [mul_assoc, ← EReal.coe_mul]; norm_num

/-- A nonnegative factor of the terms of a maximum. -/
theorem sup_mul (n : ℕ) (f : ℕ → EReal) (c : EReal) (hc : 0 ≤ c) :
    ((Finset.range (n + 1)).sup f) * c = (Finset.range (n + 1)).sup fun j => f j * c := by
  have hne : (Finset.range (n + 1)).Nonempty := ⟨0, by simp⟩
  rw [← Finset.sup'_eq_sup hne, ← Finset.sup'_eq_sup hne]
  have hm : Monotone fun x : EReal => x * c := fun x y h => mul_le_mul_of_nonneg_right h hc
  exact Finset.comp_sup'_eq_sup'_comp hne (fun x => x * c) fun x y => hm.map_sup x y

/-- A maximum over more keys, of which those past the token are least. -/
theorem sup_masked (n i : ℕ) (hi : i < n) (f : ℕ → EReal) :
    ((Finset.range n).sup fun j => if j ≤ i then f j else ⊥) = (Finset.range (i + 1)).sup f := by
  apply le_antisymm
  · refine Finset.sup_le fun j _ => ?_
    split
    · exact Finset.le_sup (f := f) (by simp; omega)
    · exact bot_le
  · refine Finset.sup_le fun j hj => ?_
    have hj' : j ≤ i := by simp at hj; omega
    have := Finset.le_sup (f := fun j => if j ≤ i then f j else ⊥) (b := j) (s := Finset.range n) (by simp; omega)
    simpa [hj'] using this

/-- A sum over more keys, of which those past the token weigh nothing. -/
theorem Data.sum_prob (D : Data) (n i h : ℕ) (hi : i < n) (hn : n ≤ 1024) (f : ℕ → EReal → EReal) (hf : ∀ j, f j 0 = 0) :
    ∑ j ∈ Finset.range n, f j (D.prob i h j) = ∑ j ∈ Finset.range 1024, f j (D.prob i h j) := by
  refine Finset.sum_subset (by intro j; simp; omega) fun j _ hj => ?_
  have : ¬ j ≤ i := by simp at hj; omega
  rw [Data.prob, if_neg this, hf]

/-- Eight rows of terms, row by row or in order. -/
theorem sum_rows (f : ℕ → EReal) (t : ℕ) :
    ∑ s : Fin 8, ∑ u ∈ Finset.range t, f (8 * u + s.val) = ∑ j ∈ Finset.range (8 * t), f j := by
  induction t with
  | zero => simp
  | succ t ih =>
    simp only [Finset.sum_range_succ (n := t), Finset.sum_add_distrib, ih]
    rw [Nat.mul_succ, Finset.sum_range_add, Finset.sum_range (fun x => f (8 * t + x))]

/-- The supremum over eight rows of the suprema over a row's tiles is that over all of them. -/
theorem sup_rows (f : ℕ → EReal) (t : ℕ) :
    (Finset.univ.sup fun s : Fin 8 => (Finset.range t).sup fun u => f (8 * u + s.val)) = (Finset.range (8 * t)).sup f := by
  apply le_antisymm
  · refine Finset.sup_le fun s _ => Finset.sup_le fun u hu => Finset.le_sup (f := f) ?_
    simp at hu ⊢; omega
  · refine Finset.sup_le fun j hj => ?_
    have h1 := Finset.le_sup (f := fun u => f (8 * u + j % 8)) (s := Finset.range t) (b := j / 8) (by simp at hj ⊢; omega)
    have h2 := Finset.le_sup (f := fun s : Fin 8 => (Finset.range t).sup fun u => f (8 * u + s.val)) (s := Finset.univ)
      (b := ⟨j % 8, Nat.mod_lt _ (by norm_num)⟩) (Finset.mem_univ _)
    have e : 8 * (j / 8) + j % 8 = j := by omega
    simp only [e] at h1
    exact h1.trans h2

/-! ## The constants -/

/-- The word of 256. -/
theorem ofBits_256 : Ideal.ofBits .f32 0x43800000#32 = ((256 : ℝ) : EReal) := by
  simp [Ideal.ofBits, Ideal.ieee, -EReal.coe_mul]; norm_num
/-- The word of 1/256. -/
theorem ofBits_inv256 : Ideal.ofBits .f32 0x3B800000#32 = ((1 / 256 : ℝ) : EReal) := by
  simp [Ideal.ofBits, Ideal.ieee, -EReal.coe_mul]; norm_num
/-- The word of 8. -/
theorem ofBits_8 : Ideal.ofBits .f32 0x41000000#32 = ((8 : ℝ) : EReal) := by
  simp [Ideal.ofBits, Ideal.ieee, -EReal.coe_mul]; norm_num
/-- The word of minus infinity. -/
theorem ofBits_neginf : Ideal.ofBits .f32 0xFF800000#32 = ⊥ := by
  simp [Ideal.ofBits, Ideal.ieee]
/-- The word of zero. -/
theorem ofBits_zero : Ideal.ofBits .f32 0x00000000#32 = 0 := by
  simp [Ideal.ofBits, Ideal.ieee]
/-- The word of one. -/
theorem ofBits_one : Ideal.ofBits .f32 0x3F800000#32 = 1 := by
  simp [Ideal.ofBits, Ideal.ieee, -EReal.coe_mul]; norm_num
/-- The byte of zero. -/
theorem ofBits_zero8 : Ideal.ofBits .fp8e4m3 0x00#8 = 0 := by
  simp [Ideal.ofBits, Ideal.e4m3fn]
/-- The scale of scores is not negative. -/
theorem ofBits_scale : 0 ≤ Ideal.ofBits .f32 0x3DB504F3#32 := by
  simp [Ideal.ofBits, Ideal.ieee, -EReal.coe_mul]

end RingStep

end
-- ==== Proof.Lanes.lean ====
/- The body's operations on tiles, the index vectors and the blocks of arrays, read at one element. -/
module

public import proofs.«01_k».proof.Proof.Exec
public import proofs.«01_k».proof.Proof.Spec
public import Idealize.ShloMosaic.Lib.Pointwise
public import Idealize.ShloMosaic.Lib.Pointwise.IndexVar

@[expose] public section

noncomputable section

namespace RingStep

open Idealize.ShloMosaic

/-! ## Arrays by natural coordinates -/

def at2 {a b : ℕ} (X : (M2 a b).Idx → EReal) (i j : ℕ) : EReal :=
  if h : i < a ∧ j < b then X (ix2 ⟨i, h.1⟩ ⟨j, h.2⟩) else 0
def at3 {a b c : ℕ} (X : (M3 a b c).Idx → EReal) (i j k : ℕ) : EReal :=
  if h : i < a ∧ j < b ∧ k < c then X (ix3 ⟨i, h.1⟩ ⟨j, h.2.1⟩ ⟨k, h.2.2⟩) else 0
def at4 {a b c d : ℕ} (X : (⟨4, ![a, b, c, d]⟩ : Shape).Idx → EReal) (i j k l : ℕ) : EReal :=
  if h : i < a ∧ j < b ∧ k < c ∧ l < d then X (ix4 ⟨i, h.1⟩ ⟨j, h.2.1⟩ ⟨k, h.2.2.1⟩ ⟨l, h.2.2.2⟩) else 0
def at5 {a b c d e : ℕ} (X : (⟨5, ![a, b, c, d, e]⟩ : Shape).Idx → EReal) (i j k l n : ℕ) : EReal :=
  if h : i < a ∧ j < b ∧ k < c ∧ l < d ∧ n < e then
    X (ix5 ⟨i, h.1⟩ ⟨j, h.2.1⟩ ⟨k, h.2.2.1⟩ ⟨l, h.2.2.2.1⟩ ⟨n, h.2.2.2.2⟩) else 0

/-- An element of a matrix, read by numbers. -/
theorem at2_eq {a b : ℕ} (X : (M2 a b).Idx → EReal) (i : Fin a) (j : Fin b) : X (ix2 i j) = at2 X i.val j.val := by
  unfold at2; rw [dif_pos ⟨i.2, j.2⟩]
/-- An element of an array of three axes, read by numbers. -/
theorem at3_eq {a b c : ℕ} (X : (M3 a b c).Idx → EReal) (i : Fin a) (j : Fin b) (k : Fin c) :
    X (ix3 i j k) = at3 X i.val j.val k.val := by
  unfold at3; rw [dif_pos ⟨i.2, j.2, k.2⟩]
/-- An element of an array of four axes, read by numbers. -/
theorem at4_eq {a b c d : ℕ} (X : (⟨4, ![a, b, c, d]⟩ : Shape).Idx → EReal) (i : Fin a) (j : Fin b) (k : Fin c) (l : Fin d) :
    X (ix4 i j k l) = at4 X i.val j.val k.val l.val := by
  unfold at4; rw [dif_pos ⟨i.2, j.2, k.2, l.2⟩]
/-- An element of an array of five axes, read by numbers. -/
theorem at5_eq {a b c d e : ℕ} (X : (⟨5, ![a, b, c, d, e]⟩ : Shape).Idx → EReal) (i : Fin a) (j : Fin b) (k : Fin c) (l : Fin d)
    (n : Fin e) : X (ix5 i j k l n) = at5 X i.val j.val k.val l.val n.val := by
  unfold at5; rw [dif_pos ⟨i.2, j.2, k.2, l.2, n.2⟩]

/-! ## Index vectors -/

/-- A lane's head is its remainder by four. -/
theorem headOfLane_eq : ∀ (s : Fin 8) (l : Fin 128), headOfLane (ix2 s l) = BitVec.ofNat 32 (l.val % 4) := by decide +kernel
/-- A lane's token is its quotient by four. -/
theorem tokOfLane_eq : ∀ (s : Fin 8) (l : Fin 128), tokOfLane (ix2 s l) = BitVec.ofNat 32 (l.val / 4) := by decide +kernel
/-- The lane from which the statistics' token and head are taken. -/
theorem colOf_eq : ∀ (s : Fin 8) (l : Fin 128), colOf (ix2 s l) = BitVec.ofNat 32 (4 * (l.val % 32) + s.val % 4) := by decide +kernel
/-- The 32 tokens that a lane of a tile of statistics belongs to. -/
theorem chunkOf_eq : ∀ (s : Fin 8) (l : Fin 128), chunkOf (ix2 s l) = BitVec.ofNat 32 (l.val / 32) := by decide +kernel
/-- A row's number. -/
theorem subl_eq : ∀ (s : Fin 8) (l : Fin 128), subl (ix2 s l) = BitVec.ofNat 32 s.val := by decide +kernel
/-- Rows 0 to 3 of a tile of statistics are those of an even group, rows 4 to 7 of an odd one. -/
theorem rowSel_eq (g : ℕ) : ∀ (s : Fin 8) (l : Fin 128), rowSel g (ix2 s l) = BitVec.ofBool (decide (s.val / 4 = g % 2)) := by
  have h : ∀ p : Fin 2, ∀ (s : Fin 8) (l : Fin 128), rowSel p.val (ix2 s l) = BitVec.ofBool (decide (s.val / 4 = p.val)) := by
    decide +kernel
  intro s l
  have := h ⟨g % 2, Nat.mod_lt _ (by norm_num)⟩ s l
  simpa [rowSel] using this

/-- A small number's word reads back as the number. -/
theorem toInt_small (n : ℕ) (hn : n < 2 ^ 31) : (BitVec.ofNat 32 n).toInt = n := by
  rw [BitVec.toInt_eq_toNat_cond, BitVec.toNat_ofNat, Nat.mod_eq_of_lt (by omega)]
  rw [if_pos (by omega)]

/-- An index that is not negative is not wrapped. -/
theorem wrapIx_eq (x : IVec (M2 8 128) 32) (c : BitVec 32) (s : Fin 8) (l : Fin 128) (n : ℕ) (hn : n < 2 ^ 31)
    (h : x (ix2 s l) = BitVec.ofNat 32 n) : wrapIx x c (ix2 s l) = BitVec.ofNat 32 n := by
  unfold wrapIx
  pointwise
  rw [h]
  have : ¬ (BitVec.slt (BitVec.ofNat 32 n) 0#32 = true) := by
    rw [BitVec.slt, toInt_small n hn]; simp
  simp [Scalar.cmpi, IntOp.cmpi, this, Scalar.select]

/-- Row `8 j + s` is at or before the lane's token. -/
theorem diag_eq (j : ℕ) (hj : j < 1024) (s : Fin 8) (l : Fin 128) :
    diag j (ix2 s l) = BitVec.ofBool (decide (8 * j + s.val ≤ l.val / 4)) := by
  unfold diag
  pointwise
  rw [subl_eq, tokOfLane_eq]
  have e : IntOp.addi (BitVec.ofNat 32 (8 * j)) (BitVec.ofNat 32 s.val) = BitVec.ofNat 32 (8 * j + s.val) := by
    simp [IntOp.addi, BitVec.ofNat_add]
  rw [e]
  simp only [IntOp.cmpi, BitVec.sle]
  rw [toInt_small _ (by omega), toInt_small _ (by omega)]
  simp only [Nat.cast_le]

/-- A gather along the rows of a tile. -/
theorem gather0 (x : Tile Ideal) (idx : IVec (M2 8 128) 32) (s : Fin 8) (l : Fin 128) :
    dynamicGather (s := M2 8 128) 0 x idx (ix2 s l) = x (ix2 ⟨(idx (ix2 s l)).toNat % 8, Nat.mod_lt _ (by norm_num)⟩ l) := by
  unfold dynamicGather
  congr 1; funext b; fin_cases b <;> rfl
/-- A gather along the lanes of a tile. -/
theorem gather1 (x : Tile Ideal) (idx : IVec (M2 8 128) 32) (s : Fin 8) (l : Fin 128) :
    dynamicGather (s := M2 8 128) 1 x idx (ix2 s l) = x (ix2 s ⟨(idx (ix2 s l)).toNat % 128, Nat.mod_lt _ (by norm_num)⟩) := by
  unfold dynamicGather
  congr 1; funext b; fin_cases b <;> rfl

/-- The block at `off` of sizes `sz` of an array of extended reals, and the array with that block replaced. -/
def blkE {n : ℕ} {S : Fin n → ℕ} (X : (⟨n, S⟩ : Shape).Idx → EReal) (off sz : Fin n → ℕ) (inb : ∀ a, off a + sz a ≤ S a) :
    (⟨n, sz⟩ : Shape).Idx → EReal := fun x => X ((Rect.unit (s := ⟨n, S⟩) off sz inb).toLoadRect.idx x)
def updE {n : ℕ} {S : Fin n → ℕ} (X : (⟨n, S⟩ : Shape).Idx → EReal) (off sz : Fin n → ℕ) (inb : ∀ a, off a + sz a ≤ S a)
    (w : (⟨n, sz⟩ : Shape).Idx → EReal) : (⟨n, S⟩ : Shape).Idx → EReal := (Rect.unit (s := ⟨n, S⟩) off sz inb).overlay X w

section
variable {n : ℕ} {S : Fin n → ℕ} (off sz : Fin n → ℕ) (inb : ∀ a, off a + sz a ≤ S a)
/-- A block of an array of floats, as extended reals. -/
theorem blk_f32 (X : Vec Ideal ⟨n, S⟩ .f32) : blk X off sz inb = blkE X off sz inb := rfl
/-- A block of an array of one-byte floats, as extended reals. -/
theorem blk_fp8 (X : Vec Ideal ⟨n, S⟩ .fp8e4m3) : blk X off sz inb = blkE X off sz inb := rfl
/-- An array of floats with a block replaced, as extended reals. -/
theorem upd_f32 (X : Vec Ideal ⟨n, S⟩ .f32) (w) : upd X off sz inb w = updE X off sz inb w := rfl
/-- An array of one-byte floats with a block replaced, as extended reals. -/
theorem upd_fp8 (X : Vec Ideal ⟨n, S⟩ .fp8e4m3) (w) : upd X off sz inb w = updE X off sz inb w := rfl
end

/-- An element of a block of a matrix. -/
theorem blk2 {A B : ℕ} (X : (M2 A B).Idx → EReal) (o0 o1 z0 z1 : ℕ) (inb : ∀ a, ![o0, o1] a + ![z0, z1] a ≤ ![A, B] a)
    (i : Fin z0) (j : Fin z1) : blkE X ![o0, o1] ![z0, z1] inb (ix2 i j) = at2 X (o0 + i.val) (o1 + j.val) := by
  have h0 : o0 + z0 ≤ A := inb 0
  have h1 : o1 + z1 ≤ B := inb 1
  unfold at2
  rw [dif_pos ⟨by omega, by omega⟩]
  unfold blkE
  refine congrArg X ?_
  funext a; apply Fin.ext; fin_cases a <;> simp [LoadRect.idx, Rect.unit, ix2]
/-- An element of a block of an array of three axes. -/
theorem blk3 {A B C : ℕ} (X : (M3 A B C).Idx → EReal) (o0 o1 o2 z0 z1 z2 : ℕ)
    (inb : ∀ a, ![o0, o1, o2] a + ![z0, z1, z2] a ≤ ![A, B, C] a)
    (i : Fin z0) (j : Fin z1) (k : Fin z2) :
    blkE X ![o0, o1, o2] ![z0, z1, z2] inb (ix3 i j k) = at3 X (o0 + i.val) (o1 + j.val) (o2 + k.val) := by
  have h0 : o0 + z0 ≤ A := inb 0
  have h1 : o1 + z1 ≤ B := inb 1
  have h2 : o2 + z2 ≤ C := inb 2
  unfold at3
  rw [dif_pos ⟨by omega, by omega, by omega⟩]
  unfold blkE
  refine congrArg X ?_
  funext a; apply Fin.ext; fin_cases a <;> simp [LoadRect.idx, Rect.unit, ix3]
/-- An element of a block of an array of four axes. -/
theorem blk4 {A B C D : ℕ} (X : (⟨4, ![A, B, C, D]⟩ : Shape).Idx → EReal) (o0 o1 o2 o3 z0 z1 z2 z3 : ℕ)
    (inb : ∀ a, ![o0, o1, o2, o3] a + ![z0, z1, z2, z3] a ≤ ![A, B, C, D] a)
    (i : Fin z0) (j : Fin z1) (k : Fin z2) (l : Fin z3) :
    blkE X ![o0, o1, o2, o3] ![z0, z1, z2, z3] inb (ix4 i j k l) = at4 X (o0 + i.val) (o1 + j.val) (o2 + k.val) (o3 + l.val) := by
  have h0 : o0 + z0 ≤ A := inb 0
  have h1 : o1 + z1 ≤ B := inb 1
  have h2 : o2 + z2 ≤ C := inb 2
  have h3 : o3 + z3 ≤ D := inb 3
  unfold at4
  rw [dif_pos ⟨by omega, by omega, by omega, by omega⟩]
  unfold blkE
  refine congrArg X ?_
  funext a; apply Fin.ext; fin_cases a <;> simp [LoadRect.idx, Rect.unit, ix4]

/-- The block replaced, read at any element. -/
theorem upd3 {A B C : ℕ} (X : (M3 A B C).Idx → EReal) (o0 o1 o2 z0 z1 z2 : ℕ)
    (inb : ∀ a, ![o0, o1, o2] a + ![z0, z1, z2] a ≤ ![A, B, C] a) (w : (M3 z0 z1 z2).Idx → EReal) (i j k : ℕ)
    (hi : i < A) (hj : j < B) (hk : k < C) :
    at3 (updE X ![o0, o1, o2] ![z0, z1, z2] inb w) i j k
      = if (o0 ≤ i ∧ i < o0 + z0) ∧ (o1 ≤ j ∧ j < o1 + z1) ∧ (o2 ≤ k ∧ k < o2 + z2) then at3 w (i - o0) (j - o1) (k - o2)
        else at3 X i j k := by
  unfold updE
  split
  · rename_i h
    unfold at3
    rw [dif_pos ⟨hi, hj, hk⟩, dif_pos ⟨by omega, by omega, by omega⟩]
    rw [← Rect.overlay_emb (Rect.unit (s := M3 A B C) ![o0, o1, o2] ![z0, z1, z2] inb) X w]
    refine congrArg _ ?_
    funext a; apply Fin.ext; fin_cases a <;> simp [Rect.emb, Rect.unit, ix3] <;> omega
  · rename_i h
    unfold at3
    rw [dif_pos ⟨hi, hj, hk⟩, dif_pos ⟨hi, hj, hk⟩]
    refine Rect.overlay_of_not_mem _ _ _ fun hm => h ?_
    rw [← Rect.map_emb_univ, Finset.mem_map] at hm
    obtain ⟨x, -, hx⟩ := hm
    have e0 : _ = i := congrArg Fin.val (congrFun hx 0)
    have e1 : _ = j := congrArg Fin.val (congrFun hx 1)
    have e2 : _ = k := congrArg Fin.val (congrFun hx 2)
    have x0 := (x 0).2; have x1 := (x 1).2; have x2 := (x 2).2
    simp [Rect.emb, Rect.unit] at e0 e1 e2 x0 x1 x2
    omega
/-- An element of a matrix with a block replaced: the block's inside it, the old one outside. -/
theorem upd2 {A B : ℕ} (X : (M2 A B).Idx → EReal) (o0 o1 z0 z1 : ℕ)
    (inb : ∀ a, ![o0, o1] a + ![z0, z1] a ≤ ![A, B] a) (w : (M2 z0 z1).Idx → EReal) (i j : ℕ)
    (hi : i < A) (hj : j < B) :
    at2 (updE X ![o0, o1] ![z0, z1] inb w) i j
      = if (o0 ≤ i ∧ i < o0 + z0) ∧ (o1 ≤ j ∧ j < o1 + z1) then at2 w (i - o0) (j - o1) else at2 X i j := by
  unfold updE
  split
  · rename_i h
    unfold at2
    rw [dif_pos ⟨hi, hj⟩, dif_pos ⟨by omega, by omega⟩]
    rw [← Rect.overlay_emb (Rect.unit (s := M2 A B) ![o0, o1] ![z0, z1] inb) X w]
    refine congrArg _ ?_
    funext a; apply Fin.ext; fin_cases a <;> simp [Rect.emb, Rect.unit, ix2] <;> omega
  · rename_i h
    unfold at2
    rw [dif_pos ⟨hi, hj⟩, dif_pos ⟨hi, hj⟩]
    refine Rect.overlay_of_not_mem _ _ _ fun hm => h ?_
    rw [← Rect.map_emb_univ, Finset.mem_map] at hm
    obtain ⟨x, -, hx⟩ := hm
    have e0 : _ = i := congrArg Fin.val (congrFun hx 0)
    have e1 : _ = j := congrArg Fin.val (congrFun hx 1)
    have x0 := (x 0).2; have x1 := (x 1).2
    simp [Rect.emb, Rect.unit] at e0 e1 x0 x1
    omega

end RingStep

end
-- ==== Proof.Group.lean ====
/- The operands of a batch's group, from the whole arrays; and the three results as arrays. -/
module

public import proofs.«01_k».proof.Proof.Lanes

@[expose] public section

noncomputable section

namespace RingStep

open Idealize.ShloMosaic

/-- The nine operands. -/
structure Arrays where
  q : Vec Ideal ⟨4, ![2, 1024, 32, 128]⟩ .fp8e4m3
  qs : Vec Ideal (M2 2 32) .f32
  k : Vec Ideal ⟨4, ![2, 1024, 8, 128]⟩ .fp8e4m3
  ks : Vec Ideal (M2 2 8) .f32
  v : Vec Ideal ⟨4, ![2, 1024, 8, 128]⟩ .fp8e4m3
  vs : Vec Ideal (M2 2 8) .f32
  o : Vec Ideal ⟨4, ![2, 1024, 32, 128]⟩ .f32
  m : Vec Ideal (M3 2 32 1024) .f32
  l : Vec Ideal (M3 2 32 1024) .f32

/-- The operands of batch `b` and group `g`. -/
def Arrays.group (A : Arrays) (b g : ℕ) : Data where
  q i h d := at4 A.q b i (4 * g + h) d
  k j d := at4 A.k b j g d
  v j d := at4 A.v b j g d
  fac h := at2 A.qs b (4 * g + h) * at2 A.ks b g * Ideal.ofBits .f32 0x3DB504F3#32
  vs := at2 A.vs b g
  o i h d := if h < 4 then at4 A.o b i (4 * g + h) d else 0
  m h i := at3 A.m b (4 * g + h) i
  l h i := at3 A.l b (4 * g + h) i

/-- The output, the maxima and the sums. -/
def Arrays.out (A : Arrays) : Vec Ideal ⟨5, ![2, 1024, 8, 4, 128]⟩ .f32 := fun x =>
  (A.group (x 0).val (x 2).val).out (x 1).val (x 3).val (x 4).val
def Arrays.max (A : Arrays) : Vec Ideal (M3 2 32 1024) .f32 := fun x =>
  (A.group (x 0).val ((x 1).val / 4)).max ((x 1).val % 4) (x 2).val
def Arrays.sum (A : Arrays) : Vec Ideal (M3 2 32 1024) .f32 := fun x =>
  (A.group (x 0).val ((x 1).val / 4)).sum ((x 1).val % 4) (x 2).val

end RingStep
end
-- ==== Proof.Blocks.lean ====
/- The blocks of a grid point, of the arrays as launched: the whole of each table of scales; of queries, keys, values and statistics
   those of batch `t / 8`; of the old output those of the batch and of group `t % 8`. -/
module

public import proofs.«01_k».proof.Proof.RunIdeal
public import proofs.«01_k».proof.Proof.Group

@[expose] public section

noncomputable section

namespace Cert.KernelIdeal.Hand

open Idealize.ShloMosaic Idealize.ShloMosaic.TcCoe Cert.KernelIdeal Cert.KernelIdeal.Gen
open RingStep (Arrays at2 at3 at4 at5 M2 M3)

variable (m : (ℓ : Loc nD τ sig) → Buf (Elt Ideal) ℓ)

/-- The arguments as launched. -/
def args (c : Dev nD) : Arrays where
  q := m ((c.tc : Thread nD τ).loc main_arg0)
  qs := m ((c.tc : Thread nD τ).loc main_arg1)
  k := m ((c.tc : Thread nD τ).loc main_arg2)
  ks := m ((c.tc : Thread nD τ).loc main_arg3)
  v := m ((c.tc : Thread nD τ).loc main_arg4)
  vs := m ((c.tc : Thread nD τ).loc main_arg5)
  o := m ((c.tc : Thread nD τ).loc main_arg6)
  m := m ((c.tc : Thread nD τ).loc main_arg7)
  l := m ((c.tc : Thread nD τ).loc main_arg8)

/-- A grid point's batch is one of two. -/
theorem batch_lt (t : Fin cfg0.N) : t.val / 8 < 2 := by have := t.2; have h16 : t.val < 16 := this; omega

/-- A block that is one slice of an array of four axes, read by numbers, is that slice. -/
theorem at4_block {a b c d n : ℕ} (hn : n < a) {X : (⟨4, ![1, b, c, d]⟩ : Shape).Idx → EReal} {Y : (⟨4, ![a, b, c, d]⟩ : Shape).Idx → EReal}
    (h : ∀ i j k, X (ix4 0 i j k) = Y (ix4 ⟨n, hn⟩ i j k)) (i j k : ℕ) : at4 X 0 i j k = at4 Y n i j k := by
  unfold at4
  by_cases hc : i < b ∧ j < c ∧ k < d
  · rw [dif_pos ⟨Nat.one_pos, hc⟩, dif_pos ⟨hn, hc⟩]; exact h _ _ _
  · rw [dif_neg fun x => hc x.2, dif_neg fun x => hc x.2]

/-- A block that is one slice of an array of three axes, read by numbers, is that slice. -/
theorem at3_block {a b c n : ℕ} (hn : n < a) {X : (M3 1 b c).Idx → EReal} {Y : (M3 a b c).Idx → EReal}
    (h : ∀ i j, X (ix3 0 i j) = Y (ix3 ⟨n, hn⟩ i j)) (i j : ℕ) : at3 X 0 i j = at3 Y n i j := by
  unfold at3
  by_cases hc : i < b ∧ j < c
  · rw [dif_pos ⟨Nat.one_pos, hc⟩, dif_pos ⟨hn, hc⟩]; exact h _ _
  · rw [dif_neg fun x => hc x.2, dif_neg fun x => hc x.2]

/-- The query scales' block is the whole array at every grid point. -/
theorem idx0 : ∀ t : Fin cfg0.N, win0_0.index t (0 : Fin 2) = 0 ∧ win0_0.index t (1 : Fin 2) = 0 :=
  (by decide +kernel : ∀ t : Fin grid0.N, _)

/-- Every grid point reads all query scales. -/
theorem qs_block (c : Dev nD) (t : Fin cfg0.N) : iblk m c 0 t = (args m c).qs := by
  obtain ⟨e0, e1⟩ := idx0 t
  funext j
  show V m c main_arg1 (((cfg0.win 0).blk t).view.emb j) = _
  rw [V_main_arg1]
  refine congrArg (m ((c.tc : Thread nD τ).loc main_arg1)) ?_
  funext a; apply Fin.ext
  match a with
  | ⟨0, _⟩ => show win0_0.index t (0 : Fin 2) * 2 + 1 * (j 0).val = (j 0).val; omega
  | ⟨1, _⟩ => show win0_0.index t (1 : Fin 2) * 32 + 1 * (j 1).val = (j 1).val; omega

/-- The key scales' block is the whole array at every grid point. -/
theorem idx1 : ∀ t : Fin cfg0.N, win0_1.index t (0 : Fin 2) = 0 ∧ win0_1.index t (1 : Fin 2) = 0 :=
  (by decide +kernel : ∀ t : Fin grid0.N, _)

/-- Every grid point reads all key scales. -/
theorem ks_block (c : Dev nD) (t : Fin cfg0.N) : iblk m c 1 t = (args m c).ks := by
  obtain ⟨e0, e1⟩ := idx1 t
  funext j
  show V m c main_arg3 (((cfg0.win 1).blk t).view.emb j) = _
  rw [V_main_arg3]
  refine congrArg (m ((c.tc : Thread nD τ).loc main_arg3)) ?_
  funext a; apply Fin.ext
  match a with
  | ⟨0, _⟩ => show win0_1.index t (0 : Fin 2) * 2 + 1 * (j 0).val = (j 0).val; omega
  | ⟨1, _⟩ => show win0_1.index t (1 : Fin 2) * 8 + 1 * (j 1).val = (j 1).val; omega

/-- The value scales' block is the whole array at every grid point. -/
theorem idx2 : ∀ t : Fin cfg0.N, win0_2.index t (0 : Fin 2) = 0 ∧ win0_2.index t (1 : Fin 2) = 0 :=
  (by decide +kernel : ∀ t : Fin grid0.N, _)

/-- Every grid point reads all value scales. -/
theorem vs_block (c : Dev nD) (t : Fin cfg0.N) : iblk m c 2 t = (args m c).vs := by
  obtain ⟨e0, e1⟩ := idx2 t
  funext j
  show V m c main_arg5 (((cfg0.win 2).blk t).view.emb j) = _
  rw [V_main_arg5]
  refine congrArg (m ((c.tc : Thread nD τ).loc main_arg5)) ?_
  funext a; apply Fin.ext
  match a with
  | ⟨0, _⟩ => show win0_2.index t (0 : Fin 2) * 2 + 1 * (j 0).val = (j 0).val; omega
  | ⟨1, _⟩ => show win0_2.index t (1 : Fin 2) * 8 + 1 * (j 1).val = (j 1).val; omega

/-- The queries' block is that of the grid point's batch. -/
theorem idx3 : ∀ t : Fin cfg0.N, win0_3.index t (0 : Fin 4) = t.val / 8 ∧ win0_3.index t (1 : Fin 4) = 0 ∧ win0_3.index t (2 : Fin 4) = 0 ∧ win0_3.index t (3 : Fin 4) = 0 :=
  (by decide +kernel : ∀ t : Fin grid0.N, _)

/-- An element of the queries' block is that of the batch's queries. -/
theorem q_elem (c : Dev nD) (t : Fin cfg0.N) (i : Fin 1024) (r : Fin 32) (d : Fin 128) :
    iblk m c 3 t (ix4 0 i r d) = (args m c).q (ix4 ⟨t.val / 8, batch_lt t⟩ i r d) := by
  obtain ⟨e0, e1, e2, e3⟩ := idx3 t
  show V m c main_arg0 (((cfg0.win 3).blk t).view.emb (ix4 0 i r d)) = _
  rw [V_main_arg0]
  refine congrArg (m ((c.tc : Thread nD τ).loc main_arg0)) ?_
  funext a; apply Fin.ext
  match a with
  | ⟨0, _⟩ => show win0_3.index t (0 : Fin 4) * 1 + 1 * 0 = t.val / 8; omega
  | ⟨1, _⟩ => show win0_3.index t (1 : Fin 4) * 1024 + 1 * i.val = i.val; omega
  | ⟨2, _⟩ => show win0_3.index t (2 : Fin 4) * 32 + 1 * r.val = r.val; omega
  | ⟨3, _⟩ => show win0_3.index t (3 : Fin 4) * 128 + 1 * d.val = d.val; omega

/-- The queries' block, read by numbers, is the batch's queries. -/
theorem q_block (c : Dev nD) (t : Fin cfg0.N) (i r d : ℕ) : at4 (iblk m c 3 t) 0 i r d = at4 (args m c).q (t.val / 8) i r d :=
  at4_block (batch_lt t) (q_elem m c t) i r d

/-- The keys' block is that of the grid point's batch. -/
theorem idx4 : ∀ t : Fin cfg0.N, win0_4.index t (0 : Fin 4) = t.val / 8 ∧ win0_4.index t (1 : Fin 4) = 0 ∧ win0_4.index t (2 : Fin 4) = 0 ∧ win0_4.index t (3 : Fin 4) = 0 :=
  (by decide +kernel : ∀ t : Fin grid0.N, _)

/-- An element of the keys' block is that of the batch's keys. -/
theorem k_elem (c : Dev nD) (t : Fin cfg0.N) (i : Fin 1024) (r : Fin 8) (d : Fin 128) :
    iblk m c 4 t (ix4 0 i r d) = (args m c).k (ix4 ⟨t.val / 8, batch_lt t⟩ i r d) := by
  obtain ⟨e0, e1, e2, e3⟩ := idx4 t
  show V m c main_arg2 (((cfg0.win 4).blk t).view.emb (ix4 0 i r d)) = _
  rw [V_main_arg2]
  refine congrArg (m ((c.tc : Thread nD τ).loc main_arg2)) ?_
  funext a; apply Fin.ext
  match a with
  | ⟨0, _⟩ => show win0_4.index t (0 : Fin 4) * 1 + 1 * 0 = t.val / 8; omega
  | ⟨1, _⟩ => show win0_4.index t (1 : Fin 4) * 1024 + 1 * i.val = i.val; omega
  | ⟨2, _⟩ => show win0_4.index t (2 : Fin 4) * 8 + 1 * r.val = r.val; omega
  | ⟨3, _⟩ => show win0_4.index t (3 : Fin 4) * 128 + 1 * d.val = d.val; omega

/-- The keys' block, read by numbers, is the batch's keys. -/
theorem k_block (c : Dev nD) (t : Fin cfg0.N) (i r d : ℕ) : at4 (iblk m c 4 t) 0 i r d = at4 (args m c).k (t.val / 8) i r d :=
  at4_block (batch_lt t) (k_elem m c t) i r d

/-- The values' block is that of the grid point's batch. -/
theorem idx5 : ∀ t : Fin cfg0.N, win0_5.index t (0 : Fin 4) = t.val / 8 ∧ win0_5.index t (1 : Fin 4) = 0 ∧ win0_5.index t (2 : Fin 4) = 0 ∧ win0_5.index t (3 : Fin 4) = 0 :=
  (by decide +kernel : ∀ t : Fin grid0.N, _)

/-- An element of the values' block is that of the batch's values. -/
theorem v_elem (c : Dev nD) (t : Fin cfg0.N) (i : Fin 1024) (r : Fin 8) (d : Fin 128) :
    iblk m c 5 t (ix4 0 i r d) = (args m c).v (ix4 ⟨t.val / 8, batch_lt t⟩ i r d) := by
  obtain ⟨e0, e1, e2, e3⟩ := idx5 t
  show V m c main_arg4 (((cfg0.win 5).blk t).view.emb (ix4 0 i r d)) = _
  rw [V_main_arg4]
  refine congrArg (m ((c.tc : Thread nD τ).loc main_arg4)) ?_
  funext a; apply Fin.ext
  match a with
  | ⟨0, _⟩ => show win0_5.index t (0 : Fin 4) * 1 + 1 * 0 = t.val / 8; omega
  | ⟨1, _⟩ => show win0_5.index t (1 : Fin 4) * 1024 + 1 * i.val = i.val; omega
  | ⟨2, _⟩ => show win0_5.index t (2 : Fin 4) * 8 + 1 * r.val = r.val; omega
  | ⟨3, _⟩ => show win0_5.index t (3 : Fin 4) * 128 + 1 * d.val = d.val; omega

/-- The values' block, read by numbers, is the batch's values. -/
theorem v_block (c : Dev nD) (t : Fin cfg0.N) (i r d : ℕ) : at4 (iblk m c 5 t) 0 i r d = at4 (args m c).v (t.val / 8) i r d :=
  at4_block (batch_lt t) (v_elem m c t) i r d

/-- The previous maxima's block is that of the grid point's batch. -/
theorem idx7 : ∀ t : Fin cfg0.N, win0_7.index t (0 : Fin 3) = t.val / 8 ∧ win0_7.index t (1 : Fin 3) = 0 ∧ win0_7.index t (2 : Fin 3) = 0 :=
  (by decide +kernel : ∀ t : Fin grid0.N, _)

/-- An element of the previous maxima's block is that of the batch's maxima. -/
theorem m_elem (c : Dev nD) (t : Fin cfg0.N) (r : Fin 32) (i : Fin 1024) :
    iblk m c 7 t (ix3 0 r i) = (args m c).m (ix3 ⟨t.val / 8, batch_lt t⟩ r i) := by
  obtain ⟨e0, e1, e2⟩ := idx7 t
  show V m c main_arg7 (((cfg0.win 7).blk t).view.emb (ix3 0 r i)) = _
  rw [V_main_arg7]
  refine congrArg (m ((c.tc : Thread nD τ).loc main_arg7)) ?_
  funext a; apply Fin.ext
  match a with
  | ⟨0, _⟩ => show win0_7.index t (0 : Fin 3) * 1 + 1 * 0 = t.val / 8; omega
  | ⟨1, _⟩ => show win0_7.index t (1 : Fin 3) * 32 + 1 * r.val = r.val; omega
  | ⟨2, _⟩ => show win0_7.index t (2 : Fin 3) * 1024 + 1 * i.val = i.val; omega

/-- The previous maxima's block, read by numbers, is the batch's maxima. -/
theorem m_block (c : Dev nD) (t : Fin cfg0.N) (r i : ℕ) : at3 (iblk m c 7 t) 0 r i = at3 (args m c).m (t.val / 8) r i :=
  at3_block (batch_lt t) (m_elem m c t) r i

/-- The previous sums' block is that of the grid point's batch. -/
theorem idx8 : ∀ t : Fin cfg0.N, win0_8.index t (0 : Fin 3) = t.val / 8 ∧ win0_8.index t (1 : Fin 3) = 0 ∧ win0_8.index t (2 : Fin 3) = 0 :=
  (by decide +kernel : ∀ t : Fin grid0.N, _)

/-- An element of the previous sums' block is that of the batch's sums. -/
theorem l_elem (c : Dev nD) (t : Fin cfg0.N) (r : Fin 32) (i : Fin 1024) :
    iblk m c 8 t (ix3 0 r i) = (args m c).l (ix3 ⟨t.val / 8, batch_lt t⟩ r i) := by
  obtain ⟨e0, e1, e2⟩ := idx8 t
  show V m c main_arg8 (((cfg0.win 8).blk t).view.emb (ix3 0 r i)) = _
  rw [V_main_arg8]
  refine congrArg (m ((c.tc : Thread nD τ).loc main_arg8)) ?_
  funext a; apply Fin.ext
  match a with
  | ⟨0, _⟩ => show win0_8.index t (0 : Fin 3) * 1 + 1 * 0 = t.val / 8; omega
  | ⟨1, _⟩ => show win0_8.index t (1 : Fin 3) * 32 + 1 * r.val = r.val; omega
  | ⟨2, _⟩ => show win0_8.index t (2 : Fin 3) * 1024 + 1 * i.val = i.val; omega

/-- The previous sums' block, read by numbers, is the batch's sums. -/
theorem l_block (c : Dev nD) (t : Fin cfg0.N) (r i : ℕ) : at3 (iblk m c 8 t) 0 r i = at3 (args m c).l (t.val / 8) r i :=
  at3_block (batch_lt t) (l_elem m c t) r i

/-- The previous output's block is that of the grid point's batch and group. -/
theorem idx6 : ∀ t : Fin cfg0.N, win0_6.index t (0 : Fin 5) = t.val / 8 ∧ win0_6.index t (1 : Fin 5) = 0 ∧ win0_6.index t (2 : Fin 5) = t.val % 8
    ∧ win0_6.index t (3 : Fin 5) = 0 ∧ win0_6.index t (4 : Fin 5) = 0 :=
  (by decide +kernel : ∀ t : Fin grid0.N, _)

/-- The old output is regrouped before the region. -/
theorem V_main_v0 (c : Dev nD) : V m c main_v0 = shapeCast S2x1024x8x4x128 (args m c).o shapeCasts_S2x1024x32x128_S2x1024x8x4x128 := by
  show StableHlo.after hostOps0 (fun b => m (c, b)) (Proc.devRef .tc main_v0) = _
  rw [StableHlo.after_cons, StableHlo.after_nil]
  exact (StableHlo.reshape_result (Val := Elt Ideal) main_arg6 main_v0 rfl shapeCasts_S2x1024x32x128_S2x1024x8x4x128 _ _ (fun b => m (c, b))).trans rfl

/-- With the heads split into groups of four, head `h` of group `g` is head `4 g + h`. -/
theorem regroup (o : Vec Ideal S2x1024x32x128 .f32) (b : Fin 2) (i : Fin 1024) (g : Fin 8) (h : Fin 4) (d : Fin 128) :
    shapeCast S2x1024x8x4x128 o shapeCasts_S2x1024x32x128_S2x1024x8x4x128 (ix5 b i g h d) = o (ix4 b i ⟨g.val * 4 + h.val, by omega⟩ d) := by
  pointwise

/-- An element of the previous output's block is that of the batch's output, at the group's head. -/
theorem o_elem (c : Dev nD) (t : Fin cfg0.N) (i : Fin 1024) (h : Fin 4) (d : Fin 128) :
    iblk m c 6 t (ix5 0 i 0 h d) = (args m c).o (ix4 ⟨t.val / 8, batch_lt t⟩ i ⟨t.val % 8 * 4 + h.val, by omega⟩ d) := by
  obtain ⟨e0, e1, e2, e3, e4⟩ := idx6 t
  refine Eq.trans ?_ (regroup (args m c).o ⟨t.val / 8, batch_lt t⟩ i ⟨t.val % 8, by omega⟩ h d)
  show V m c main_v0 (((cfg0.win 6).blk t).view.emb (ix5 0 i 0 h d)) = _
  rw [V_main_v0]
  refine congrArg (shapeCast S2x1024x8x4x128 (args m c).o shapeCasts_S2x1024x32x128_S2x1024x8x4x128) ?_
  funext a; apply Fin.ext
  match a with
  | ⟨0, _⟩ => show win0_6.index t (0 : Fin 5) * 1 + 1 * 0 = t.val / 8; omega
  | ⟨1, _⟩ => show win0_6.index t (1 : Fin 5) * 1024 + 1 * i.val = i.val; omega
  | ⟨2, _⟩ => show win0_6.index t (2 : Fin 5) * 1 + 1 * 0 = t.val % 8; omega
  | ⟨3, _⟩ => show win0_6.index t (3 : Fin 5) * 4 + 1 * h.val = h.val; omega
  | ⟨4, _⟩ => show win0_6.index t (4 : Fin 5) * 128 + 1 * d.val = d.val; omega

/-- The previous output's block, read by numbers, is the batch's output at the group's four heads. -/
theorem o_block (c : Dev nD) (t : Fin cfg0.N) (i h d : ℕ) :
    at5 (iblk m c 6 t) 0 i 0 h d = if h < 4 then at4 (args m c).o (t.val / 8) i (4 * (t.val % 8) + h) d else 0 := by
  unfold at5 at4
  have hb := batch_lt t
  by_cases hh : h < 4
  · rw [if_pos hh]
    by_cases hc : i < 1024 ∧ d < 128
    · rw [dif_pos ⟨Nat.one_pos, hc.1, Nat.one_pos, hh, hc.2⟩, dif_pos ⟨hb, hc.1, by omega, hc.2⟩]
      refine (o_elem m c t ⟨i, hc.1⟩ ⟨h, hh⟩ ⟨d, hc.2⟩).trans ?_
      have e : (⟨t.val % 8 * 4 + h, by omega⟩ : Fin 32) = ⟨4 * (t.val % 8) + h, by omega⟩ := Fin.ext (by simp only; omega)
      rw [e]
    · rw [dif_neg fun x => hc ⟨x.2.1, x.2.2.2.2⟩, dif_neg fun x => hc ⟨x.2.1, x.2.2.2⟩]
  · rw [if_neg hh, dif_neg fun x => hh x.2.2.2.1]

end Cert.KernelIdeal.Hand
end
-- ==== Proof.Tile.lean ====
/- The body's tiles, read at one element: the statistics spread over the lanes, the scores, their maxima, the weights. -/
module

public import proofs.«01_k».proof.Proof.Lanes
public import Idealize.ShloMosaic.Lib.ValueLayout
public import Idealize.ShloMosaic.Lib.MatmulPlain

@[expose] public section

noncomputable section

namespace RingStep

open Idealize.ShloMosaic

/-- A tile holds, at each lane, the value of the lane's head and token; its tokens start at `d0`. -/
def Holds (x : Tile Ideal) (f : ℕ → ℕ → EReal) (d0 : ℕ) : Prop :=
  ∀ (s : Fin 8) (l : Fin 128), x (ix2 s l) = f (l.val % 4) (d0 + l.val / 4)

/-- The statistics of half a block. -/
theorem stateRowVal_eq (X : Vec Ideal (M3 1 32 1024) .f32) (g : ℕ) (hg : g < 8) (a : ℕ) (ha : a < 16) (hf : ℕ) (hhf : hf < 2) :
    Holds (stateRowVal X g hg a ha hf) (fun h i => at3 X 0 (4 * g + h) i) (64 * a + 32 * hf) := by
  intro s l
  have e0 : ∀ s' : Fin 8, addi headOfLane (broadcast (M2 8 128) (BitVec.ofNat 32 (4 * (g % 2)))) (ix2 s' l)
      = BitVec.ofNat 32 (l.val % 4 + 4 * (g % 2)) := by
    intro s'; pointwise; rw [headOfLane_eq]; simp [IntOp.addi, BitVec.ofNat_add]
  have e1 : ∀ s' : Fin 8, addi (broadcast (M2 8 128) (BitVec.ofNat 32 (64 * (a % 2) + 32 * hf))) tokOfLane (ix2 s' l)
      = BitVec.ofNat 32 (64 * (a % 2) + 32 * hf + l.val / 4) := by
    intro s'; pointwise; rw [tokOfLane_eq]; simp [IntOp.addi, BitVec.ofNat_add]
  unfold stateRowVal
  rw [gather0, gather1]
  simp only [wrapIx_eq _ _ _ _ _ (by omega) (e0 _), wrapIx_eq _ _ _ _ _ (by omega) (e1 _)]
  pointwise
  rw [blk_f32, blk3]
  congr 1
  · simp only [BitVec.toNat_ofNat]; omega
  · simp only [BitVec.toNat_ofNat]; omega

/-- One value per head, over the lanes. -/
theorem perLane_eq (f : ℕ → EReal) (s : Fin 8) (l : Fin 128) : perLane (F := Ideal) f (ix2 s l) = f (l.val % 4) := by
  unfold perLane
  pointwise
  rw [headOfLane_eq]
  have h4 : l.val % 4 < 4 := Nat.mod_lt _ (by norm_num)
  generalize l.val % 4 = h at h4
  interval_cases h <;> rfl

/-- The absolute value of an element that is not negative. -/
theorem absf_eq (x : Tile Ideal) (j) (h : 0 ≤ x j) : absf x j = x j := by
  show max (x j) (-(x j)) = x j
  exact max_eq_left ((EReal.neg_le_neg_iff.mpr h).trans (by simpa using h))

/-- The sign of a factor that is not negative. -/
theorem signOf_eq (f : EReal) (h : 0 ≤ f) : signOf (F := Ideal) f = (1 : EReal) := by
  unfold signOf
  have e : Scalar.cmpf (F := Ideal) (φ := .f32) .olt f (Scalar.ofBits .f32 0x00000000#32) = BitVec.ofBool (decide (f < Ideal.ofBits .f32 0x00000000#32)) := rfl
  rw [e, ofBits_zero, decide_eq_false (not_lt.mpr h)]
  show Ideal.ofBits .f32 0x3F800000#32 = 1
  exact ofBits_one

/-- A matrix of one number per head, where the number is the same for all. -/
theorem perRow_eq (f : ℕ → EReal) (c : EReal) (h : ∀ i, f i = c) (j) : perRow (F := Ideal) f j = c := by
  unfold perRow
  idx_vars j
  pointwise
  simp only [h, Scalar.select]
  split_ifs <;> rfl

/-- An element of the product of keys and queries. -/
theorem matmulT_eq (n : ℕ) (A : FVec Ideal (M2 n 128) .fp8e4m3) (B : FVec Ideal (M2 256 128) .fp8e4m3) (j : Fin n) (col : Fin 256) :
    matmul (DotDims.transposedRhs n 128 256) none A B (constant (M2 n 256) .f32 0x00000000#32) (ix2 j col)
      = ∑ d : Fin 128, (A (ix2 j d) * B (ix2 col d) : EReal) := by
  pointwise
/-- An element of the product of transposed values and weights. -/
theorem matmul_eq (n : ℕ) (A : FVec Ideal (M2 128 n) .fp8e4m3) (B : FVec Ideal (M2 n 256) .fp8e4m3) (d : Fin 128) (col : Fin 256) :
    matmul (DotDims.plain 128 n 256) none A B (constant (M2 128 256) .f32 0x00000000#32) (ix2 d col)
      = ∑ j : Fin n, (A (ix2 d j) * B (ix2 j col) : EReal) := by
  refine (Ideal.matmul_plain_apply none A B _ d col).trans ?_
  show Ideal.ofBits .f32 0x00000000#32 + _ = _
  rw [ofBits_zero, zero_add]
  rfl

/-- A leading axis of length one dropped. -/
theorem cast32 {α : Type} {a b : ℕ} (x : (M3 1 a b).Idx → α) (h) (i : Fin a) (j : Fin b) :
    shapeCast (M2 a b) x h (ix2 i j) = x (ix3 0 i j) := ValueIdx.shapeCast_1ab_ab_apply x h i j
/-- A leading axis of length one added. -/
theorem cast23 {α : Type} {a b : ℕ} (x : (M2 a b).Idx → α) (h) (k : Fin 1) (i : Fin a) (j : Fin b) :
    shapeCast (M3 1 a b) x h (ix3 k i j) = x (ix2 i j) := ValueIdx.shapeCast_ab_1ab_apply x h k i j

/-- Row `r` of a block's queries is head `r % 4` of token `r / 4`. -/
theorem qcast (x : (⟨4, ![1, 64, 4, 128]⟩ : Shape).Idx → EReal) (h1 h2) (r : Fin 256) (d : Fin 128) :
    shapeCast (M2 256 128) (shapeCast (M3 64 4 128) x h1) h2 (ix2 r d) = x (ix4 0 ⟨r.val / 4, by omega⟩ ⟨r.val % 4, by omega⟩ d) := by
  pointwise

/-- The scores of a block. -/
theorem scoreMat_eq (q : Vec Ideal ⟨4, ![1, 1024, 32, 128]⟩ .fp8e4m3) (kg : Vec Ideal (M3 8 1024 128) .fp8e4m3) (g : ℕ) (hg : g < 8)
    (sg : FVec Ideal (M2 256 128) .f32) (hsg : ∀ j, sg j = (1 : EReal)) (a : ℕ) (ha : a < 16) (j : Fin (64 * (a + 1))) (col : Fin 256) :
    scoreMat q kg g hg sg a ha (ix2 j col)
      = ∑ d : Fin 128, at4 q 0 (64 * a + col.val / 4) (4 * g + col.val % 4) d.val * at3 kg g j.val d.val := by
  unfold scoreMat
  rw [matmulT_eq]
  refine Finset.sum_congr rfl fun d _ => ?_
  rw [cast32, blk_fp8, blk3, mul_comm]
  congr 1
  · show (shapeCast (M2 256 128) (shapeCast (M3 64 4 128) (blkE q ![0, 64 * a, 4 * g, 0] ![1, 64, 4, 128]
      (inb4 (by omega) (by omega) (by omega) (by omega))) (by decide)) (by decide) (ix2 col d) * sg (ix2 col d) : EReal) = _
    rw [hsg, mul_one, qcast, blk4]
    congr 1 <;> simp
  · congr 1 <;> simp

/-- The product of the weights with the values. -/
theorem pvMat_eq (vt : Vec Ideal (M3 8 128 1024) .fp8e4m3) (p : Vec Ideal (M3 2 1024 256) .fp8e4m3) (g : ℕ) (hg : g < 8) (a : ℕ) (ha : a < 16)
    (d : Fin 128) (col : Fin 256) :
    pvMat vt p g hg a ha (ix2 d col)
      = ∑ j ∈ Finset.range (64 * (a + 1)), at3 vt g d.val j * at3 p (a % 2) j col.val := by
  unfold pvMat
  rw [matmul_eq, Finset.sum_range]
  refine Finset.sum_congr rfl fun j _ => ?_
  rw [cast32, cast32, blk_fp8, blk_fp8, blk3, blk3]
  congr 2 <;> simp

/-- A tile masked past the diagonal. -/
theorem masked_eq (d0 k0 : ℕ) (hd : d0 % 8 = 0) (hk : k0 % 8 = 0) (hk0 : k0 < 1024) (x : Tile Ideal) (s : Fin 8) (l : Fin 128) :
    masked d0 k0 x (ix2 s l) = if k0 + s.val ≤ d0 + l.val / 4 then x (ix2 s l) else ⊥ := by
  unfold masked
  split
  · rename_i h
    unfold negInf
    pointwise
    rw [diag_eq _ (by omega)]
    have e : (8 * ((k0 - d0) / 8) + s.val ≤ l.val / 4) ↔ (k0 + s.val ≤ d0 + l.val / 4) := by omega
    by_cases h' : k0 + s.val ≤ d0 + l.val / 4
    · rw [if_pos h', decide_eq_true (e.mpr h')]; rfl
    · rw [if_neg h', decide_eq_false (fun x => h' (e.mp x))]; exact ofBits_neginf
  · rename_i h
    rw [if_pos (by omega)]

/-- The maxima over a half's tiles. -/
theorem maxTo_eq (n d0 hf : ℕ) (hhf : hf < 2) (s : FVec Ideal (M2 n 256) .f32) (f : ℕ → ℕ → EReal)
    (hs : ∀ (j : Fin n) (col : Fin 256), s (ix2 j col) = f j.val col.val) (hn : n ≤ 1024) (hd : d0 % 8 = 0) (sub : Fin 8) (l : Fin 128) :
    ∀ (t : ℕ) (h : 8 * t ≤ n), maxTo n d0 hf hhf s t h (ix2 sub l)
      = (Finset.range t).sup fun u => if 8 * u + sub.val ≤ d0 + l.val / 4 then f (8 * u + sub.val) (128 * hf + l.val) else ⊥
  | 0, h => by
    show negInf (F := Ideal) _ = _
    simp only [Finset.range_zero, Finset.sup_empty]
    exact ofBits_neginf
  | t + 1, h => by
    rw [Finset.range_add_one, Finset.sup_insert, ← maxTo_eq n d0 hf hhf s f hs hn hd sub l t (by omega), sup_comm]
    show max _ _ = max _ _
    congr 1
    rw [masked_eq _ _ hd (by omega) (by omega)]
    congr 1
    pointwise
    exact hs _ _

/-- A tile with its rows rotated. -/
theorem rotate_eq (n : ℕ) (hn : n < 8) (x : Tile Ideal) (h) (s : Fin 8) (l : Fin 128) :
    dynamicRotate 0 (BitVec.ofNat 32 n) none x h (ix2 s l) = x (ix2 ⟨(s.val + (8 - n)) % 8, Nat.mod_lt _ (by norm_num)⟩ l) := by
  pointwise
  congr 2
  apply Fin.ext
  simp only [BitVec.toNat_ofNat]
  omega

/-- A reduction over the eight rows: their maximum, -/
theorem allmax_eq (x : Tile Ideal) (s : Fin 8) (l : Fin 128) :
    allreduce maximumf x (ix2 s l) = Finset.univ.sup fun u : Fin 8 => x (ix2 u l) := by
  unfold allreduce
  simp only [maximumf_apply, rotate_eq 4 (by omega), rotate_eq 2 (by omega), rotate_eq 1 (by omega), Ideal.maximumf_def]
  rw [show (Finset.univ : Finset (Fin 8)) = {0, 1, 2, 3, 4, 5, 6, 7} from rfl]
  simp only [Finset.sup_insert, Finset.sup_singleton, at2_eq]
  generalize at2 x = y
  fin_cases s <;> simp <;> ac_rfl

/-- and their sum. -/
theorem allsum_eq (x : Tile Ideal) (s : Fin 8) (l : Fin 128) :
    allreduce addf x (ix2 s l) = ∑ u : Fin 8, (x (ix2 u l) : EReal) := by
  unfold allreduce
  simp only [addf_apply, rotate_eq 4 (by omega), rotate_eq 2 (by omega), rotate_eq 1 (by omega), Ideal.addf_def]
  rw [Fin.sum_univ_eight]
  simp only [at2_eq]
  generalize at2 x = y
  fin_cases s <;> simp <;> ac_rfl

end RingStep
end
-- ==== Proof.Half.lean ====
/- Half a block's weights and statistics: what the body's arithmetic computes is what `Data` says. -/
module

public import proofs.«01_k».proof.Proof.Tile

@[expose] public section

noncomputable section

namespace RingStep

open Idealize.ShloMosaic Idealize.SL.Sem

/-- The value of the constant log2(e). -/
abbrev L2E : EReal := (((Real.log 2)⁻¹ : ℝ) : EReal)

/-- The buffers of a step on group `g` hold `D`'s operands. -/
structure Reads (D : Data) (g : ℕ) (σ : St Ideal) : Prop where
  m : ∀ h i, h < 4 → at3 σ.mi 0 (4 * g + h) i = D.m h i
  l : ∀ h i, h < 4 → at3 σ.li 0 (4 * g + h) i = D.l h i
  q : ∀ i h d, h < 4 → at4 σ.q 0 i (4 * g + h) d = D.q i h d
  o : ∀ i h d, at5 σ.oi 0 i 0 h d = D.o i h d
  k : ∀ j d, j < 1024 → d < 128 → at3 σ.kg g j d = D.k j d
  v : ∀ j d, j < 1024 → d < 128 → at3 σ.vt g d j = D.v j d

/-- A tile holds, row by row, the maxima of the scores of half `hf` of block `a` up to the diagonal. -/
def MaxOf (D : Data) (a hf : ℕ) (mx : Tile Ideal) : Prop :=
  ∀ (s : Fin 8) (l : Fin 128), mx (ix2 s l) = (Finset.range (8 * a + 4 + 4 * hf)).sup fun u =>
    if 8 * u + s.val ≤ 64 * a + 32 * hf + l.val / 4 then D.score (64 * a + 32 * hf + l.val / 4) (l.val % 4) (8 * u + s.val) else ⊥

/-- A buffer of scores holds block `a`'s in its slot. -/
def ScoresIn (D : Data) (a : ℕ) (s : Vec Ideal (M3 2 1024 256) .f32) : Prop :=
  ∀ j col, j < 64 * (a + 1) → col < 256 → at3 s (a % 2) j col = D.score (64 * a + col / 4) (col % 4) j

variable {D : Data} {g : ℕ} {σ : St Ideal}

/-- The scores of a block. -/
theorem Reads.scoreMat (hr : Reads D g σ) (hg : g < 8) (sg : FVec Ideal (M2 256 128) .f32) (hsg : ∀ j, sg j = (1 : EReal)) (a : ℕ) (ha : a < 16)
    (j : Fin (64 * (a + 1))) (col : Fin 256) :
    RingStep.scoreMat σ.q σ.kg g hg sg a ha (ix2 j col) = D.score (64 * a + col.val / 4) (col.val % 4) j.val := by
  rw [scoreMat_eq _ _ _ _ _ hsg]
  refine Finset.sum_congr rfl fun d _ => ?_
  rw [hr.q _ _ _ (Nat.mod_lt _ (by norm_num)), hr.k _ _ (by omega) d.2]

/-- Their maxima. -/
theorem scoreMax_eq (a : ℕ) (ha : a < 16) (s : FVec Ideal (M2 (64 * (a + 1)) 256) .f32)
    (hs : ∀ j col, s (ix2 j col) = D.score (64 * a + col.val / 4) (col.val % 4) j.val) :
    MaxOf D a 0 (scoreMax a s).1 ∧ MaxOf D a 1 (scoreMax a s).2 := by
  constructor
  · intro sub l
    refine (maxTo_eq _ _ 0 (by omega) s (fun j col => D.score (64 * a + col / 4) (col % 4) j) hs (by omega) (by omega) sub l _ _).trans ?_
    refine Finset.sup_congr rfl fun u _ => ?_
    rw [show 64 * a + (128 * 0 + l.val) / 4 = 64 * a + 32 * 0 + l.val / 4 by omega, show (128 * 0 + l.val) % 4 = l.val % 4 by omega]
    rfl
  · intro sub l
    refine (maxTo_eq _ _ 1 (by omega) s (fun j col => D.score (64 * a + col / 4) (col % 4) j) hs (by omega) (by omega) sub l _ _).trans ?_
    refine Finset.sup_congr rfl fun u _ => ?_
    rw [show 64 * a + (128 * 1 + l.val) / 4 = 64 * a + 32 * 1 + l.val / 4 by omega, show (128 * 1 + l.val) % 4 = l.val % 4 by omega]

/-- A matrix with a leading axis of length one, read by numbers, is the matrix. -/
theorem at3_cast {a b : ℕ} (w : (M2 a b).Idx → EReal) (h) (j k : ℕ) (hj : j < a) (hk : k < b) :
    at3 (shapeCast (M3 1 a b) w h) 0 j k = at2 w j k := by
  unfold at3 at2
  rw [dif_pos ⟨by omega, hj, hk⟩, dif_pos ⟨hj, hk⟩]
  exact cast23 w h _ _ _

/-- The buffer of scores with a block's stored holds them. -/
theorem putScores_eq (s : Vec Ideal (M3 2 1024 256) .f32) (a : ℕ) (ha : a < 16) (w : FVec Ideal (M2 (64 * (a + 1)) 256) .f32)
    (e j col : ℕ) (he : e < 2) (hj : j < 1024) (hc : col < 256) :
    at3 (putScores s a ha w) e j col = if e = a % 2 ∧ j < 64 * (a + 1) then at2 w j col else at3 s e j col := by
  unfold putScores
  rw [upd_f32, upd3 _ _ _ _ _ _ _ _ _ _ _ _ he hj hc]
  by_cases h : e = a % 2 ∧ j < 64 * (a + 1)
  · rw [if_pos h, if_pos (by omega), ← at3_cast w casts2 j col h.2 hc]
    congr 1; omega
  · rw [if_neg h, if_neg (by omega)]

/-- The incoming statistics of half a block, spread over a tile. -/
theorem Reads.mRow (hr : Reads D g σ) (hg : g < 8) (a : ℕ) (ha : a < 16) (hf : ℕ) (hhf : hf < 2) :
    Holds (stateRowVal σ.mi g hg a ha hf) D.m (64 * a + 32 * hf) :=
  fun s l => (stateRowVal_eq σ.mi g hg a ha hf hhf s l).trans (hr.m _ _ (Nat.mod_lt _ (by norm_num)))
/-- The row of previous sums that a half block reads holds its tokens' previous sums. -/
theorem Reads.lRow (hr : Reads D g σ) (hg : g < 8) (a : ℕ) (ha : a < 16) (hf : ℕ) (hhf : hf < 2) :
    Holds (stateRowVal σ.li g hg a ha hf) D.l (64 * a + 32 * hf) :=
  fun s l => (stateRowVal_eq σ.li g hg a ha hf hhf s l).trans (hr.l _ _ (Nat.mod_lt _ (by norm_num)))

/-- The new maximum. -/
theorem newMax_eq (hr : Reads D g σ) (hg : g < 8) (a : ℕ) (ha : a < 16) (hf : ℕ) (hhf : hf < 2) (fac mx : Tile Ideal)
    (hfac : ∀ s l, fac (ix2 s l) = D.fac (l.val % 4)) (hpos : ∀ h, h < 4 → 0 ≤ D.fac h) (hmx : MaxOf D a hf mx) :
    Holds (newMax σ.mi g hg a ha hf fac mx) D.max (64 * a + 32 * hf) := by
  intro s l
  have h4 : l.val % 4 < 4 := Nat.mod_lt _ (by norm_num)
  show max (stateRowVal σ.mi g hg a ha hf (ix2 s l)) (allreduce maximumf mx (ix2 s l) * fac (ix2 s l) : EReal) = _
  rw [hr.mRow hg a ha hf hhf s l, allmax_eq, hfac]
  simp only [hmx _ l]
  rw [sup_rows (fun j => if j ≤ 64 * a + 32 * hf + l.val / 4 then D.score (64 * a + 32 * hf + l.val / 4) (l.val % 4) j else ⊥),
    sup_masked _ _ (by omega), sup_mul _ _ _ (hpos _ h4)]
  rfl

/-- One tile of weights. -/
theorem weightTile_eq (s : Vec Ideal (M3 2 1024 256) .f32) (a : ℕ) (ha : a < 16) (hf : ℕ) (hhf : hf < 2) (c1 m2 : Tile Ideal) (k0 : ℕ)
    (hk : k0 + 8 ≤ 1024) (hk8 : k0 % 8 = 0) (hk' : k0 + 8 ≤ 64 * (a + 1)) (hs : ScoresIn D a s)
    (hc1 : ∀ s l, c1 (ix2 s l) = D.fac (l.val % 4) * L2E)
    (hm2 : ∀ s l, m2 (ix2 s l) = D.max (l.val % 4) (64 * a + 32 * hf + l.val / 4) * L2E - ((8 : ℝ) : EReal)) (sub : Fin 8) (l : Fin 128) :
    weightTile s a ha hf hhf c1 m2 k0 hk (ix2 sub l)
      = D.prob (64 * a + 32 * hf + l.val / 4) (l.val % 4) (k0 + sub.val) * ((256 : ℝ) : EReal) := by
  unfold weightTile
  show Ideal.exp2 (masked (F := Ideal) (64 * a + 32 * hf) k0 _ (ix2 sub l)) = _
  rw [masked_eq _ _ (by omega) hk8 (by omega)]
  unfold Data.prob
  split
  · show Ideal.exp2 (shapeCast (M2 8 128) (blkE s ![a % 2, k0, 128 * hf] ![1, 8, 128] (inb3 (by omega) (by omega) (by omega))) (by decide)
      (ix2 sub l) * c1 (ix2 sub l) - m2 (ix2 sub l) : EReal) = _
    rw [cast32, blk3, hc1, hm2, show a % 2 + ((0 : Fin 1) : ℕ) = a % 2 from rfl, hs _ _ (by omega) (by omega),
      show 64 * a + (128 * hf + l.val) / 4 = 64 * a + 32 * hf + l.val / 4 by omega, show (128 * hf + l.val) % 4 = l.val % 4 by omega,
      ← mul_assoc, exp2_eq]
  · simp

/-- Four tiles one above the other. -/
theorem stack4_eq (p0 p1 p2 p3 : Tile Ideal) (f : ℕ → ℕ → EReal) (h0 : ∀ s l, p0 (ix2 s l) = f s.val l.val)
    (h1 : ∀ s l, p1 (ix2 s l) = f (8 + s.val) l.val) (h2 : ∀ s l, p2 (ix2 s l) = f (16 + s.val) l.val)
    (h3 : ∀ s l, p3 (ix2 s l) = f (24 + s.val) l.val) (r : Fin 32) (l : Fin 128) : stack4 p0 p1 p2 p3 (ix2 r l) = f r.val l.val := by
  unfold stack4
  pointwise
  split
  · exact h0 _ l
  split
  · exact (h1 _ l).trans (congrArg (f · l.val) (show 8 + (r.val - 8) = r.val by omega))
  split
  · exact (h2 _ l).trans (congrArg (f · l.val) (show 16 + (r.val - 8 - 8) = r.val by omega))
  · exact (h3 _ l).trans (congrArg (f · l.val) (show 24 + (r.val - 8 - 8 - 8) = r.val by omega))

/-- The buffer of weights with thirty-two rows stored. -/
theorem putWeights_eq (p : Vec Ideal (M3 2 1024 256) .fp8e4m3) (a : ℕ) (ha : a < 16) (hf : ℕ) (hhf : hf < 2) (b : ℕ) (hb : b < 2 * a + 2)
    (w : FVec Ideal (M2 32 128) .fp8e4m3) (e j col : ℕ) (he : e < 2) (hj : j < 1024) (hc : col < 256) :
    at3 (putWeights p a ha hf hhf b hb w) e j col
      = if e = a % 2 ∧ (32 * b ≤ j ∧ j < 32 * b + 32) ∧ (128 * hf ≤ col ∧ col < 128 * hf + 128) then at2 w (j - 32 * b) (col - 128 * hf)
        else at3 p e j col := by
  unfold putWeights
  rw [upd_fp8, upd3 _ _ _ _ _ _ _ _ _ _ _ _ he hj hc]
  by_cases h : e = a % 2 ∧ (32 * b ≤ j ∧ j < 32 * b + 32) ∧ (128 * hf ≤ col ∧ col < 128 * hf + 128)
  · rw [if_pos h, if_pos (by omega), ← at3_cast w (by decide) _ _ (by omega) (by omega)]
    congr 1; omega
  · rw [if_neg h, if_neg (by omega)]

/-- The new sum. -/
theorem newSum_eq (hr : Reads D g σ) (hg : g < 8) (a : ℕ) (ha : a < 16) (hf : ℕ) (hhf : hf < 2) (alpha acc : Tile Ideal)
    (halpha : Holds alpha D.alpha (64 * a + 32 * hf))
    (hacc : ∀ s l, acc (ix2 s l) = ∑ t ∈ Finset.range (4 * (2 * a + 2)),
      D.prob (64 * a + 32 * hf + l.val / 4) (l.val % 4) (8 * t + s.val) * ((256 : ℝ) : EReal)) :
    Holds (newSum σ.li g hg a ha hf alpha acc) D.sum (64 * a + 32 * hf) := by
  intro s l
  show (alpha (ix2 s l) * stateRowVal σ.li g hg a ha hf (ix2 s l) + allreduce addf acc (ix2 s l) * Ideal.ofBits .f32 0x3B800000#32 : EReal) = _
  rw [hr.lRow hg a ha hf hhf s l, allsum_eq, halpha, ofBits_inv256]
  simp only [hacc _ l]
  rw [sum_rows (fun j => D.prob (64 * a + 32 * hf + l.val / 4) (l.val % 4) j * ((256 : ℝ) : EReal)),
    sum_mul _ _ (D.prob_nonneg _ _) _ (by norm_num), mul_256,
    D.sum_prob _ _ _ (by omega) (by omega) (fun _ x => x) (fun _ => rfl)]
  rfl

variable {nD : ℕ} {τ : Topo} {sig : RefSig} {Λ : Labels}
variable {defs : Defs nD τ sig (Elt Ideal) Λ} {𝒱 : Variants} {bd : Option 𝒱.V} {E : Set ℕ} {R : Refs sig} {c : Dev nD}

/-- The weights of half `hf` of block `a`, in the buffer's slot. -/
def WeightsIn (D : Data) (a hf : ℕ) (p : Vec Ideal (M3 2 1024 256) .fp8e4m3) (n : ℕ) : Prop :=
  ∀ j l, j < n → l < 128 → at3 p (a % 2) j (128 * hf + l) = D.prob (64 * a + 32 * hf + l / 4) (l % 4) j * ((256 : ℝ) : EReal)

/-- The other half's weights are as they were. -/
def OtherKept (a hf : ℕ) (p p' : Vec Ideal (M3 2 1024 256) .fp8e4m3) : Prop :=
  ∀ j col, j < 1024 → col < 256 → ¬ (128 * hf ≤ col ∧ col < 128 * hf + 128) → at3 p' (a % 2) j col = at3 p (a % 2) j col

/-- Half a block: the weights are stored, the new statistics and the factor of the old ones returned. -/
theorem T.halfVal (hr : Reads D g σ) {hg : g < 8} {a : ℕ} {ha : a < 16} {hf : ℕ} {hhf : hf < 2} {fac mx : Tile Ideal}
    (hfac : ∀ s l, fac (ix2 s l) = D.fac (l.val % 4)) (hpos : ∀ h, h < 4 → 0 ≤ D.fac h) (hmx : MaxOf D a hf mx) (hs : ScoresIn D a σ.s) :
    T defs 𝒱 bd E R c (RingStep.half R g hg a ha hf hhf L2E fac mx) (fun x σ' => ∃ p', σ' = { σ with p := p' }
      ∧ WeightsIn D a hf p' (64 * (a + 1)) ∧ OtherKept a hf σ.p p'
      ∧ Holds x.1 D.max (64 * a + 32 * hf) ∧ Holds x.2.1 D.sum (64 * a + 32 * hf) ∧ Holds x.2.2 D.alpha (64 * a + 32 * hf)) σ := by
  have hM := newMax_eq hr hg a ha hf hhf fac mx hfac hpos hmx
  have hA : Holds (alphaOf σ.mi g hg a ha hf (newMax σ.mi g hg a ha hf fac mx)) D.alpha (64 * a + 32 * hf) := by
    intro s l
    show Ideal.exp (stateRowVal σ.mi g hg a ha hf (ix2 s l) - newMax σ.mi g hg a ha hf fac mx (ix2 s l)) = _
    rw [hr.mRow hg a ha hf hhf s l, hM s l]
    rfl
  have hc1 : ∀ s l, coeffOf L2E fac (ix2 s l) = D.fac (l.val % 4) * L2E := fun s l => by
    show (fac (ix2 s l) * L2E : EReal) = _
    rw [hfac]
  have hm2 : ∀ s l, offsetOf L2E (newMax σ.mi g hg a ha hf fac mx) (ix2 s l)
      = D.max (l.val % 4) (64 * a + 32 * hf + l.val / 4) * L2E - ((8 : ℝ) : EReal) := fun s l => by
    show (newMax σ.mi g hg a ha hf fac mx (ix2 s l) * L2E - Ideal.ofBits .f32 0x41000000#32 : EReal) = _
    rw [hM s l, ofBits_8]
  refine T.half (fun b x σ' => ∃ p', σ' = { σ with p := p' } ∧ WeightsIn D a hf p' (32 * b) ∧ OtherKept a hf σ.p p'
    ∧ ∀ s l, x (ix2 s l) = ∑ t ∈ Finset.range (4 * b),
      D.prob (64 * a + 32 * hf + l.val / 4) (l.val % 4) (8 * t + s.val) * ((256 : ℝ) : EReal)) ?_ ?_ ?_ ?_
  · refine ⟨σ.p, rfl, fun j l hj _ => absurd hj (by omega), fun _ _ _ _ _ => rfl, fun s l => ?_⟩
    show Ideal.ofBits .f32 0x00000000#32 = _
    rw [ofBits_zero]; simp
  · rintro b hb x σ' ⟨p', rfl, hw, ho, hx⟩
    have hput : ∀ w : FVec Ideal (M2 32 128) .fp8e4m3, (∀ r l, w (ix2 r l)
        = D.prob (64 * a + 32 * hf + l.val / 4) (l.val % 4) (32 * b + r.val) * ((256 : ℝ) : EReal)) →
        WeightsIn D a hf (putWeights p' a ha hf hhf b hb w) (32 * (b + 1)) ∧ OtherKept a hf σ.p (putWeights p' a ha hf hhf b hb w) := by
      intro w hw'
      refine ⟨fun j l hj hl => ?_, fun j col hj hc hn => ?_⟩
      · rw [putWeights_eq _ _ _ _ _ _ _ _ _ _ _ (by omega) (by omega) (by omega)]
        by_cases h : 32 * b ≤ j
        · rw [if_pos (by omega)]
          have := hw' ⟨j - 32 * b, by omega⟩ ⟨l, hl⟩
          rw [at2_eq w] at this
          rw [show 128 * hf + l - 128 * hf = l by omega, this]
          simp only
          rw [show 32 * b + (j - 32 * b) = j by omega]
        · rw [if_neg (by omega), hw _ _ (by omega) hl]
      · rw [putWeights_eq _ _ _ _ _ _ _ _ _ _ _ (by omega) (by omega) (by omega), if_neg (by omega), ho _ _ hj hc hn]
    refine .wblock (fun h => ?_) (fun h => ?_)
    · have hz : ∀ (l : Fin 128) j, 32 * b ≤ j → D.prob (64 * a + 32 * hf + l.val / 4) (l.val % 4) j = 0 := fun l j hj => by
        rw [Data.prob, if_neg (by omega)]
      obtain ⟨h1, h2⟩ := hput zero8 fun r l => by
        rw [hz l _ (by omega), zero_mul]; exact ofBits_zero8
      refine ⟨_, rfl, h1, h2, fun s l => ?_⟩
      rw [hx, Nat.mul_succ, Finset.sum_range_add, Finset.sum_eq_zero (s := Finset.range 4) fun u _ => by rw [hz l _ (by omega), zero_mul], add_zero]
    · have hW := fun i (hi : 32 * b + i + 8 ≤ 1024) (h8 : i % 8 = 0) (h24 : i ≤ 24) (s : Fin 8) (l : Fin 128) =>
        weightTile_eq σ.s a ha hf hhf (coeffOf L2E fac) (offsetOf L2E (newMax σ.mi g hg a ha hf fac mx)) (32 * b + i) hi (by omega) (by omega) hs hc1 hm2 s l
      set w := fun i (hi : 32 * b + i + 8 ≤ 1024) =>
        weightTile σ.s a ha hf hhf (coeffOf L2E fac) (offsetOf L2E (newMax σ.mi g hg a ha hf fac mx)) (32 * b + i) hi with hw_def
      obtain ⟨h1, h2⟩ := hput (stack4 (w 0 (by omega)) (w 8 (by omega)) (w 16 (by omega)) (w 24 (by omega))) fun r l =>
        stack4_eq (w 0 (by omega)) (w 8 (by omega)) (w 16 (by omega)) (w 24 (by omega))
        (fun r l => D.prob (64 * a + 32 * hf + l / 4) (l % 4) (32 * b + r) * ((256 : ℝ) : EReal))
        (fun s l => hW 0 (by omega) rfl (by omega) s l) (fun s l => (hW 8 (by omega) rfl (by omega) s l).trans (by simp only [Nat.add_assoc]))
        (fun s l => (hW 16 (by omega) rfl (by omega) s l).trans (by simp only [Nat.add_assoc])) (fun s l => (hW 24 (by omega) rfl (by omega) s l).trans (by simp only [Nat.add_assoc])) r l
      refine ⟨_, rfl, h1, h2, fun s l => ?_⟩
      show (x (ix2 s l) + weightTile σ.s a ha hf hhf _ _ (32 * b + 0) _ (ix2 s l) + weightTile σ.s a ha hf hhf _ _ (32 * b + 8) _ (ix2 s l)
        + weightTile σ.s a ha hf hhf _ _ (32 * b + 16) _ (ix2 s l) + weightTile σ.s a ha hf hhf _ _ (32 * b + 24) _ (ix2 s l) : EReal) = _
      rw [hx, hW 0 _ rfl (by omega), hW 8 _ rfl (by omega), hW 16 _ rfl (by omega), hW 24 _ rfl (by omega), Nat.mul_succ, Finset.sum_range_succ,
        Finset.sum_range_succ, Finset.sum_range_succ, Finset.sum_range_succ]
      rw [show 8 * (4 * b) + s.val = 32 * b + 0 + s.val by omega, show 8 * (4 * b + 1) + s.val = 32 * b + 8 + s.val by omega,
        show 8 * (4 * b + 2) + s.val = 32 * b + 16 + s.val by omega, show 8 * (4 * b + 3) + s.val = 32 * b + 24 + s.val by omega]
  · rintro x σ' ⟨p', rfl, hw, ho, hx⟩ _
    exact ⟨p', rfl, by rwa [show 32 * (2 * a + 2) = 64 * (a + 1) by omega] at hw, ho, hM, newSum_eq hr hg a ha hf hhf _ _ hA hx, hA⟩
  · rintro x σ' ⟨p', rfl, -⟩
    rfl

end RingStep
end
-- ==== Proof.Block.lean ====
/- One block of tokens, and a pair of them: the outgoing rows and the statistics stored are what `Data` says. -/
module

public import proofs.«01_k».proof.Proof.Half

@[expose] public section

noncomputable section

namespace RingStep

open Idealize.ShloMosaic Idealize.SL.Sem

/-! ## The outgoing rows -/

/-- Row `4 i + h` of a group's previous output is head `h` of token `i`. -/
theorem rows_eq (o : Vec Ideal ⟨5, ![1, 1024, 1, 4, 128]⟩ .f32) (n d : ℕ) (hn : n < 4096) (hd : d < 128) :
    at2 (rows o) n d = at5 o 0 (n / 4) 0 (n % 4) d := by
  unfold at2 at5
  rw [dif_pos ⟨hn, hd⟩, dif_pos ⟨by omega, by omega, by omega, by omega, hd⟩]
  unfold rows
  pointwise
/-- Head `h` of token `i` is row `4 i + h`. -/
theorem unrows_eq (w : Vec Ideal (M2 4096 128) .f32) (i h d : ℕ) (hi : i < 1024) (hh : h < 4) (hd : d < 128) :
    at5 (unrows w) 0 i 0 h d = at2 w (4 * i + h) d := by
  unfold at2 at5
  rw [dif_pos ⟨by omega, hi, by omega, hh, hd⟩, dif_pos ⟨by omega, hd⟩]
  unfold unrows
  rw [Shape.reshapeEquiv_symm]
  pointwise
  congr 2
  apply Fin.ext
  simp only
  omega

/-- The rows of half a block. -/
theorem outVal_eq (oi : Vec Ideal ⟨5, ![1, 1024, 1, 4, 128]⟩ .f32) (a : ℕ) (ha : a < 16) (hf : ℕ) (hhf : hf < 2) (vs : EReal) (alpha : Tile Ideal)
    (pv : FVec Ideal (M2 128 256) .f32) (r d : Fin 128) :
    outVal oi a ha hf hhf vs alpha pv (ix2 r d)
      = (alpha (ix2 0 r) * at5 oi 0 (64 * a + 32 * hf + r.val / 4) 0 (r.val % 4) d.val + vs * at2 pv d.val (128 * hf + r.val) : EReal) := by
  have e : blk (rows oi) ![256 * a + 128 * hf, 0] ![128, 128] (inb2 (by omega) (by omega)) (ix2 r d)
      = at5 oi 0 (64 * a + 32 * hf + r.val / 4) 0 (r.val % 4) d.val := by
    rw [blk_f32, blk2, rows_eq _ _ _ (by omega) (by omega)]
    congr 1 <;> omega
  unfold outVal
  rw [← e]
  generalize blk (rows oi) ![256 * a + 128 * hf, 0] ![128, 128] (inb2 (by omega) (by omega)) = B
  pointwise
  rw [at2_eq pv]

/-- Storing a half block's rows of output changes the 32 tokens of that half block and no others. -/
theorem putOut_eq (oo : Vec Ideal ⟨5, ![1, 1024, 1, 4, 128]⟩ .f32) (a : ℕ) (ha : a < 16) (hf : ℕ) (hhf : hf < 2)
    (w : FVec Ideal (M2 128 128) .f32) (i h d : ℕ) (hi : i < 1024) (hh : h < 4) (hd : d < 128) :
    at5 (putOut oo a ha hf hhf w) 0 i 0 h d
      = if 64 * a + 32 * hf ≤ i ∧ i < 64 * a + 32 * hf + 32 then at2 w (4 * i + h - (256 * a + 128 * hf)) d else at5 oo 0 i 0 h d := by
  unfold putOut
  rw [unrows_eq _ _ _ _ hi hh hd, upd_f32, upd2 _ _ _ _ _ _ _ _ _ (by omega) hd]
  by_cases hc : 64 * a + 32 * hf ≤ i ∧ i < 64 * a + 32 * hf + 32
  · rw [if_pos hc, if_pos (by omega)]
    rfl
  · rw [if_neg hc, if_neg (by omega), rows_eq _ _ _ (by omega) hd]
    congr 1 <;> omega

/-! ## The statistics -/

/-- Reading a tile by numbers and by its index is the same. -/
theorem at2_tile (x : Tile Ideal) (i j : ℕ) (hi : i < 8) (hj : j < 128) : at2 x i j = x (ix2 ⟨i, hi⟩ ⟨j, hj⟩) := dif_pos ⟨hi, hj⟩

/-- The tile of statistics put together from four rows: the rows of the step's group hold the new values of 128 tokens, the other rows what was there. -/
theorem stateTile_eq (g cc : ℕ) (r : ℕ → Tile Ideal) (old : Tile Ideal) (f : ℕ → ℕ → EReal)
    (hr : ∀ k, k < 4 → Holds (r k) f (128 * cc + 32 * k)) (s : Fin 8) (l : Fin 128) :
    stateTile g r old (ix2 s l) = if s.val / 4 = g % 2 then f (s.val % 4) (128 * cc + l.val) else old (ix2 s l) := by
  have hs := s.2
  have hl := l.2
  have e : ∀ k, k < 4 → k = l.val / 32 → dynamicGather (s := M2 8 128) 1 (r k) (wrapIx colOf 128#32) (ix2 s l) = f (s.val % 4) (128 * cc + l.val) := by
    intro k hk hkl
    rw [gather1, hr k hk]
    rw [wrapIx_eq _ _ s l (4 * (l.val % 32) + s.val % 4) (by omega) (colOf_eq s l)]
    simp only [BitVec.toNat_ofNat]
    congr 1 <;> omega
  unfold stateTile
  simp only
  generalize hG : (fun k => dynamicGather (s := M2 8 128) 1 (r k) (wrapIx colOf 128#32)) = G
  have hG' : ∀ k, dynamicGather (s := M2 8 128) 1 (r k) (wrapIx colOf 128#32) = G k := fun k => by rw [← hG]
  simp only [hG'] at e ⊢
  pointwise
  rw [rowSel_eq, chunkOf_eq]
  by_cases h : s.val / 4 = g % 2
  · rw [if_pos h, decide_eq_true h]
    have h4 : l.val / 32 < 4 := by omega
    rw [← e _ h4 rfl]
    generalize l.val / 32 = k at h4
    interval_cases k <;> rfl
  · rw [if_neg h, decide_eq_false h]
    rfl

/-- The statistics with 128 tokens of a group's stored. -/
theorem putStateVal_eq (X : Vec Ideal (M3 1 32 1024) .f32) (g : ℕ) (hg : g < 8) (cc : ℕ) (hc : cc < 8) (r : ℕ → Tile Ideal) (f : ℕ → ℕ → EReal)
    (hr : ∀ k, k < 4 → Holds (r k) f (128 * cc + 32 * k)) (rr i : ℕ) (hrr : rr < 32) (hi : i < 1024) :
    at3 (putStateVal X g hg cc hc r) 0 rr i
      = if (4 * g ≤ rr ∧ rr < 4 * g + 4) ∧ (128 * cc ≤ i ∧ i < 128 * cc + 128) then f (rr - 4 * g) i else at3 X 0 rr i := by
  unfold putStateVal
  rw [upd_f32, upd3 _ _ _ _ _ _ _ _ _ _ _ _ (by omega) hrr hi]
  by_cases h : (8 * (g / 2) ≤ rr ∧ rr < 8 * (g / 2) + 8) ∧ (128 * cc ≤ i ∧ i < 128 * cc + 128)
  · rw [if_pos (by omega)]
    rw [at3_cast _ _ _ _ (by omega) (by omega)]
    have e := stateTile_eq g cc r (shapeCast (M2 8 128) (blk X ![0, 8 * (g / 2), 128 * cc] ![1, 8, 128] (inb3 (by omega) (by omega) (by omega)))
      (by decide)) f hr ⟨rr - 8 * (g / 2), by omega⟩ ⟨i - 128 * cc, by omega⟩
    refine (at2_tile (stateTile g r _) _ _ (by omega) (by omega)).trans (e.trans ?_)
    by_cases h' : 4 * g ≤ rr ∧ rr < 4 * g + 4
    · rw [if_pos (by simp only; omega), if_pos (by omega)]
      congr 1 <;> (simp only; omega)
    · rw [if_neg (by simp only; omega), if_neg (by omega), cast32, blk_f32, blk3]
      congr 1 <;> (simp only; omega)
  · rw [if_neg (by omega), if_neg (by omega)]

/-- One more chunk of 128 tokens of the statistics. -/
theorem stat_step (X X0 : Vec Ideal (M3 1 32 1024) .f32) (g : ℕ) (hg : g < 8) (cc : ℕ) (hc : cc < 8) (r : ℕ → Tile Ideal) (f : ℕ → ℕ → EReal)
    (hr : ∀ k, k < 4 → Holds (r k) f (128 * cc + 32 * k))
    (hX : ∀ r i, r < 32 → i < 1024 → at3 X 0 r i = if (4 * g ≤ r ∧ r < 4 * g + 4) ∧ i < 128 * cc then f (r - 4 * g) i else at3 X0 0 r i)
    (rr i : ℕ) (hrr : rr < 32) (hi : i < 1024) :
    at3 (putStateVal X g hg cc hc r) 0 rr i = if (4 * g ≤ rr ∧ rr < 4 * g + 4) ∧ i < 128 * (cc + 1) then f (rr - 4 * g) i else at3 X0 0 rr i := by
  rw [putStateVal_eq X g hg cc hc r f hr rr i hrr hi, hX rr i hrr hi]
  by_cases h : (4 * g ≤ rr ∧ rr < 4 * g + 4) ∧ (128 * cc ≤ i ∧ i < 128 * cc + 128)
  · rw [if_pos h, if_pos (by omega)]
  · rw [if_neg h]
    by_cases h' : (4 * g ≤ rr ∧ rr < 4 * g + 4) ∧ i < 128 * cc
    · rw [if_pos h', if_pos (by omega)]
    · rw [if_neg h', if_neg (by omega)]

/-! ## A block and a pair of blocks, run -/

variable {D : Data} {g : ℕ} {σ : St Ideal}
variable {nD : ℕ} {τ : Topo} {sig : RefSig} {Λ : Labels}
variable {defs : Defs nD τ sig (Elt Ideal) Λ} {𝒱 : Variants} {bd : Option 𝒱.V} {E : Set ℕ} {R : Refs sig} {c : Dev nD}

/-- The product of a block's weights with the values, at a token's head. -/
theorem pv_eq (hr : Reads D g σ) (hg : g < 8) (a : ℕ) (ha : a < 16) (p : Vec Ideal (M3 2 1024 256) .fp8e4m3) (hf : ℕ) (hhf : hf < 2)
    (hw : WeightsIn D a hf p (64 * (a + 1))) (r d : Fin 128) :
    at2 (pvMat σ.vt p g hg a ha) d.val (128 * hf + r.val)
      = ∑ j ∈ Finset.range 1024, D.prob (64 * a + 32 * hf + r.val / 4) (r.val % 4) j * ((256 : ℝ) : EReal) * D.v j d.val := by
  have := pvMat_eq σ.vt p g hg a ha d ⟨128 * hf + r.val, by omega⟩
  rw [at2_eq (pvMat σ.vt p g hg a ha)] at this
  rw [this, ← D.sum_prob (64 * (a + 1)) _ _ (by omega) (by omega) (fun j x => x * ((256 : ℝ) : EReal) * D.v j d.val) (fun j => by simp)]
  refine Finset.sum_congr rfl fun j hj => ?_
  have hj' := Finset.mem_range.mp hj
  rw [hw j r.val hj' r.2, hr.v _ _ (by omega) d.2, mul_comm]

/-- The outgoing rows of half a block. -/
theorem row_eq (hr : Reads D g σ) (hg : g < 8) (a : ℕ) (ha : a < 16) (p : Vec Ideal (M3 2 1024 256) .fp8e4m3) (hf : ℕ) (hhf : hf < 2)
    (hw : WeightsIn D a hf p (64 * (a + 1))) (alpha : Tile Ideal) (hal : Holds alpha D.alpha (64 * a + 32 * hf))
    (i h d : ℕ) (h1 : 64 * a + 32 * hf ≤ i) (h2 : i < 64 * a + 32 * hf + 32) (hh : h < 4) (hd : d < 128) :
    at2 (outVal σ.oi a ha hf hhf (D.vs * ((1 / 256 : ℝ) : EReal)) alpha (pvMat σ.vt p g hg a ha)) (4 * i + h - (256 * a + 128 * hf)) d
      = D.out i h d := by
  have := outVal_eq σ.oi a ha hf hhf (D.vs * ((1 / 256 : ℝ) : EReal)) alpha (pvMat σ.vt p g hg a ha)
    ⟨4 * i + h - (256 * a + 128 * hf), by omega⟩ ⟨d, hd⟩
  rw [at2_eq (outVal σ.oi a ha hf hhf (D.vs * ((1 / 256 : ℝ) : EReal)) alpha (pvMat σ.vt p g hg a ha)), pv_eq hr hg a ha p hf hhf hw, hal, hr.o] at this
  rw [this]
  simp only
  rw [show 64 * a + 32 * hf + (4 * i + h - (256 * a + 128 * hf)) / 4 = i by omega, show (4 * i + h - (256 * a + 128 * hf)) % 4 = h by omega]
  unfold Data.out
  rw [mul_assoc D.vs, mul_comm ((1 / 256 : ℝ) : EReal)]

/-- A block: its rows of output are stored, its statistics returned. -/
theorem T.finishVal (hr : Reads D g σ) {hg : g < 8} {a : ℕ} {ha : a < 16} {fac : Tile Ideal} {mx : Tile Ideal × Tile Ideal}
    (hfac : ∀ s l, fac (ix2 s l) = D.fac (l.val % 4)) (hpos : ∀ h, h < 4 → 0 ≤ D.fac h)
    (h0 : MaxOf D a 0 mx.1) (h1 : MaxOf D a 1 mx.2) (hs : ScoresIn D a σ.s) :
    T defs 𝒱 bd E R c (RingStep.finish R g hg a ha L2E fac (D.vs * ((1 / 256 : ℝ) : EReal)) mx) (fun x σ' =>
      ∃ p' oo', σ' = { σ with p := p', oo := oo' }
      ∧ (∀ i h d, i < 1024 → h < 4 → d < 128 → at5 oo' 0 i 0 h d = if 64 * a ≤ i ∧ i < 64 * a + 64 then D.out i h d else at5 σ.oo 0 i 0 h d)
      ∧ Holds x.1.1 D.max (64 * a) ∧ Holds x.1.2 D.max (64 * a + 32) ∧ Holds x.2.1 D.sum (64 * a) ∧ Holds x.2.2 D.sum (64 * a + 32)) σ := by
  refine .bind ((T.halfVal hr hfac hpos h0 hs).mono ?_)
  rintro x σ1 ⟨p1, rfl, hw1, -, hM1, hS1, hA1⟩
  have hr1 : Reads D g { σ with p := p1 } := ⟨hr.1, hr.2, hr.3, hr.4, hr.5, hr.6⟩
  refine .bind ((T.halfVal hr1 hfac hpos h1 hs).mono ?_)
  rintro y σ2 ⟨p2, rfl, hw2, hk2, hM2, hS2, hA2⟩
  have hw1' : WeightsIn D a 0 p2 (64 * (a + 1)) := fun j l hj hl => by
    rw [hk2 j _ (by omega) (by omega) (by omega)]; exact hw1 j l hj hl
  refine .bind (.ld (lens_vt R) (.bind (.ld (lens_p R) (.bind (.outRows (.bind (.outRows (.ret ?_))))))))
  refine ⟨p2, _, rfl, fun i h d hi hh hd => ?_, hM1, hM2, hS1, hS2⟩
  refine (putOut_eq _ a ha 1 (by omega) _ _ _ _ hi hh hd).trans ?_
  by_cases c1 : 64 * a + 32 * 1 ≤ i ∧ i < 64 * a + 32 * 1 + 32
  · rw [if_pos c1, if_pos (by omega)]
    exact row_eq hr hg a ha p2 1 (by omega) hw2 _ hA2 i h d c1.1 c1.2 hh hd
  · rw [if_neg c1]
    refine (putOut_eq _ a ha 0 (by omega) _ _ _ _ hi hh hd).trans ?_
    by_cases c0 : 64 * a + 32 * 0 ≤ i ∧ i < 64 * a + 32 * 0 + 32
    · rw [if_pos c0, if_pos (by omega)]
      exact row_eq hr hg a ha p2 0 (by omega) hw1' _ hA1 i h d c0.1 c0.2 hh hd
    · rw [if_neg c0, if_neg (by omega)]

/-- What the first `cc` pairs of blocks leave: rows of output, the group's rows of statistics, the next block's scores. -/
structure PairInv (D : Data) (g : ℕ) (σ₀ : St Ideal) (cc : ℕ) (mx : Tile Ideal × Tile Ideal) (σ : St Ideal) : Prop where
  frame : ∃ oo mo lo s p, σ = { σ₀ with oo := oo, mo := mo, lo := lo, s := s, p := p }
  oo : ∀ i h d, i < 128 * cc → i < 1024 → h < 4 → d < 128 → at5 σ.oo 0 i 0 h d = D.out i h d
  mo : ∀ r i, r < 32 → i < 1024 → at3 σ.mo 0 r i = if (4 * g ≤ r ∧ r < 4 * g + 4) ∧ i < 128 * cc then D.max (r - 4 * g) i else at3 σ₀.mo 0 r i
  lo : ∀ r i, r < 32 → i < 1024 → at3 σ.lo 0 r i = if (4 * g ≤ r ∧ r < 4 * g + 4) ∧ i < 128 * cc then D.sum (r - 4 * g) i else at3 σ₀.lo 0 r i
  next : cc < 8 → MaxOf D (2 * cc) 0 mx.1 ∧ MaxOf D (2 * cc) 1 mx.2 ∧ ScoresIn D (2 * cc) σ.s

/-- The scores of a block are stored in its slot; the other slot is kept. -/
theorem T.scoresVal (hr : Reads D g σ) {hg : g < 8} {sg : FVec Ideal (M2 256 128) .f32} (hsg : ∀ j, sg j = (1 : EReal)) {a : ℕ} {ha : a < 16} :
    T defs 𝒱 bd E R c (RingStep.scores R g hg sg a ha) (fun mx σ' => ∃ s', σ' = { σ with s := s' }
      ∧ MaxOf D a 0 mx.1 ∧ MaxOf D a 1 mx.2 ∧ ScoresIn D a s'
      ∧ ∀ b, b % 2 ≠ a % 2 → b < 16 → ScoresIn D b σ.s → ScoresIn D b s') σ := by
  refine .scores ?_
  have e := fun j col => hr.scoreMat hg sg hsg a ha j col
  obtain ⟨h0, h1⟩ := scoreMax_eq a ha _ e
  refine ⟨_, rfl, h0, h1, fun j col hj hc => ?_, fun b hb hb' hs j col hj hc => ?_⟩
  · rw [putScores_eq _ _ _ _ _ _ _ (by omega) (by omega) hc, if_pos ⟨rfl, hj⟩]
    have := e ⟨j, hj⟩ ⟨col, hc⟩
    rwa [at2_eq (RingStep.scoreMat σ.q σ.kg g hg sg a ha)] at this
  · rw [putScores_eq _ _ _ _ _ _ _ (by omega) (by omega) hc, if_neg (by tauto)]
    exact hs j col hj hc

set_option maxHeartbeats 1000000 in
/-- A pair of blocks. -/
theorem T.pairVal {σ₀ : St Ideal} (hr : Reads D g σ₀) {hg : g < 8} {sg : FVec Ideal (M2 256 128) .f32} (hsg : ∀ j, sg j = (1 : EReal))
    {fac : Tile Ideal} (hfac : ∀ s l, fac (ix2 s l) = D.fac (l.val % 4)) (hpos : ∀ h, h < 4 → 0 ≤ D.fac h)
    {cc : ℕ} {hc : cc < 8} {mx : Tile Ideal × Tile Ideal} (hI : PairInv D g σ₀ cc mx σ) :
    T defs 𝒱 bd E R c (RingStep.pair R g hg sg L2E fac (D.vs * ((1 / 256 : ℝ) : EReal)) cc hc mx) (PairInv D g σ₀ (cc + 1)) σ := by
  obtain ⟨⟨oo, mo, lo, s, p, rfl⟩, hoo, hmo, hlo, hnext⟩ := hI
  obtain ⟨hn0, hn1, hns⟩ := hnext hc
  have hrd : ∀ oo mo lo s p, Reads D g { σ₀ with oo := oo, mo := mo, lo := lo, s := s, p := p } := fun _ _ _ _ _ =>
    ⟨hr.1, hr.2, hr.3, hr.4, hr.5, hr.6⟩
  refine .bind ((T.scoresVal (hrd _ _ _ _ _) hsg).mono ?_)
  rintro mx1 _ ⟨s1, rfl, ha0, ha1, has, hkeep⟩
  refine .bind ((T.finishVal (hrd _ _ _ _ _) hfac hpos hn0 hn1 (hkeep _ (by omega) (by omega) hns)).mono ?_)
  rintro x _ ⟨p1, oo1, rfl, hoo1, hx⟩
  have hahead : T defs 𝒱 bd E R c (RingStep.ahead R g hg sg cc mx1) (fun mx2 σ' => ∃ s', σ' = { σ₀ with oo := oo1, mo := mo, lo := lo, s := s', p := p1 }
      ∧ ScoresIn D (2 * cc + 1) s'
      ∧ (cc + 1 < 8 → MaxOf D (2 * (cc + 1)) 0 mx2.1 ∧ MaxOf D (2 * (cc + 1)) 1 mx2.2 ∧ ScoresIn D (2 * (cc + 1)) s'))
      { σ₀ with oo := oo1, mo := mo, lo := lo, s := s1, p := p1 } := by
    unfold RingStep.ahead
    split
    · refine (T.scoresVal (hrd _ _ _ _ _) hsg).mono ?_
      rintro mx2 _ ⟨s2, rfl, hb0, hb1, hbs, hk2⟩
      exact ⟨s2, rfl, hk2 _ (by omega) (by omega) has, fun _ => ⟨hb0, hb1, hbs⟩⟩
    · exact .ret ⟨s1, rfl, has, fun h => absurd h (by omega)⟩
  refine .bind (hahead.mono ?_)
  rintro mx2 _ ⟨s2, rfl, hs2, hnext2⟩
  refine .bind ((T.finishVal (hrd _ _ _ _ _) hfac hpos ha0 ha1 hs2).mono ?_)
  rintro y _ ⟨p2, oo2, rfl, hoo2, hy⟩
  refine .bind (.putState (lens_mo R) (.bind (.putState (lens_lo R) (.ret ?_))))
  have hM : ∀ k, k < 4 → Holds (if k = 0 then x.1.1 else if k = 1 then x.1.2 else if k = 2 then y.1.1 else y.1.2) D.max (128 * cc + 32 * k) := by
    intro k hk
    interval_cases k
    · exact (show 64 * (2 * cc) = 128 * cc + 32 * 0 by omega) ▸ hx.1
    · exact (show 64 * (2 * cc) + 32 = 128 * cc + 32 * 1 by omega) ▸ hx.2.1
    · exact (show 64 * (2 * cc + 1) = 128 * cc + 32 * 2 by omega) ▸ hy.1
    · exact (show 64 * (2 * cc + 1) + 32 = 128 * cc + 32 * 3 by omega) ▸ hy.2.1
  have hS : ∀ k, k < 4 → Holds (if k = 0 then x.2.1 else if k = 1 then x.2.2 else if k = 2 then y.2.1 else y.2.2) D.sum (128 * cc + 32 * k) := by
    intro k hk
    interval_cases k
    · exact (show 64 * (2 * cc) = 128 * cc + 32 * 0 by omega) ▸ hx.2.2.1
    · exact (show 64 * (2 * cc) + 32 = 128 * cc + 32 * 1 by omega) ▸ hx.2.2.2
    · exact (show 64 * (2 * cc + 1) = 128 * cc + 32 * 2 by omega) ▸ hy.2.2.1
    · exact (show 64 * (2 * cc + 1) + 32 = 128 * cc + 32 * 3 by omega) ▸ hy.2.2.2
  refine ⟨⟨_, _, _, _, _, rfl⟩, fun i h d hi hi' hh hd => ?_, fun r i hr' hi => ?_, fun r i hr' hi => ?_, hnext2⟩
  · rw [hoo2 i h d hi' hh hd]
    split
    · rfl
    · refine (hoo1 i h d hi' hh hd).trans ?_
      split
      · rfl
      · exact hoo i h d (by omega) hi' hh hd
  · exact stat_step mo σ₀.mo g hg cc hc _ D.max hM hmo r i hr' hi
  · exact stat_step lo σ₀.lo g hg cc hc _ D.sum hS hlo r i hr' hi

end RingStep
end
-- ==== Proof.Layout.lean ====
/- The layout of a batch's keys and values in the scratch, and a whole grid step: what its outputs hold. -/
module

public import proofs.«01_k».proof.Proof.Block

@[expose] public section

noncomputable section

namespace RingStep

open Idealize.ShloMosaic Idealize.SL.Sem

variable {D : Data} {g : ℕ} {σ : St Ideal}
variable {nD : ℕ} {τ : Topo} {sig : RefSig} {Λ : Labels}
variable {defs : Defs nD τ sig (Elt Ideal) Λ} {𝒱 : Variants} {bd : Option 𝒱.V} {E : Set ℕ} {R : Refs sig} {c : Dev nD}

/-! ## Keys and values -/

/-- The first `n` tokens of all groups' keys and values are laid out by group, the values transposed. -/
def Laid (n : ℕ) (K V : ℕ → ℕ → ℕ → EReal) (kg : Vec Ideal (M3 8 1024 128) .fp8e4m3) (vt : Vec Ideal (M3 8 128 1024) .fp8e4m3) : Prop :=
  ∀ g j d, g < 8 → j < n → j < 1024 → d < 128 → at3 kg g j d = K j g d ∧ at3 vt g d j = V j g d

/-- 128 rows of one group, as a matrix. -/
theorem cast42 (x : (⟨4, ![1, 128, 1, 128]⟩ : Shape).Idx → EReal) (h) (i j : Fin 128) :
    shapeCast (M2 128 128) x h (ix2 i j) = x (ix4 0 i 0 j) := by
  pointwise

/-- The first `n` groups' blocks of 128 tokens are read. -/
def Got (X : Vec Ideal ⟨4, ![1, 1024, 8, 128]⟩ .fp8e4m3) (t n : ℕ) (x : ℕ → FVec Ideal (M2 128 128) .fp8e4m3) : Prop :=
  ∀ gg, gg < n → ∀ j d, j < 128 → d < 128 → at2 (x gg) j d = at4 X 0 (128 * t + j) gg d

/-- The loop over the groups loads each group's 128 rows. -/
theorem T.getAll {m : Memref sig .tc .vmem ⟨4, ![1, 1024, 8, 128]⟩ .fp8e4m3} {get : St Ideal → Vec Ideal ⟨4, ![1, 1024, 8, 128]⟩ .fp8e4m3}
    {set} (L : Lens R m get set) {t : ℕ} {ht : t < 8} {x0 : ℕ → FVec Ideal (M2 128 128) .fp8e4m3} :
    T defs 𝒱 bd E R c (RingStep.loop (N := 8) (RingStep.getKV m t ht) 8 0 rfl x0) (fun x σ' => σ' = σ ∧ Got (get σ) t 8 x) σ := by
  refine T.loop (fun n x σ' => σ' = σ ∧ Got (get σ) t n x) ?_ 8 0 rfl x0 σ ⟨rfl, fun gg h => absurd h (by omega)⟩
  rintro i hi x σ' ⟨e, hx⟩
  rw [e]
  refine .getKV L ⟨rfl, fun gg hgg j d hj hd => ?_⟩
  by_cases h : gg = i
  · subst h
    rw [Function.update_self]
    have e := cast42 (blkE (get σ) ![0, 128 * t, gg, 0] ![1, 128, 1, 128] (inb4 (by omega) (by omega) (by omega) (by omega))) (by decide) ⟨j, hj⟩ ⟨d, hd⟩
    rw [blk4] at e
    refine Eq.trans (dif_pos ⟨hj, hd⟩) (e.trans ?_)
    simp
  · rw [Function.update_of_ne h]
    exact hx gg (by omega) j d hj hd

/-- The loop over the groups stores each group's 128 keys and leaves the other keys as they are. -/
theorem T.putAllK {t : ℕ} {ht : t < 8} {x : ℕ → FVec Ideal (M2 128 128) .fp8e4m3} {X : Vec Ideal ⟨4, ![1, 1024, 8, 128]⟩ .fp8e4m3} (hx : Got X t 8 x) :
    T defs 𝒱 bd E R c (RingStep.loop (N := 8) (fun gg h _ => RingStep.putK R t ht x gg h) 8 0 rfl PUnit.unit) (fun _ σ' => ∃ kg', σ' = { σ with kg := kg' }
      ∧ ∀ gg j d, gg < 8 → j < 1024 → d < 128 → at3 kg' gg j d = if 128 * t ≤ j ∧ j < 128 * t + 128 then at4 X 0 j gg d else at3 σ.kg gg j d) σ := by
  refine (T.loop (fun n _ σ' => ∃ kg', σ' = { σ with kg := kg' }
      ∧ ∀ gg j d, gg < 8 → j < 1024 → d < 128 → at3 kg' gg j d
          = if gg < n ∧ 128 * t ≤ j ∧ j < 128 * t + 128 then at4 X 0 j gg d else at3 σ.kg gg j d) ?_ 8 0 rfl PUnit.unit σ
    ⟨_, rfl, fun gg j d _ _ _ => by rw [if_neg (by omega)]⟩).mono ?_
  · rintro i hi _ _ ⟨kg, rfl, hkg⟩
    refine .putK ⟨_, rfl, fun gg j d hg hj hd => ?_⟩
    unfold putKVal
    rw [upd_fp8, upd3 _ _ _ _ _ _ _ _ _ _ _ _ hg hj hd]
    by_cases h : (i ≤ gg ∧ gg < i + 1) ∧ (128 * t ≤ j ∧ j < 128 * t + 128) ∧ 0 ≤ d ∧ d < 0 + 128
    · rw [if_pos h, if_pos (by omega)]
      have e : gg = i := by omega
      subst e
      have e0 := at3_cast (x gg) (by decide) (j - 128 * t) (d - 0) (by omega) (by omega)
      rw [Nat.sub_self]
      refine e0.trans ((hx gg hg _ _ (by omega) (by omega)).trans ?_)
      congr 1; omega
    · rw [if_neg h]
      refine (hkg gg j d hg hj hd).trans ?_
      by_cases h' : gg < i ∧ 128 * t ≤ j ∧ j < 128 * t + 128
      · rw [if_pos h', if_pos (by omega)]
      · rw [if_neg h', if_neg (by omega)]
  · rintro _ _ ⟨kg, rfl, hkg⟩
    refine ⟨kg, rfl, fun gg j d hg hj hd => ?_⟩
    rw [hkg gg j d hg hj hd]
    by_cases h' : 128 * t ≤ j ∧ j < 128 * t + 128
    · rw [if_pos h', if_pos ⟨hg, h'⟩]
    · rw [if_neg h', if_neg (by tauto)]

/-- A tile of values, transposed by way of floats. -/
theorem swapped (y : FVec Ideal (M2 128 128) .fp8e4m3) (i j : ℕ) (hi : i < 128) (hj : j < 128) :
    at3 (shapeCast (M3 1 128 128)
      (truncf .fp8e4m3 (transpose (M2 128 128) [1, 0] (extf .f32 y (by decide)) (by decide)) (by decide)) (by decide) : (M3 1 128 128).Idx → EReal) 0 i j
      = at2 y j i := by
  refine (at3_cast _ _ i j hi hj).trans ?_
  unfold at2
  rw [dif_pos ⟨hi, hj⟩, dif_pos ⟨hj, hi⟩]
  pointwise

/-- The loop over the groups stores each group's 128 values, transposed, and leaves the other values as they are. -/
theorem T.putAllV {t : ℕ} {ht : t < 8} {x : ℕ → FVec Ideal (M2 128 128) .fp8e4m3} {X : Vec Ideal ⟨4, ![1, 1024, 8, 128]⟩ .fp8e4m3} (hx : Got X t 8 x) :
    T defs 𝒱 bd E R c (RingStep.loop (N := 8) (fun gg h _ => RingStep.putV R t ht x gg h) 8 0 rfl PUnit.unit) (fun _ σ' => ∃ vt', σ' = { σ with vt := vt' }
      ∧ ∀ gg j d, gg < 8 → j < 1024 → d < 128 → at3 vt' gg d j = if 128 * t ≤ j ∧ j < 128 * t + 128 then at4 X 0 j gg d else at3 σ.vt gg d j) σ := by
  refine (T.loop (fun n _ σ' => ∃ vt', σ' = { σ with vt := vt' }
      ∧ ∀ gg j d, gg < 8 → j < 1024 → d < 128 → at3 vt' gg d j
          = if gg < n ∧ 128 * t ≤ j ∧ j < 128 * t + 128 then at4 X 0 j gg d else at3 σ.vt gg d j) ?_ 8 0 rfl PUnit.unit σ
    ⟨_, rfl, fun gg j d _ _ _ => by rw [if_neg (by omega)]⟩).mono ?_
  · rintro i hi _ _ ⟨kg, rfl, hkg⟩
    refine .putV ⟨_, rfl, fun gg j d hg hj hd => ?_⟩
    unfold putVVal
    rw [upd_fp8, upd3 _ _ _ _ _ _ _ _ _ _ _ _ hg hd hj]
    by_cases h : (i ≤ gg ∧ gg < i + 1) ∧ (0 ≤ d ∧ d < 0 + 128) ∧ (128 * t ≤ j ∧ j < 128 * t + 128)
    · rw [if_pos h, if_pos (by omega)]
      have e : gg = i := by omega
      subst e
      have e0 := swapped (x gg) (d - 0) (j - 128 * t) (by omega) (by omega)
      rw [Nat.sub_self]
      refine e0.trans ((hx gg hg _ _ (by omega) (by omega)).trans ?_)
      congr 1; omega
    · rw [if_neg h]
      refine (hkg gg j d hg hj hd).trans ?_
      by_cases h' : gg < i ∧ 128 * t ≤ j ∧ j < 128 * t + 128
      · rw [if_pos h', if_pos (by omega)]
      · rw [if_neg h', if_neg (by omega)]
  · rintro _ _ ⟨kg, rfl, hkg⟩
    refine ⟨kg, rfl, fun gg j d hg hj hd => ?_⟩
    rw [hkg gg j d hg hj hd]
    by_cases h' : 128 * t ≤ j ∧ j < 128 * t + 128
    · rw [if_pos h', if_pos ⟨hg, h'⟩]
    · rw [if_neg h', if_neg (by tauto)]

/-- The layout: all tokens'. -/
theorem T.prepVal : T defs 𝒱 bd E R c (RingStep.prep R) (fun _ σ' => ∃ kg vt, σ' = { σ with kg := kg, vt := vt }
    ∧ Laid 1024 (fun j g d => at4 σ.k 0 j g d) (fun j g d => at4 σ.v 0 j g d) kg vt) σ := by
  refine T.loop (fun n _ σ' => ∃ kg vt, σ' = { σ with kg := kg, vt := vt }
    ∧ Laid (128 * n) (fun j g d => at4 σ.k 0 j g d) (fun j g d => at4 σ.v 0 j g d) kg vt) ?_ 8 0 rfl PUnit.unit σ
    ⟨_, _, rfl, fun _ _ _ _ h => absurd h (by omega)⟩
  rintro t ht _ _ ⟨kg, vt, rfl, hl⟩
  refine .bind ((T.getAll (lens_k R)).mono ?_)
  rintro x _ ⟨rfl, hx⟩
  refine .bind ((T.putAllK hx).mono ?_)
  rintro _ _ ⟨kg1, rfl, h1⟩
  refine .bind ((T.getAll (lens_v R)).mono ?_)
  rintro y _ ⟨rfl, hy⟩
  refine (T.putAllV hy).mono ?_
  rintro _ _ ⟨vt1, rfl, h2⟩
  refine ⟨kg1, vt1, rfl, fun g j d hg hj hj' hd => ⟨?_, ?_⟩⟩
  · rw [h1 g j d hg hj' hd]
    split
    · rfl
    · exact (hl g j d hg (by omega) hj' hd).1
  · rw [h2 g j d hg hj' hd]
    split
    · rfl
    · exact (hl g j d hg (by omega) hj' hd).2

/-! ## The step -/

/-- Zeroing a pair of groups' statistics leaves those of the groups before. -/
theorem zeroVal_eq (X : Vec Ideal (M3 1 32 1024) .f32) (g : ℕ) (hg : g < 8) (h2 : g % 2 = 0) (r i : ℕ) (hr : r < 4 * g) (hi : i < 1024) :
    at3 (zeroVal X g hg) 0 r i = at3 X 0 r i := by
  unfold zeroVal
  rw [upd_f32, upd3 _ _ _ _ _ _ _ _ _ _ _ _ (by omega) (by omega) hi, if_neg (by omega)]

attribute [local irreducible] zeroVal in
/-- The statistics of the groups before are kept. -/
theorem T.zeroVals {hg : g < 8} : T defs 𝒱 bd E R c (RingStep.zeroAt R g hg) (fun _ σ' => ∃ mo lo, σ' = { σ with mo := mo, lo := lo }
    ∧ ∀ r i, r < 4 * g → i < 1024 → at3 mo 0 r i = at3 σ.mo 0 r i ∧ at3 lo 0 r i = at3 σ.lo 0 r i) σ := by
  unfold RingStep.zeroAt
  split
  · rename_i h2
    refine .bind (.zeroState (lens_mo R) ?_)
    refine .zeroState (lens_lo R) ?_
    have h1 := zeroVal_eq σ.mo g hg h2
    have h3 := zeroVal_eq σ.lo g hg h2
    exact ⟨_, _, rfl, fun r i hr hi => ⟨h1 r i hr hi, h3 r i hr hi⟩⟩
  · exact .ret ⟨_, _, rfl, fun r i hr hi => ⟨rfl, rfl⟩⟩

/-- The layout before the step's blocks: made at the first group, found at the others. -/
theorem T.prepVals {K V : ℕ → ℕ → ℕ → EReal}
    (hk : ∀ g j d, g < 8 → j < 1024 → d < 128 → at4 σ.k 0 j g d = K j g d ∧ at4 σ.v 0 j g d = V j g d)
    (hl : g ≠ 0 → Laid 1024 K V σ.kg σ.vt) :
    T defs 𝒱 bd E R c (RingStep.prepAt R g) (fun _ σ' => ∃ kg vt, σ' = { σ with kg := kg, vt := vt } ∧ Laid 1024 K V kg vt) σ := by
  unfold RingStep.prepAt
  split
  · refine T.prepVal.mono ?_
    rintro _ _ ⟨kg, vt, rfl, h⟩
    refine ⟨kg, vt, rfl, fun g j d hg hj hj' hd => ?_⟩
    obtain ⟨h1, h2⟩ := h g j d hg hj hj' hd
    exact ⟨h1.trans (hk g j d hg hj' hd).1, h2.trans (hk g j d hg hj' hd).2⟩
  · rename_i h
    exact .ret ⟨_, _, rfl, hl h⟩

/-- What the inputs of a step say of the group's operands. -/
structure Operands (D : Data) (K V : ℕ → ℕ → ℕ → EReal) (bo g : ℕ) (hbo : bo < 2) (hg : g < 8) (σ : St Ideal) : Prop where
  m : ∀ h i, at3 σ.mi 0 (4 * g + h) i = D.m h i
  l : ∀ h i, at3 σ.li 0 (4 * g + h) i = D.l h i
  q : ∀ i h d, h < 4 → at4 σ.q 0 i (4 * g + h) d = D.q i h d
  o : ∀ i h d, at5 σ.oi 0 i 0 h d = D.o i h d
  kv : ∀ g j d, g < 8 → j < 1024 → d < 128 → at4 σ.k 0 j g d = K j g d ∧ at4 σ.v 0 j g d = V j g d
  k : ∀ j d, D.k j d = K j g d
  v : ∀ j d, D.v j d = V j g d
  fac : ∀ h : Fin 4, factorVal σ.qs σ.ks ⟨bo, hbo⟩ ⟨g, hg⟩ h = D.fac h.val
  pos : ∀ h, h < 4 → 0 ≤ D.fac h
  vs : σ.vs (ix2 ⟨bo, hbo⟩ ⟨g, hg⟩) = D.vs

set_option maxHeartbeats 1000000 in
/-- The grid step: the group's rows of output, new maxima and new sums; the rows of the groups before kept; the layout left. -/
theorem T.bodyVal {K V : ℕ → ℕ → ℕ → EReal} {bo : ℕ} {hbo : bo < 2} {hg : g < 8} (ho : Operands D K V bo g hbo hg σ)
    (hl : g ≠ 0 → Laid 1024 K V σ.kg σ.vt) :
    T defs 𝒱 bd E R c (RingStep.body R L2E bo hbo g hg) (fun _ σ' => Same σ σ'
      ∧ (∀ i h d, i < 1024 → h < 4 → d < 128 → at5 σ'.oo 0 i 0 h d = D.out i h d)
      ∧ (∀ r i, r < 4 * (g + 1) → i < 1024 → at3 σ'.mo 0 r i = if 4 * g ≤ r then D.max (r - 4 * g) i else at3 σ.mo 0 r i)
      ∧ (∀ r i, r < 4 * (g + 1) → i < 1024 → at3 σ'.lo 0 r i = if 4 * g ≤ r then D.sum (r - 4 * g) i else at3 σ.lo 0 r i)
      ∧ Laid 1024 K V σ'.kg σ'.vt) σ := by
  refine .bind ((T.prepVals ho.kv hl).mono ?_)
  rintro _ _ ⟨kg, vt, rfl, hlaid⟩
  refine .bind (.factor (.bind (.factor (.bind (.factor (.bind (.factor (.bind (.word (lens_vs R) ?_)))))))))
  refine .bind (T.zeroVals.mono ?_)
  rintro _ _ ⟨mo, lo, rfl, hz⟩
  simp only
  set f : ℕ → EReal := fun i => if i = 0 then factorVal σ.qs σ.ks ⟨bo, hbo⟩ ⟨g, hg⟩ ⟨0, by omega⟩
    else if i = 1 then factorVal σ.qs σ.ks ⟨bo, hbo⟩ ⟨g, hg⟩ ⟨1, by omega⟩
    else if i = 2 then factorVal σ.qs σ.ks ⟨bo, hbo⟩ ⟨g, hg⟩ ⟨2, by omega⟩ else factorVal σ.qs σ.ks ⟨bo, hbo⟩ ⟨g, hg⟩ ⟨3, by omega⟩ with hf
  have hfm : ∀ i, f i = D.fac (min i 3) := by
    intro i
    match i with
    | 0 => exact ho.fac 0
    | 1 => exact ho.fac 1
    | 2 => exact ho.fac 2
    | n + 3 =>
      rw [show min (n + 3) 3 = 3 by omega, hf]
      simp only
      rw [if_neg (by omega), if_neg (by omega), if_neg (by omega)]
      exact ho.fac 3
  have hf0 : ∀ i, 0 ≤ f i := fun i => by rw [hfm]; exact ho.pos _ (by omega)
  have hsg : ∀ j, perRow (F := Ideal) (fun i => signOf (F := Ideal) (f i)) j = (1 : EReal) := perRow_eq _ 1 fun i => signOf_eq _ (hf0 i)
  have hfac : ∀ s l, absf (F := Ideal) (perLane (F := Ideal) f) (ix2 s l) = D.fac (l.val % 4) := fun s l => by
    have e := perLane_eq f s l
    rw [absf_eq _ _ (by rw [e]; exact hf0 _), e, hfm]
    congr 1
    omega
  have hvs : Scalar.mulf (F := Ideal) (φ := .f32) (σ.vs fun a => ⟨(![bo, g] : Fin 2 → ℕ) a, by fin_cases a; exacts [hbo, hg]⟩) (Scalar.ofBits .f32 0x3B800000#32)
      = D.vs * ((1 / 256 : ℝ) : EReal) := by
    rw [← ho.vs, ← ofBits_inv256]
    show (_ * _ : EReal) = _ * _
    congr 2
    funext a; fin_cases a <;> rfl
  have hr : Reads D g { σ with kg := kg, vt := vt, mo := mo, lo := lo } :=
    { m := fun h i _ => ho.m h i, l := fun h i _ => ho.l h i, q := ho.q, o := ho.o
      k := fun j d hj hd => ((hlaid g j d hg hj hj hd).1).trans (ho.k j d).symm
      v := fun j d hj hd => ((hlaid g j d hg hj hj hd).2).trans (ho.v j d).symm }
  have hr' : ∀ s, Reads D g { σ with kg := kg, vt := vt, mo := mo, lo := lo, s := s } := fun _ => ⟨hr.1, hr.2, hr.3, hr.4, hr.5, hr.6⟩
  refine .bind ((T.scoresVal (D := D) hr hsg).mono ?_)
  rintro mx _ ⟨s, rfl, hm0, hm1, hs, -⟩
  refine .bind ((T.loop (PairInv D g { σ with kg := kg, vt := vt, mo := mo, lo := lo, s := s }) ?_ 8 0 rfl mx _ ?_).mono ?_)
  · intro cc hc mx σ' hI
    rw [hvs]
    exact T.pairVal (hr' s) hsg hfac ho.pos hI
  · exact ⟨⟨_, _, _, _, _, rfl⟩, fun i _ _ h => absurd h (by omega), fun r i _ _ => by rw [if_neg (by omega)],
      fun r i _ _ => by rw [if_neg (by omega)], fun _ => ⟨hm0, hm1, hs⟩⟩
  · rintro mx' _ ⟨⟨oo, mo', lo', s', p', rfl⟩, hoo, hmo, hlo, -⟩
    refine .ret ⟨⟨rfl, rfl, rfl, rfl, rfl, rfl, rfl, rfl, rfl⟩, fun i h d hi hh hd => hoo i h d (by omega) hi hh hd, fun r i hr hi => ?_, fun r i hr hi => ?_, hlaid⟩
    · refine (hmo r i (by omega) hi).trans ?_
      by_cases h : 4 * g ≤ r
      · rw [if_pos h, if_pos (by omega)]
      · rw [if_neg h, if_neg (by omega)]
        exact (hz r i (by omega) hi).1
    · refine (hlo r i (by omega) hi).trans ?_
      by_cases h : 4 * g ≤ r
      · rw [if_pos h, if_pos (by omega)]
      · rw [if_neg h, if_neg (by omega)]
        exact (hz r i (by omega) hi).2

end RingStep
end
-- ==== Proof.Steps.lean ====
/- What every grid step leaves, over the extended reals: its group's rows of output, and the maxima and sums of its batch's groups so far. -/
module

public import proofs.«01_k».proof.Proof.Blocks
public import proofs.«01_k».proof.Proof.Layout

@[expose] public section

noncomputable section

namespace Cert.KernelIdeal.Hand

open Idealize.ShloMosaic Idealize.ShloMosaic.TcCoe Cert.KernelIdeal Cert.KernelIdeal.Gen
open RingStep (Arrays Data at2 at3 at4 at5 M2 M3 St T Laid Operands L2E factorVal)

variable (m : (ℓ : Loc nD τ sig) → Buf (Elt Ideal) ℓ)

/-- The named constant is the inverse of the natural logarithm of two. -/
theorem logE_eq : logE (F := Ideal) = L2E := IdealRules.named_const.ideal_named_scalar _ _ _ _ rfl

/-- No product of a query head's scale and its key head's is negative. -/
def Nonneg (A : Arrays) : Prop := ∀ (b : Fin 2) (g : Fin 8) (h : Fin 4), 0 ≤ A.qs (ix2 b ⟨4 * g.val + h.val, by omega⟩) * A.ks (ix2 b g)

/-- The factor that a step computes is the group's. -/
theorem factor_eq (A : Arrays) (b : Fin 2) (g : Fin 8) (h : Fin 4) : factorVal A.qs A.ks b g h = (A.group b.val g.val).fac h.val := by
  show _ = at2 A.qs b.val (4 * g.val + h.val) * at2 A.ks b.val g.val * Ideal.ofBits .f32 0x3DB504F3#32
  unfold at2
  rw [dif_pos ⟨b.2, by omega⟩, dif_pos ⟨b.2, g.2⟩]
  rfl

/-- Under the precondition no factor is negative. -/
theorem factor_nonneg {A : Arrays} (hA : Nonneg A) (b : Fin 2) (g : Fin 8) (h : Fin 4) : 0 ≤ (A.group b.val g.val).fac h.val := by
  rw [← factor_eq]
  exact mul_nonneg (hA b g h) RingStep.ofBits_scale

variable {m}

/-- The operands of the step at point `t`. -/
theorem operands (c : Dev nD) (hA : Nonneg (args m c)) (t : Fin cfg0.N) (hg : t.val % 8 < 8) {σ : St Ideal} (hi : Inputs m c t σ) :
    Operands ((args m c).group (t.val / 8) (t.val % 8)) (fun j g d => at4 (args m c).k (t.val / 8) j g d)
      (fun j g d => at4 (args m c).v (t.val / 8) j g d) (t.val / 8) (t.val % 8) (batch_lt t) hg σ where
  m h i := by rw [hi.mi]; exact m_block m c t _ _
  l h i := by rw [hi.li]; exact l_block m c t _ _
  q i h d _ := by rw [hi.q]; exact q_block m c t _ _ _
  o i h d := by rw [hi.oi]; exact o_block m c t _ _ _
  kv g j d _ _ _ := ⟨by rw [hi.k]; exact k_block m c t _ _ _, by rw [hi.v]; exact v_block m c t _ _ _⟩
  k _ _ := rfl
  v _ _ := rfl
  fac h := by rw [hi.qs, hi.ks, qs_block, ks_block]; exact factor_eq (args m c) ⟨t.val / 8, batch_lt t⟩ ⟨t.val % 8, hg⟩ h
  pos h hh := factor_nonneg hA ⟨t.val / 8, batch_lt t⟩ ⟨t.val % 8, hg⟩ ⟨h, hh⟩
  vs := by rw [hi.vs, vs_block]; exact RingStep.at2_eq (args m c).vs ⟨t.val / 8, batch_lt t⟩ ⟨t.val % 8, hg⟩

/-- A batch's statistics after a group, from those after the groups before. -/
theorem carried {t : Fin cfg0.N} {X Y : Vec Ideal (M3 1 32 1024) .f32} (f : ℕ → ℕ → ℕ → ℕ → EReal)
    (hX : ∀ r i, r < 4 * (t.val % 8 + 1) → i < 1024 → at3 X 0 r i = if 4 * (t.val % 8) ≤ r then f (t.val / 8) (t.val % 8) (r - 4 * (t.val % 8)) i else at3 Y 0 r i)
    (hY : ∀ t' : Fin cfg0.N, t'.val + 1 = t.val → t.val % 8 ≠ 0 → ∀ r i, r < 4 * (t'.val % 8 + 1) → i < 1024 → at3 Y 0 r i = f (t'.val / 8) (r / 4) (r % 4) i)
    (r i : ℕ) (hr : r < 4 * (t.val % 8 + 1)) (hi : i < 1024) : at3 X 0 r i = f (t.val / 8) (r / 4) (r % 4) i := by
  rw [hX r i hr hi]
  split
  · rw [show r - 4 * (t.val % 8) = r % 4 by omega, show r / 4 = t.val % 8 by omega]
  · have ht := t.2
    rw [hY ⟨t.val - 1, by omega⟩ (by simp only; omega) (by omega) r i (by simp only; omega) hi]
    rw [show (t.val - 1) / 8 = t.val / 8 by omega]

set_option maxHeartbeats 1000000 in
/-- What is claimed of the steps. -/
def valued (hA : ∀ c : Dev nD, Nonneg (args m c)) (c : Dev nD) : Step m c where
  RO t X := ∀ i h d, i < 1024 → h < 4 → d < 128 → at5 X 0 i 0 h d = ((args m c).group (t.val / 8) (t.val % 8)).out i h d
  RM t X := ∀ r i, r < 4 * (t.val % 8 + 1) → i < 1024 → at3 X 0 r i = ((args m c).group (t.val / 8) (r / 4)).max (r % 4) i
  RL t X := ∀ r i, r < 4 * (t.val % 8 + 1) → i < 1024 → at3 X 0 r i = ((args m c).group (t.val / 8) (r / 4)).sum (r % 4) i
  SC t kg vt := t.val % 8 ≠ 0 → Laid 1024 (fun j g d => at4 (args m c).k (t.val / 8) j g d) (fun j g d => at4 (args m c).v (t.val / 8) j g d) kg vt
  init _ _ h := absurd rfl h
  step t σ hi hsc hprev := by
    rw [logE_eq]
    refine (RingStep.T.bodyVal (operands c (hA c) t (by omega) hi) hsc).mono ?_
    rintro _ σ' ⟨hs, hO, hM, hL, hlaid⟩
    refine ⟨hs, hO, ?_, ?_, ?_⟩
    · exact carried (fun b g h i => ((args m c).group b g).max h i) hM fun t' h1 h2 => (hprev t' h1 h2).1
    · exact carried (fun b g h i => ((args m c).group b g).sum h i) hL fun t' h1 h2 => (hprev t' h1 h2).2
    · intro h
      have e : t.succ.val / 8 = t.val / 8 := by
        have e1 : t.succ.val = t.val + 1 := rfl
        rw [e1] at h ⊢; omega
      rw [e]
      exact hlaid

end Cert.KernelIdeal.Hand
end
-- ==== Proof.Final.lean ====
/- The kernel's run, over the extended reals: its three results are the output, the maxima and the sums of its arguments. -/
module

public import proofs.«01_k».proof.Proof.Steps
public import Idealize.ShloMosaic.Lib.Pipeline.ValueKit.Geometry

@[expose] public section

noncomputable section

namespace Cert.KernelIdeal.Hand

open Idealize.ShloMosaic Idealize.ShloMosaic.TcCoe Idealize.SL.Sem Cert.KernelIdeal Cert.KernelIdeal.Gen
open Idealize.ShloMosaic.Pipeline (Dat RDat)
open RingStep (Arrays at2 at3 at4 at5 M2 M3)

variable {m : (ℓ : Loc nD τ sig) → Buf (Elt Ideal) ℓ}

/-- The output's block is that of the grid point's batch and group. -/
theorem idx9 : ∀ t : Fin cfg0.N, win0_9.index t (0 : Fin 5) = t.val / 8 ∧ win0_9.index t (1 : Fin 5) = 0 ∧ win0_9.index t (2 : Fin 5) = t.val % 8
    ∧ win0_9.index t (3 : Fin 5) = 0 ∧ win0_9.index t (4 : Fin 5) = 0 :=
  (by decide +kernel : ∀ t : Fin grid0.N, _)

/-- A step's rows of output are its block of the output. -/
theorem out_block (c : Dev nD) (t : Fin cfg0.N) (X : Vec Ideal S1x1024x1x4x128 .f32)
    (hX : ∀ i h d, i < 1024 → h < 4 → d < 128 → at5 X 0 i 0 h d = ((args m c).group (t.val / 8) (t.val % 8)).out i h d)
    (y : S1x1024x1x4x128.Idx) : X y = (args m c).out (((cfg0.win 9).blk t).view.emb y) := by
  obtain ⟨e0, e1, e2, e3, e4⟩ := idx9 t
  have h0 : (y 0).val < 1 := (y 0).isLt
  have h2 : (y 2).val < 1 := (y 2).isLt
  have ey : y = ix5 0 (y 1) 0 (y 3) (y 4) := by
    funext a; apply Fin.ext
    match a with
    | ⟨0, _⟩ => show (y 0).val = 0; omega
    | ⟨1, _⟩ => rfl
    | ⟨2, _⟩ => show (y 2).val = 0; omega
    | ⟨3, _⟩ => rfl
    | ⟨4, _⟩ => rfl
  have ez : ((cfg0.win 9).blk t).view.emb y = ix5 (⟨t.val / 8, batch_lt t⟩ : Fin 2) (y 1) (⟨t.val % 8, by omega⟩ : Fin 8) (y 3) (y 4) := by
    funext a; apply Fin.ext
    match a with
    | ⟨0, _⟩ => show win0_9.index t (0 : Fin 5) * 1 + 1 * (y 0).val = t.val / 8; omega
    | ⟨1, _⟩ => show win0_9.index t (1 : Fin 5) * 1024 + 1 * (y 1).val = (y 1).val; omega
    | ⟨2, _⟩ => show win0_9.index t (2 : Fin 5) * 1 + 1 * (y 2).val = t.val % 8; omega
    | ⟨3, _⟩ => show win0_9.index t (3 : Fin 5) * 4 + 1 * (y 3).val = (y 3).val; omega
    | ⟨4, _⟩ => show win0_9.index t (4 : Fin 5) * 128 + 1 * (y 4).val = (y 4).val; omega
  rw [ez]
  refine Eq.trans ?_ (hX (y 1).val (y 3).val (y 4).val (y 1).isLt (y 3).isLt (y 4).isLt)
  unfold at5
  rw [dif_pos ⟨Nat.one_pos, (y 1).isLt, Nat.one_pos, (y 3).isLt, (y 4).isLt⟩]
  exact congrArg X ey

/-- Thirty-two rows of statistics. -/
theorem stat_block (t : Fin cfg0.N) (h7 : t.val % 8 = 7) (f : ℕ → ℕ → ℕ → ℕ → EReal) (X : Vec Ideal S1x32x1024 .f32)
    (hX : ∀ r i, r < 4 * (t.val % 8 + 1) → i < 1024 → at3 X 0 r i = f (t.val / 8) (r / 4) (r % 4) i) (y : S1x32x1024.Idx) :
    X y = f (t.val / 8) ((y 1).val / 4) ((y 1).val % 4) (y 2).val := by
  have h0 : (y 0).val < 1 := (y 0).isLt
  have h1 : (y 1).val < 32 := (y 1).isLt
  have ey : y = ix3 0 (y 1) (y 2) := by
    funext a; apply Fin.ext
    match a with
    | ⟨0, _⟩ => show (y 0).val = 0; omega
    | ⟨1, _⟩ => rfl
    | ⟨2, _⟩ => rfl
  refine Eq.trans ?_ (hX (y 1).val (y 2).val (by omega) (y 2).isLt)
  unfold at3
  rw [dif_pos ⟨Nat.one_pos, (y 1).isLt, (y 2).isLt⟩]
  exact congrArg X ey

/-- The maxima's block is that of the grid point's batch. -/
theorem idx10 : ∀ t : Fin cfg0.N, win0_10.index t (0 : Fin 3) = t.val / 8 ∧ win0_10.index t (1 : Fin 3) = 0 ∧ win0_10.index t (2 : Fin 3) = 0 :=
  (by decide +kernel : ∀ t : Fin grid0.N, _)

/-- Where an element of a step's block of maxima lies in the array. -/
theorem emb10 (t : Fin cfg0.N) (y : S1x32x1024.Idx) :
    ((cfg0.win 10).blk t).view.emb y = ix3 (⟨t.val / 8, batch_lt t⟩ : Fin 2) (y 1) (y 2) := by
  obtain ⟨e0, e1, e2⟩ := idx10 t
  have h0 : (y 0).val < 1 := (y 0).isLt
  funext a; apply Fin.ext
  match a with
  | ⟨0, _⟩ => show win0_10.index t (0 : Fin 3) * 1 + 1 * (y 0).val = t.val / 8; omega
  | ⟨1, _⟩ => show win0_10.index t (1 : Fin 3) * 32 + 1 * (y 1).val = (y 1).val; omega
  | ⟨2, _⟩ => show win0_10.index t (2 : Fin 3) * 1024 + 1 * (y 2).val = (y 2).val; omega

/-- The sums' block is that of the grid point's batch. -/
theorem idx11 : ∀ t : Fin cfg0.N, win0_11.index t (0 : Fin 3) = t.val / 8 ∧ win0_11.index t (1 : Fin 3) = 0 ∧ win0_11.index t (2 : Fin 3) = 0 :=
  (by decide +kernel : ∀ t : Fin grid0.N, _)

/-- Where an element of a step's block of sums lies in the array. -/
theorem emb11 (t : Fin cfg0.N) (y : S1x32x1024.Idx) :
    ((cfg0.win 11).blk t).view.emb y = ix3 (⟨t.val / 8, batch_lt t⟩ : Fin 2) (y 1) (y 2) := by
  obtain ⟨e0, e1, e2⟩ := idx11 t
  have h0 : (y 0).val < 1 := (y 0).isLt
  funext a; apply Fin.ext
  match a with
  | ⟨0, _⟩ => show win0_11.index t (0 : Fin 3) * 1 + 1 * (y 0).val = t.val / 8; omega
  | ⟨1, _⟩ => show win0_11.index t (1 : Fin 3) * 32 + 1 * (y 1).val = (y 1).val; omega
  | ⟨2, _⟩ => show win0_11.index t (2 : Fin 3) * 1024 + 1 * (y 2).val = (y 2).val; omega

section
variable (hA : ∀ c : Dev nD, Nonneg (args m c)) {r : PUnit × MemSt nD τ sig (Elt Ideal)}
  (h : Pipeline.RDat.FramePost (cfgs 0) (fun c => (dats (valued hA) 0 c).toRRel marked (outputs (valued hA) c)) (V m) r) (c : Dev nD)

include h

/-- The first result is the output of the arguments. -/
theorem out_final : r.2.mem ((c.tc : Thread nD τ).loc main_v1_0) = (args m c).out := by
  obtain ⟨after, hL, hF⟩ := h.exists_exact c
  refine (hF 9).trans (Dat.arrAt_eq_of_covers (cfg := cfg0) (((dats (valued hA) 0 c).toRRel marked (outputs (valued hA) c)).withAfter after) 9 (args m c).out (by decide +kernel) fun t hf y => ?_)
  exact out_block c t (after 9 t) ((dats (valued hA) 0 c).toRRel_leaves (w := 9) rfl (hL 9 t hf)) y

/-- The second result is the maxima of the arguments. -/
theorem max_final : r.2.mem ((c.tc : Thread nD τ).loc main_v1_1) = (args m c).max := by
  obtain ⟨after, hL, hF⟩ := h.exists_exact c
  refine (hF 10).trans (Dat.arrAt_eq_of_covers (cfg := cfg0) (((dats (valued hA) 0 c).toRRel marked (outputs (valued hA) c)).withAfter after) 10 (args m c).max (by decide +kernel) fun t hf y => ?_)
  refine (stat_block t ((flush0_10 t).1 hf) (fun b g h i => ((args m c).group b g).max h i) (after 10 t)
    ((dats (valued hA) 0 c).toRRel_leaves (w := 10) rfl (hL 10 t hf)) y).trans ?_
  exact (congrArg (args m c).max (emb10 t y)).symm

/-- The third result is the sums of the arguments. -/
theorem sum_final : r.2.mem ((c.tc : Thread nD τ).loc main_v1_2) = (args m c).sum := by
  obtain ⟨after, hL, hF⟩ := h.exists_exact c
  refine (hF 11).trans (Dat.arrAt_eq_of_covers (cfg := cfg0) (((dats (valued hA) 0 c).toRRel marked (outputs (valued hA) c)).withAfter after) 11 (args m c).sum (by decide +kernel) fun t hf y => ?_)
  refine (stat_block t ((flush0_11 t).1 hf) (fun b g h i => ((args m c).group b g).sum h i) (after 11 t)
    ((dats (valued hA) 0 c).toRRel_leaves (w := 11) rfl (hL 11 t hf)) y).trans ?_
  exact (congrArg (args m c).sum (emb11 t y)).symm

end

variable (m) (ρ : Dev nD → PrngReg)

/-- The kernel ends with the three results of its arguments. -/
theorem results (hA : ∀ c : Dev nD, Nonneg (args m c)) :
    θ_run defs (onTc (τ := τ) (main (F := Ideal))) ⟨m, fun _ => 0, ρ⟩ fun r => ∀ c : Dev nD,
    r.2.mem ((c.tc : Thread nD τ).loc main_v1_0) = (args m c).out
      ∧ r.2.mem ((c.tc : Thread nD τ).loc main_v1_1) = (args m c).max
      ∧ r.2.mem ((c.tc : Thread nD τ).loc main_v1_2) = (args m c).sum
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨out_final hA h.1 c, max_final hA h.1 c, sum_final hA h.1 c, unchanged (valued hA) h.1 c⟩)
    (run_main ρ (valued hA))

end Cert.KernelIdeal.Hand
end
-- ==== Proof.RefVal.lean ====
/- The reference's three results, at any index. -/
module

public import proofs.«01_k».proof.Proof.Group
public import proofs.«01_k».proof.Proof.Gen.ReferenceIdeal.Value

@[expose] public section

noncomputable section

namespace Cert.ReferenceIdeal.Hand

open Idealize.ShloMosaic Cert.ReferenceIdeal Cert.ReferenceIdeal.Gen
open RingStep (Arrays at2 at3 at4 at5 M2 M3)

/-- An element of the product of queries and keys. -/
theorem matmul_scores (x : FVec Ideal S16x4096x128 .fp8e4m3) (y : FVec Ideal S16x1024x128 .fp8e4m3) (b : Fin 16) (r : Fin 4096) (j : Fin 1024) :
    matmul dot_S16x4096x128_S16x1024x128_S16x4096x1024_2_2_1_1_0_0 none x y (constant S16x4096x1024 .f32 0x00000000#32) (ix3 b r j)
      = ∑ d : Fin 128, (x (ix3 b r d) * y (ix3 b j d) : EReal) := by
  pointwise

/-- The reference's masked scores: a score times its head's factor up to the diagonal, minus infinity past it. -/
theorem scores_eq (A : Arrays) (b : Fin 2) (g : Fin 8) (h : Fin 4) (i j : Fin 1024) :
    k0_pay7 A.q A.k A.qs A.ks (ix5 b g h i j)
      = if j.val ≤ i.val then (A.group b.val g.val).score i.val h.val j.val * (A.group b.val g.val).fac h.val else ⊥ := by
  unfold k0_pay7
  simp only
  pointwise
  have e1 : Scalar.select (IntOp.cmpi CmpIPredicate.sle (BitVec.ofNat 32 j.val) (BitVec.ofNat 32 i.val)) = fun x y : EReal => if j.val ≤ i.val then x else y := by
    funext x y
    have hs : IntOp.cmpi CmpIPredicate.sle (BitVec.ofNat 32 j.val) (BitVec.ofNat 32 i.val) = BitVec.ofBool (decide (j.val ≤ i.val)) := by
      show BitVec.ofBool (BitVec.sle _ _) = _
      congr 1
      rw [BitVec.sle_eq_decide, RingStep.toInt_small _ (by omega), RingStep.toInt_small _ (by omega)]
      simp
    rw [hs]
    by_cases hc : j.val ≤ i.val
    · rw [if_pos hc, decide_eq_true hc]; rfl
    · rw [if_neg hc, decide_eq_false hc]; rfl
  rw [e1, RingStep.ofBits_neginf]
  simp only
  congr 1
  have c : (⟨g.val * 4 + h.val, by omega⟩ : Fin 32) = ⟨4 * g.val + h.val, by omega⟩ := Fin.ext (by simp only; omega)
  simp only [c]
  unfold RingStep.Data.score Arrays.group
  simp only
  rw [at2, dif_pos ⟨b.2, by omega⟩, at2, dif_pos ⟨b.2, g.2⟩]
  congr 1
  refine Finset.sum_congr rfl fun d _ => ?_
  rw [at4, dif_pos ⟨b.2, i.2, by omega, d.2⟩, at4, dif_pos ⟨b.2, j.2, g.2, d.2⟩]

/-- The maximum over the keys, as a fold. -/
theorem fold_eq (s : FVec Ideal S2x8x4x1024x1024 .f32) (b : Fin 2) (g : Fin 8) (h : Fin 4) (i : Fin 1024) :
    multiReduction .maximumf [4] S2x8x4x1024 s 0xFF800000#32 reduces_S2x8x4x1024x1024_S2x8x4x1024 (.inl rfl) rfl (ix4 b g h i)
      = (Finset.univ : Finset (Fin 1024)).fold max (Ideal.ofBits .f32 0xFF800000#32) fun j => s (ix5 b g h i j) := by
  refine (Ideal.multiReduction_maximumf_single (a := 4) s _ _ _ _ _).trans ?_
  refine congrArg (fun f => (Finset.univ : Finset (Fin 1024)).fold max (Ideal.ofBits .f32 0xFF800000#32) f) ?_
  funext j
  refine congrArg s ?_
  funext a
  fin_cases a <;> rfl

/-- The sum over the keys. -/
theorem total_eq (s : FVec Ideal S2x8x4x1024x1024 .f32) (b : Fin 2) (g : Fin 8) (h : Fin 4) (i : Fin 1024) :
    multiReduction .add [4] S2x8x4x1024 s 0x00000000#32 reduces_S2x8x4x1024x1024_S2x8x4x1024 (.inl rfl) rfl (ix4 b g h i)
      = ∑ j : Fin 1024, (s (ix5 b g h i j) : EReal) := by
  refine (Ideal.multiReduction_add_single (a := 4) s _ _ _ _ _).trans ?_
  refine Finset.sum_congr rfl fun j _ => congrArg s ?_
  funext a
  fin_cases a <;> rfl

/-- Statistics with the heads split into groups of four. -/
theorem state_eq (X : Vec Ideal S2x32x1024 .f32) (b : Fin 2) (g : Fin 8) (h : Fin 4) (i : Fin 1024) :
    k0_pay8 X (ix4 b g h i) = at3 X b.val (4 * g.val + h.val) i.val := by
  unfold k0_pay8
  pointwise
  rw [at3, dif_pos ⟨b.2, by omega, i.2⟩]
  have c : (⟨g.val * 4 + h.val, by omega⟩ : Fin 32) = ⟨4 * g.val + h.val, by omega⟩ := Fin.ext (by simp only; omega)
  rw [c]

/-- A fold of maxima from minus infinity is the supremum over the numbers below `n`. -/
theorem fold_range (n : ℕ) (f : ℕ → EReal) :
    (Finset.univ : Finset (Fin n)).fold max ⊥ (fun j => f j.val) = (Finset.range n).sup f := by
  have e : (Finset.univ : Finset (Fin n)).fold max ⊥ (fun j => f j.val) = (Finset.univ : Finset (Fin n)).sup fun j => f j.val := rfl
  rw [e]
  refine le_antisymm (Finset.sup_le fun j _ => ?_) (Finset.sup_le fun j hj => ?_)
  · exact Finset.le_sup (f := f) (Finset.mem_range.2 j.2)
  · exact Finset.le_sup (f := fun j : Fin n => f j.val) (Finset.mem_univ (⟨j, Finset.mem_range.1 hj⟩ : Fin n))

/-- The maximum of a row's previous maximum and its scores. -/
theorem pay10_eq (s : FVec Ideal S2x8x4x1024x1024 .f32) (t : FVec Ideal S2x8x4x1024 .f32) (b : Fin 2) (g : Fin 8) (h : Fin 4) (i : Fin 1024) :
    maximumf t (multiReduction .maximumf [4] S2x8x4x1024 s 0xFF800000#32 reduces_S2x8x4x1024x1024_S2x8x4x1024 (.inl rfl) rfl) (ix4 b g h i)
      = max (t (ix4 b g h i)) ((Finset.univ : Finset (Fin 1024)).fold max (Ideal.ofBits .f32 0xFF800000#32) fun j => s (ix5 b g h i j)) := by
  rw [← fold_eq]
  generalize multiReduction .maximumf [4] S2x8x4x1024 s 0xFF800000#32 reduces_S2x8x4x1024x1024_S2x8x4x1024 (.inl rfl) rfl = r
  rfl

/-- The reference's maxima are those of the group. -/
theorem max_eq (A : Arrays) (b : Fin 2) (g : Fin 8) (h : Fin 4) (i : Fin 1024) :
    k0_pay10 A.q A.k A.qs A.ks A.m (ix4 b g h i) = (A.group b.val g.val).max h.val i.val := by
  unfold k0_pay10
  refine (pay10_eq _ _ b g h i).trans ?_
  rw [state_eq, RingStep.ofBits_neginf]
  simp only [scores_eq]
  rw [fold_range 1024 fun j => if j ≤ i.val then (A.group b.val g.val).score i.val h.val j * (A.group b.val g.val).fac h.val else ⊥,
    RingStep.sup_masked 1024 i.val i.2]
  rfl

/-- A weight is the exponential of its score less the row's maximum. -/
theorem weight_eq (s : FVec Ideal S2x8x4x1024x1024 .f32) (t : FVec Ideal S2x8x4x1024 .f32) (b : Fin 2) (g : Fin 8) (h : Fin 4) (i j : Fin 1024) :
    k0_pay1 s t (ix5 b g h i j) = Ideal.exp (s (ix5 b g h i j) - t (ix4 b g h i) : EReal) := by
  unfold k0_pay1
  pointwise

/-- The factor on the previous state is the exponential of the old maximum less the new. -/
theorem decay_eq (s t : FVec Ideal S2x8x4x1024 .f32) (b : Fin 2) (g : Fin 8) (h : Fin 4) (i : Fin 1024) :
    k0_pay2 s t (ix4 b g h i) = Ideal.exp (s (ix4 b g h i) - t (ix4 b g h i) : EReal) := rfl

/-- Statistics with the groups of four heads put back into one axis. -/
theorem flat_eq (t : FVec Ideal S2x8x4x1024 .f32) (b : Fin 2) (r : Fin 32) (i : Fin 1024) :
    k0_pay3 t (ix3 b r i) = t (ix4 b ⟨r.val / 4, by omega⟩ ⟨r.val % 4, by omega⟩ i) := by
  unfold k0_pay3
  pointwise

/-- The reference's new sums: the rescaled previous sum and the sum of the weights. -/
theorem totals_eq (s : FVec Ideal S2x8x4x1024x1024 .f32) (m l t : FVec Ideal S2x8x4x1024 .f32) (b : Fin 2) (g : Fin 8) (h : Fin 4) (i : Fin 1024) (r : Fin 32) (hg : g.val = r.val / 4) (hh : h.val = r.val % 4) :
    k0_pay4 s m l t (ix3 b r i)
      = (k0_pay2 m t (ix4 b g h i) * l (ix4 b g h i) + ∑ j : Fin 1024, (k0_pay1 s t (ix5 b g h i j) : EReal) : EReal) := by
  rw [← total_eq]
  have eg : g = ⟨r.val / 4, by omega⟩ := Fin.ext hg
  have eh : h = ⟨r.val % 4, by omega⟩ := Fin.ext hh
  rw [eg, eh]
  unfold k0_pay4
  generalize multiReduction .add [4] S2x8x4x1024 (k0_pay1 s t) 0x00000000#32 reduces_S2x8x4x1024x1024_S2x8x4x1024 (.inl rfl) rfl = u
  generalize k0_pay2 m t = w
  refine (flat_eq (addf (mulf w l) u) b r i).trans ?_
  rfl

/-- An element of the product of weights and values. -/
theorem matmul_out (x : FVec Ideal S16x4096x1024 .fp8e4m3) (y : FVec Ideal S16x1024x128 .fp8e4m3) (b : Fin 16) (r : Fin 4096) (d : Fin 128) :
    matmul dot_S16x4096x1024_S16x1024x128_S16x4096x128_2_1_1_2_0_0 none x y (constant S16x4096x128 .f32 0x00000000#32) (ix3 b r d)
      = ∑ j : Fin 1024, (x (ix3 b r j) * y (ix3 b j d) : EReal) := by
  pointwise

/-- The reference's values, with batch and group in one axis. -/
theorem values_eq (X : Vec Ideal S2x1024x8x128 .fp8e4m3) (b : Fin 2) (g : Fin 8) (c : Fin 16) (hc : c.val = b.val * 8 + g.val) (j : Fin 1024) (d : Fin 128) :
    k0_pay6 X (ix3 c j d) = X (ix4 b j g d) := by
  unfold k0_pay6
  simp only
  pointwise
  congr 1
  congr 1 <;> exact Fin.ext (by simp only; omega)

/-- The reference's new output: the rescaled previous output and the scaled product of weights and values. -/
theorem product_eq (v : FVec Ideal S16x1024x128 .fp8e4m3) (s : FVec Ideal S2x8x4x1024x1024 .f32) (m t : FVec Ideal S2x8x4x1024 .f32)
    (o : Vec Ideal S2x1024x32x128 .f32) (w : Vec Ideal S2x8 .f32) (b : Fin 2) (g : Fin 8) (h : Fin 4) (i : Fin 1024) (d : Fin 128) :
    k0_pay5 v s m t o w (ix5 b i g h d)
      = (k0_pay2 m t (ix4 b g h i) * o (ix4 b i ⟨g.val * 4 + h.val, by omega⟩ d)
        + w (ix2 b g) * ((∑ j : Fin 1024, k0_pay1 s t (ix5 b g h i j) * Ideal.ofBits .f32 0x43800000#32 * v (ix3 ⟨b.val * 8 + g.val, by omega⟩ j d)) * Ideal.ofBits .f32 0x3B800000#32) : EReal) := by
  unfold k0_pay5
  generalize k0_pay1 s t = p
  generalize k0_pay2 m t = a
  simp only
  pointwise

/-- The reference's weights are those of the group. -/
theorem weights_eq (A : Arrays) (b : Fin 2) (g : Fin 8) (h : Fin 4) (i j : Fin 1024) :
    k0_pay1 (k0_pay7 A.q A.k A.qs A.ks) (k0_pay10 A.q A.k A.qs A.ks A.m) (ix5 b g h i j) = (A.group b.val g.val).prob i.val h.val j.val := by
  rw [weight_eq, scores_eq, max_eq]
  unfold RingStep.Data.prob
  split
  · rfl
  · rw [EReal.bot_sub]
    exact Ideal.exp_bot

/-- The reference's factor on the previous state is that of the group. -/
theorem alpha_eq (A : Arrays) (b : Fin 2) (g : Fin 8) (h : Fin 4) (i : Fin 1024) :
    k0_pay2 (k0_pay8 A.m) (k0_pay10 A.q A.k A.qs A.ks A.m) (ix4 b g h i) = (A.group b.val g.val).alpha h.val i.val := by
  rw [decay_eq, state_eq, max_eq]
  rfl

/-- The reference's array of maxima. -/
theorem max_array (A : Arrays) : k0_pay3 (k0_pay10 A.q A.k A.qs A.ks A.m) = A.max := by
  funext x
  idx_vars x
  rw [flat_eq, max_eq]
  rfl

/-- The reference's array of sums. -/
theorem sum_array (A : Arrays) : k0_pay4 (k0_pay7 A.q A.k A.qs A.ks) (k0_pay8 A.m) (k0_pay9 A.l) (k0_pay10 A.q A.k A.qs A.ks A.m) = A.sum := by
  funext x
  obtain ⟨b, r, i, rfl⟩ : ∃ b r i, x = ix3 b r i := ⟨x 0, x 1, x 2, by funext a; fin_cases a <;> rfl⟩
  rw [totals_eq _ _ _ _ b ⟨r.val / 4, by omega⟩ ⟨r.val % 4, by omega⟩ i r rfl rfl, alpha_eq]
  have e9 : k0_pay9 A.l = k0_pay8 A.l := rfl
  rw [e9, state_eq]
  simp only [weights_eq]
  rw [← Finset.sum_range fun j => (A.group b.val (r.val / 4)).prob i.val (r.val % 4) j]
  rfl

/-- The reference's array of output. -/
theorem out_array (A : Arrays) : k0_pay5 (k0_pay6 A.v) (k0_pay7 A.q A.k A.qs A.ks) (k0_pay8 A.m) (k0_pay10 A.q A.k A.qs A.ks A.m) A.o A.vs = A.out := by
  funext x
  obtain ⟨b, i, g, h, d, rfl⟩ : ∃ b i g h d, x = ix5 b i g h d := ⟨x 0, x 1, x 2, x 3, x 4, by funext a; fin_cases a <;> rfl⟩
  rw [product_eq, alpha_eq]
  simp only [weights_eq, RingStep.ofBits_256, RingStep.ofBits_inv256, values_eq A.v b g ⟨b.val * 8 + g.val, by omega⟩ rfl]
  show _ = (A.group b.val g.val).out i.val h.val d.val
  unfold RingStep.Data.out
  rw [Finset.sum_range]
  have eo : (A.group b.val g.val).o i.val h.val d.val = A.o (ix4 b i ⟨g.val * 4 + h.val, by omega⟩ d) := by
    show (if h.val < 4 then at4 A.o b.val i.val (4 * g.val + h.val) d.val else 0) = _
    rw [if_pos h.2, at4, dif_pos ⟨b.2, i.2, by omega, d.2⟩]
    have c : (⟨4 * g.val + h.val, by omega⟩ : Fin 32) = ⟨g.val * 4 + h.val, by omega⟩ := Fin.ext (by simp only; omega)
    rw [c]
  have ev : ∀ j : Fin 1024, (A.group b.val g.val).v j.val d.val = A.v (ix4 b j g d) := by
    intro j
    show at4 A.v b.val j.val g.val d.val = _
    rw [at4, dif_pos ⟨b.2, j.2, g.2, d.2⟩]
  have es : (A.group b.val g.val).vs = A.vs (ix2 b g) := by
    show at2 A.vs b.val g.val = _
    rw [at2, dif_pos ⟨b.2, g.2⟩]
  simp only [eo, ev, es]

end Cert.ReferenceIdeal.Hand
end
-- ==== Proof.RefRun.lean ====
/- The reference's run: its three results are the output, the maxima and the sums of its arguments. -/
module

public import proofs.«01_k».proof.Proof.RefVal

@[expose] public section

noncomputable section

namespace Cert.ReferenceIdeal.Hand

open Idealize.ShloMosaic Idealize.ShloMosaic.TcCoe Idealize.SL.Sem Cert.ReferenceIdeal Cert.ReferenceIdeal.Gen
open RingStep (Arrays)

/-- Four zeros. -/
theorem zeros4 : (![0, 0, 0, 0] : Fin 4 → Nat) = fun _ => 0 := funext fun a => by fin_cases a <;> rfl
/-- Three zeros. -/
theorem zeros3 : (![0, 0, 0] : Fin 3 → Nat) = fun _ => 0 := funext fun a => by fin_cases a <;> rfl
/-- Two zeros. -/
theorem zeros2 : (![0, 0] : Fin 2 → Nat) = fun _ => 0 := funext fun a => by fin_cases a <;> rfl

/-- The reference's scores are of the whole arrays that it loads. -/
theorem scores_loaded (A : Arrays) : k0_pay11 (F := Ideal) A.q A.qs A.k A.ks A.v A.vs A.o A.m A.l = k0_pay7 A.q A.k A.qs A.ks := by
  unfold k0_pay11
  rw [View.ld_unit_zero (S := S2x1024x32x128) zeros4 _ A.q, View.ld_unit_zero (S := S2x1024x8x128) zeros4 _ A.k,
    View.ld_unit_zero (S := S2x32) zeros2 _ A.qs, View.ld_unit_zero (S := S2x8) zeros2 _ A.ks]

/-- The reference's previous maxima are of the whole array that it loads. -/
theorem state_loaded (A : Arrays) : k0_pay12 (F := Ideal) A.q A.qs A.k A.ks A.v A.vs A.o A.m A.l = k0_pay8 A.m := by
  unfold k0_pay12
  rw [View.ld_unit_zero (S := S2x32x1024) zeros3 _ A.m]

/-- The reference's maxima are of the whole arrays that it loads. -/
theorem max_loaded (A : Arrays) :
    k0_pay13 (F := Ideal) A.q A.qs A.k A.ks A.v A.vs A.o A.m A.l = k0_pay10 A.q A.k A.qs A.ks A.m := by
  unfold k0_pay13
  rw [View.ld_unit_zero (S := S2x1024x32x128) zeros4 _ A.q, View.ld_unit_zero (S := S2x1024x8x128) zeros4 _ A.k,
    View.ld_unit_zero (S := S2x32) zeros2 _ A.qs, View.ld_unit_zero (S := S2x8) zeros2 _ A.ks, View.ld_unit_zero (S := S2x32x1024) zeros3 _ A.m]

variable (m : (ℓ : Loc nD τ sig) → Buf (Elt Ideal) ℓ) (ρ : Dev nD → PrngReg)

/-- The arguments as launched. -/
def args (c : Dev nD) : Arrays where
  q := m ((c.tc : Thread nD τ).loc main_arg0)
  qs := m ((c.tc : Thread nD τ).loc main_arg1)
  k := m ((c.tc : Thread nD τ).loc main_arg2)
  ks := m ((c.tc : Thread nD τ).loc main_arg3)
  v := m ((c.tc : Thread nD τ).loc main_arg4)
  vs := m ((c.tc : Thread nD τ).loc main_arg5)
  o := m ((c.tc : Thread nD τ).loc main_arg6)
  m := m ((c.tc : Thread nD τ).loc main_arg7)
  l := m ((c.tc : Thread nD τ).loc main_arg8)

/-- The reference's first result is the output. -/
theorem G9_eq (A : Arrays) : Value.G9 (F := Ideal) A.q A.qs A.k A.ks A.v A.vs A.o A.m A.l = A.out := by
  unfold Value.G9
  rw [scores_loaded, state_loaded, max_loaded, out_array]

/-- The reference's second result is the maxima. -/
theorem G10_eq (A : Arrays) : Value.G10 (F := Ideal) A.q A.qs A.k A.ks A.v A.vs A.o A.m A.l = A.max := by
  unfold Value.G10
  rw [max_loaded, max_array]

/-- The reference's third result is the sums. -/
theorem G11_eq (A : Arrays) : Value.G11 (F := Ideal) A.q A.qs A.k A.ks A.v A.vs A.o A.m A.l = A.sum := by
  unfold Value.G11
  rw [scores_loaded, state_loaded, max_loaded, sum_array]

/-- The reference ends with the three results of its arguments. -/
theorem results : θ_run defs (onTc (τ := τ) (main (F := Ideal))) ⟨m, fun _ => 0, ρ⟩ fun r => ∀ c : Dev nD,
    r.2.mem ((c.tc : Thread nD τ).loc main_v0_0) = (args m c).out
      ∧ r.2.mem ((c.tc : Thread nD τ).loc main_v0_1) = (args m c).max
      ∧ r.2.mem ((c.tc : Thread nD τ).loc main_v0_2) = (args m c).sum
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (G9_eq (args m c)), (h c).2.1.trans (G10_eq (args m c)),
    (h c).2.2.1.trans (G11_eq (args m c)), (h c).2.2.2⟩) (Value.run m ρ)

end Cert.ReferenceIdeal.Hand
end
-- ==== Proof.Pre.lean ====
/- The precondition: that no product of a query head's scale and its key head's is negative. -/
module

public import proofs.«01_k».proof.Pre_nonneg_factors
public import proofs.«01_k».proof.Proof.Group

@[expose] public section

noncomputable section

namespace Cert.Pre_nonneg_factors.Hand

open Idealize.ShloMosaic Cert.Pre_nonneg_factors
open RingStep (Arrays)

/-- The shapes that the predicate's operations take. -/
instance facts : Facts where
  shapeCasts_S2x32_S2x8x4 := by decide
  bcast_S2x8_S2x8x1_0_1 := by decide
  bcast_S2x8x1_S2x8x4_0_1_2 := by decide
  bcast_S_S2x8x4 := by decide

/-- The predicate at an index. -/
theorem fn_apply (A : Arrays) (b : Fin 2) (g : Fin 8) (h : Fin 4) :
    fn (F := Ideal) A.q A.qs A.k A.ks A.v A.vs A.o A.m A.l (ix3 b g h)
      = FloatOps.cmpf (F := Ideal) .oge (A.qs (ix2 b ⟨g.val * 4 + h.val, by omega⟩) * A.ks (ix2 b g) : EReal) (Ideal.ofBits .f32 0x00000000#32) := by
  unfold fn
  pointwise

/-- Where it holds, the products are not negative. -/
theorem nonneg (A : Arrays) (hA : fn (F := Ideal) A.q A.qs A.k A.ks A.v A.vs A.o A.m A.l = fun _ => 1#1) (b : Fin 2) (g : Fin 8) (h : Fin 4) :
    0 ≤ A.qs (ix2 b ⟨4 * g.val + h.val, by omega⟩) * A.ks (ix2 b g) := by
  have e := congrFun hA (ix3 b g h)
  rw [fn_apply, RingStep.ofBits_zero] at e
  have c : (⟨g.val * 4 + h.val, by omega⟩ : Fin 32) = ⟨4 * g.val + h.val, by omega⟩ := Fin.ext (by simp only; omega)
  rw [c] at e
  by_contra hn
  have e' : BitVec.ofBool (decide ((0 : EReal) ≤ A.qs (ix2 b ⟨4 * g.val + h.val, by omega⟩) * A.ks (ix2 b g))) = 1#1 := e
  rw [decide_eq_false hn] at e'
  exact absurd e' (by decide)

end Cert.Pre_nonneg_factors.Hand
end
-- ==== Proof.lean ====
module

public import proofs.«01_k».proof.Defs
public import proofs.«01_k».proof.Proof.Run
public import proofs.«01_k».proof.Proof.RunIdeal
public import proofs.«01_k».proof.Proof.Final
public import proofs.«01_k».proof.Proof.RefRun
public import proofs.«01_k».proof.Proof.Pre
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem

/-- The kernel terminates without fault and leaves its arguments as they were. -/
theorem frame_p : Cert.quiescent_Kernel := fun m ρ _ => Cert.Kernel.Hand.frame m ρ

/-- So does its idealization, over the extended reals. -/
theorem frame_pi : Cert.quiescent_KernelIdeal := fun m ρ _ => Cert.KernelIdeal.Hand.frame m ρ

/-- So does the reference. -/
theorem frame_ri : Cert.quiescent_ReferenceIdeal := fun m ρ _ => Cert.ReferenceIdeal.Gen.frame m ρ

/-- The literal that the idealization names is the `f32` nearest to the inverse of the natural logarithm of two. -/
theorem preserves : Cert.preserves_Kernel_KernelIdeal :=
  IdealRules.named_const.statement Cert.KernelIdeal.κ "log2_e" .f32 0x3FB8AA3B#32 (((Real.log 2)⁻¹ : ℝ) : EReal) rfl

/-- The two runs of equal arguments end with equal results, where no factor is negative. -/
theorem algebraic : Cert.algebraic_KernelIdeal_ReferenceIdeal_pre_nonneg_factors := by
  intro m g m' g' hpre heq
  have hA : ∀ c, Cert.KernelIdeal.Hand.Nonneg (Cert.KernelIdeal.Hand.args m c) := fun c =>
    Cert.Pre_nonneg_factors.Hand.nonneg (Cert.KernelIdeal.Hand.args m c) (hpre c)
  have hargs : ∀ c : Dev Cert.KernelIdeal.nD, Cert.ReferenceIdeal.Hand.args m' c = Cert.KernelIdeal.Hand.args m c := fun c => by
    obtain ⟨h0, h1, h2, h3, h4, h5, h6, h7, h8⟩ := heq c
    unfold Cert.ReferenceIdeal.Hand.args Cert.KernelIdeal.Hand.args
    rw [h0, h1, h2, h3, h4, h5, h6, h7, h8]
  refine ⟨fun c => (Cert.KernelIdeal.Hand.args m c).out, fun c => (Cert.KernelIdeal.Hand.args m c).max,
    fun c => (Cert.KernelIdeal.Hand.args m c).sum, Cert.KernelIdeal.Hand.results m g hA,
    (θ_run _ _ _).mono (fun r h c => ?_) (Cert.ReferenceIdeal.Hand.results m' g')⟩
  obtain ⟨h0, h1, h2, h3⟩ := h c
  exact ⟨h0.trans (congrArg RingStep.Arrays.out (hargs c)), h1.trans (congrArg RingStep.Arrays.max (hargs c)),
    h2.trans (congrArg RingStep.Arrays.sum (hargs c)), h3⟩

/-- The claims of the certificate, put together. -/
theorem claim : Cert.Claim :=
  ⟨Cert.Kernel.Gen.facts, Cert.KernelIdeal.Gen.facts, Cert.ReferenceIdeal.Gen.facts, Cert.Pre_nonneg_factors.Hand.facts,
    frame_p, frame_pi, fun m ρ _ => frame_pi m ρ trivial, frame_ri, fun m ρ _ => frame_ri m ρ trivial, preserves, algebraic⟩

end Cert.Proof

end
